-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)) (v2 : (c : Dev Cert.Kernel9Ideal.nD) → Buf (Elt Ideal) ((c.tc : Thread Cert.Kernel9Ideal.nD Cert.Kernel9Ideal.τ).loc Cert.Kernel9Ideal.main_v12_2)) (v3 : (c : Dev Cert.Kernel9Ideal.nD) → Buf (Elt Ideal) ((c.tc : Thread Cert.Kernel9Ideal.nD Cert.Kernel9Ideal.τ).loc Cert.Kernel9Ideal.main_v12_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_v12_2) = v2 c
          ∧ r.2.mem ((c.tc : Thread Cert.Kernel9Ideal.nD Cert.Kernel9Ideal.τ).loc Cert.Kernel9Ideal.main_v12_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v58) = v1 c
          ∧ r.2.mem ((c.tc : Thread Cert.Reference9Ideal.nD Cert.Reference9Ideal.τ).loc Cert.Reference9Ideal.main_v72) = v2 c
          ∧ r.2.mem ((c.tc : Thread Cert.Reference9Ideal.nD Cert.Reference9Ideal.τ).loc Cert.Reference9Ideal.main_v73) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v46) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v16) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_scores_finite.lean ====
abbrev S4x12x4096x256 : Shape := ⟨4, ![4, 12, 4096, 256]⟩
abbrev S4x12x4096x128 : Shape := ⟨4, ![4, 12, 4096, 128]⟩
abbrev S1x12x1024x256 : Shape := ⟨4, ![1, 12, 1024, 256]⟩
abbrev S1x12x1024x128 : Shape := ⟨4, ![1, 12, 1024, 128]⟩
abbrev S_ : Shape := ⟨0, ![]⟩

class Facts : Prop where
  bcast_S_S4x12x4096x256 : S_.BroadcastsInDim S4x12x4096x256 (![] : Fin 0 → Fin S4x12x4096x256.rank)
  bcast_S_S1x12x1024x256 : S_.BroadcastsInDim S1x12x1024x256 (![] : Fin 0 → Fin S1x12x1024x256.rank)

variable [Facts]

def fn {F : FTy → Type} [FloatOps F] (main_arg0 : FVec F S4x12x4096x256 .bf16) (main_arg1 : FVec F S4x12x4096x256 .bf16) (main_arg2 : FVec F S4x12x4096x128 .bf16) (main_arg3 : FVec F S1x12x1024x256 .bf16) (main_arg4 : FVec F S1x12x1024x128 .bf16) : IVec S4x12x4096x256 1 × IVec S4x12x4096x256 1 × IVec S1x12x1024x256 1 :=
  let main_v0 : FVec F S4x12x4096x256 .bf16 := Host.absf main_arg0
  let main_cst : FVec F S_ .bf16 := constant S_ .bf16 0x7F80#16
  let main_v1 : FVec F S4x12x4096x256 .bf16 := broadcastInDim S4x12x4096x256 ![] bcast_S_S4x12x4096x256 main_cst
  let main_v2 : IVec S4x12x4096x256 1 := cmpf .olt main_v0 main_v1
  let main_v3 : FVec F S4x12x4096x256 .bf16 := Host.absf main_arg1
  let main_cst_0 : FVec F S_ .bf16 := constant S_ .bf16 0x7F80#16
  let main_v4 : FVec F S4x12x4096x256 .bf16 := broadcastInDim S4x12x4096x256 ![] bcast_S_S4x12x4096x256 main_cst_0
  let main_v5 : IVec S4x12x4096x256 1 := cmpf .olt main_v3 main_v4
  let main_v6 : FVec F S1x12x1024x256 .bf16 := Host.absf main_arg3
  let main_cst_1 : FVec F S_ .bf16 := constant S_ .bf16 0x7F80#16
  let main_v7 : FVec F S1x12x1024x256 .bf16 := broadcastInDim S1x12x1024x256 ![] bcast_S_S1x12x1024x256 main_cst_1
  let main_v8 : IVec S1x12x1024x256 1 := cmpf .olt main_v6 main_v7
  (main_v2, main_v5, main_v8)
-- ==== Kernel.lean ====
abbrev S4x12x4096x256 : Shape := ⟨4, ![4, 12, 4096, 256]⟩
abbrev S4x12x4096x128 : Shape := ⟨4, ![4, 12, 4096, 128]⟩
abbrev S1x12x1024x256 : Shape := ⟨4, ![1, 12, 1024, 256]⟩
abbrev S1x12x1024x128 : Shape := ⟨4, ![1, 12, 1024, 128]⟩
abbrev S4x4096x1536 : Shape := ⟨3, ![4, 4096, 1536]⟩
abbrev S1x2x1024x256 : Shape := ⟨4, ![1, 2, 1024, 256]⟩
abbrev S1x2x4096x256 : Shape := ⟨4, ![1, 2, 4096, 256]⟩
abbrev S1x2x256x256 : Shape := ⟨4, ![1, 2, 256, 256]⟩
abbrev S1x2x4096x128 : Shape := ⟨4, ![1, 2, 4096, 128]⟩
abbrev S1x2x256x128 : Shape := ⟨4, ![1, 2, 256, 128]⟩
abbrev S1x1024x256 : Shape := ⟨3, ![1, 1024, 256]⟩
abbrev S2x4096x256 : Shape := ⟨3, ![2, 4096, 256]⟩
abbrev S2x256x256 : Shape := ⟨3, ![2, 256, 256]⟩
abbrev S1x1x4096x128 : Shape := ⟨4, ![1, 1, 4096, 128]⟩
abbrev S4096x128 : Shape := ⟨2, ![4096, 128]⟩
abbrev S1x4096x128 : Shape := ⟨3, ![1, 4096, 128]⟩
abbrev S1x1x256x128 : Shape := ⟨4, ![1, 1, 256, 128]⟩
abbrev S256x128 : Shape := ⟨2, ![256, 128]⟩
abbrev S1x256x128 : Shape := ⟨3, ![1, 256, 128]⟩
abbrev S1x1x1024x256 : Shape := ⟨4, ![1, 1, 1024, 256]⟩
abbrev S1024x256 : Shape := ⟨2, ![1024, 256]⟩
abbrev S1x1x512x256 : Shape := ⟨4, ![1, 1, 512, 256]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩
abbrev S1x512x256 : Shape := ⟨3, ![1, 512, 256]⟩
abbrev S1x1x256x256 : Shape := ⟨4, ![1, 1, 256, 256]⟩
abbrev S256x256 : Shape := ⟨2, ![256, 256]⟩
abbrev S1x256x256 : Shape := ⟨3, ![1, 256, 256]⟩
abbrev S1024x128 : Shape := ⟨2, ![1024, 128]⟩
abbrev S1x1024x128 : Shape := ⟨3, ![1, 1024, 128]⟩

abbrev nBuf : Space → Nat
  | .hbm => 6
  | .vmem => 14
  | .smem => 0
  | _ => 0

abbrev bufTy : (tb : Table) → Fin (tcTables nBuf tb) → BufTy
  | .hbm, ⟨0, _⟩ => ⟨S4x12x4096x256, .bf16⟩
  | .hbm, ⟨1, _⟩ => ⟨S4x12x4096x256, .bf16⟩
  | .hbm, ⟨2, _⟩ => ⟨S4x12x4096x128, .bf16⟩
  | .hbm, ⟨3, _⟩ => ⟨S1x12x1024x256, .bf16⟩
  | .hbm, ⟨4, _⟩ => ⟨S1x12x1024x128, .bf16⟩
  | .hbm, ⟨5, _⟩ => ⟨S4x4096x1536, .bf16⟩
  | .local _ .vmem, ⟨0, _⟩ => ⟨S1x2x1024x256, .bf16⟩
  | .local _ .vmem, ⟨1, _⟩ => ⟨S1x2x1024x256, .bf16⟩
  | .local _ .vmem, ⟨2, _⟩ => ⟨S1x2x4096x256, .bf16⟩
  | .local _ .vmem, ⟨3, _⟩ => ⟨S1x2x4096x256, .bf16⟩
  | .local _ .vmem, ⟨4, _⟩ => ⟨S1x2x256x256, .bf16⟩
  | .local _ .vmem, ⟨5, _⟩ => ⟨S1x2x256x256, .bf16⟩
  | .local _ .vmem, ⟨6, _⟩ => ⟨S1x2x4096x128, .bf16⟩
  | .local _ .vmem, ⟨7, _⟩ => ⟨S1x2x4096x128, .bf16⟩
  | .local _ .vmem, ⟨8, _⟩ => ⟨S1x2x256x128, .bf16⟩
  | .local _ .vmem, ⟨9, _⟩ => ⟨S1x2x256x128, .bf16⟩
  | .local _ .vmem, ⟨10, _⟩ => ⟨S1x1024x256, .bf16⟩
  | .local _ .vmem, ⟨11, _⟩ => ⟨S1x1024x256, .bf16⟩
  | .local _ .vmem, ⟨12, _⟩ => ⟨S2x4096x256, .bf16⟩
  | .local _ .vmem, ⟨13, _⟩ => ⟨S2x256x256, .bf16⟩
  | _, _ => ⟨S4x12x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let v1 : BitVec 32 := Scalar.muli arg0 c1_i32
  let c0_i32_0 : BitVec 32 := 0#32
  let v2 : BitVec 32 := Scalar.addi v1 c0_i32_0
  let c0_i32_1 : BitVec 32 := 0#32
  let c0_i32_2 : BitVec 32 := 0#32
  let c0_i32_3 : BitVec 32 := 0#32
  ![c0_i32_1.toNat, v0.toNat, v2.toNat, c0_i32_2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let v1 : BitVec 32 := Scalar.muli arg0 c1_i32
  let c0_i32_0 : BitVec 32 := 0#32
  let v2 : BitVec 32 := Scalar.addi v1 c0_i32_0
  let c0_i32_1 : BitVec 32 := 0#32
  let c0_i32_2 : BitVec 32 := 0#32
  let c0_i32_3 : BitVec 32 := 0#32
  ![c0_i32_1.toNat, v0.toNat, v2.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x12x4096x256 : Shape := ⟨4, ![4, 12, 4096, 256]⟩
abbrev S4x12x4096x128 : Shape := ⟨4, ![4, 12, 4096, 128]⟩
abbrev S1x12x1024x256 : Shape := ⟨4, ![1, 12, 1024, 256]⟩
abbrev S1x12x1024x128 : Shape := ⟨4, ![1, 12, 1024, 128]⟩
abbrev S12x4x256x256 : Shape := ⟨4, ![12, 4, 256, 256]⟩
abbrev S4x12x256x256 : Shape := ⟨4, ![4, 12, 256, 256]⟩
abbrev S4x12x4352x256 : Shape := ⟨4, ![4, 12, 4352, 256]⟩
abbrev S12x4x256x128 : Shape := ⟨4, ![12, 4, 256, 128]⟩
abbrev S4x12x256x128 : Shape := ⟨4, ![4, 12, 256, 128]⟩
abbrev S4x12x4352x128 : Shape := ⟨4, ![4, 12, 4352, 128]⟩
abbrev S4x12x4096x4352 : Shape := ⟨4, ![4, 12, 4096, 4352]⟩
abbrev S_ : Shape := ⟨0, ![]⟩
abbrev S4x12x4096 : Shape := ⟨3, ![4, 12, 4096]⟩
abbrev S4x12x4096x1 : Shape := ⟨4, ![4, 12, 4096, 1]⟩
abbrev S4x12x128x4096 : Shape := ⟨4, ![4, 12, 128, 4096]⟩
abbrev S4x4096x12x128 : Shape := ⟨4, ![4, 4096, 12, 128]⟩
abbrev S4x4096x1536 : Shape := ⟨3, ![4, 4096, 1536]⟩

abbrev nBuf : Space → Nat
  | .hbm => 39
  | .vmem => 0
  | .smem => 0
  | _ => 0

abbrev bufTy : (tb : Table) → Fin (tcTables nBuf tb) → BufTy
  | .hbm, ⟨0, _⟩ => ⟨S4x12x4096x256, .bf16⟩
  | .hbm, ⟨1, _⟩ => ⟨S4x12x4096x256, .bf16⟩
  | .hbm, ⟨2, _⟩ => ⟨S4x12x4096x128, .bf16⟩
  | .hbm, ⟨3, _⟩ => ⟨S1x12x1024x256, .bf16⟩
  | .hbm, ⟨4, _⟩ => ⟨S1x12x1024x128, .bf16⟩
  | .hbm, ⟨5, _⟩ => ⟨S1x12x1024x256, .f32⟩
  | .hbm, ⟨6, _⟩ => ⟨S12x4x256x256, .f32⟩
  | .hbm, ⟨7, _⟩ => ⟨S4x12x256x256, .f32⟩
  | .hbm, ⟨8, _⟩ => ⟨S4x12x4096x256, .f32⟩
  | .hbm, ⟨9, _⟩ => ⟨S4x12x4352x256, .f32⟩
  | .hbm, ⟨10, _⟩ => ⟨S1x12x1024x128, .f32⟩
  | .hbm, ⟨11, _⟩ => ⟨S12x4x256x128, .f32⟩
  | .hbm, ⟨12, _⟩ => ⟨S4x12x256x128, .f32⟩
  | .hbm, ⟨13, _⟩ => ⟨S4x12x4096x128, .f32⟩
  | .hbm, ⟨14, _⟩ => ⟨S4x12x4352x128, .f32⟩
  | .hbm, ⟨15, _⟩ => ⟨S4x12x4096x256, .f32⟩
  | .hbm, ⟨16, _⟩ => ⟨S4x12x4096x4352, .f32⟩
  | .hbm, ⟨17, _⟩ => ⟨S_, .f32⟩
  | .hbm, ⟨18, _⟩ => ⟨S_, .f32⟩
  | .hbm, ⟨19, _⟩ => ⟨S4x12x4096x4352, .f32⟩
  | .hbm, ⟨20, _⟩ => ⟨S4x12x4096x4352, .f32⟩
  | .hbm, ⟨21, _⟩ => ⟨S_, .f32⟩
  | .hbm, ⟨22, _⟩ => ⟨S4x12x4096, .f32⟩
  | .hbm, ⟨23, _⟩ => ⟨S_, .f32⟩
  | .hbm, ⟨24, _⟩ => ⟨S4x12x4096, .f32⟩
  | .hbm, ⟨25, _⟩ => ⟨S4x12x4096, .f32⟩
  | .hbm, ⟨26, _⟩ => ⟨S4x12x4096x1, .f32⟩
  | .hbm, ⟨27, _⟩ => ⟨S4x12x4096x4352, .f32⟩
  | .hbm, ⟨28, _⟩ => ⟨S4x12x4096x4352, .f32⟩
  | .hbm, ⟨29, _⟩ => ⟨S4x12x4096x4352, .f32⟩
  | .hbm, ⟨30, _⟩ => ⟨S_, .f32⟩
  | .hbm, ⟨31, _⟩ => ⟨S4x12x4096, .f32⟩
  | .hbm, ⟨32, _⟩ => ⟨S4x12x4096x1, .f32⟩
  | .hbm, ⟨33, _⟩ => ⟨S4x12x4096x4352, .f32⟩
  | .hbm, ⟨34, _⟩ => ⟨S4x12x4096x4352, .f32⟩
  | .hbm, ⟨35, _⟩ => ⟨S4x12x128x4096, .f32⟩
  | .hbm, ⟨36, _⟩ => ⟨S4x4096x12x128, .f32⟩
  | .hbm, ⟨37, _⟩ => ⟨S4x4096x1536, .f32⟩
  | .hbm, ⟨38, _⟩ => ⟨S4x4096x1536, .bf16⟩
  | _, _ => ⟨S4x12x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel2.lean ====
abbrev S4x4096x2048 : Shape := ⟨3, ![4, 4096, 2048]⟩
abbrev S2x2048x5632 : Shape := ⟨3, ![2, 2048, 5632]⟩
abbrev S4x4096x5632 : Shape := ⟨3, ![4, 4096, 5632]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x5632, .f32⟩
  | .hbm, ⟨2, _⟩ => ⟨S2x2048x5632, .f32⟩
  | .hbm, ⟨3, _⟩ => ⟨S4x4096x5632, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1024x512, .bf16⟩
  | .local _ .vmem, ⟨7, _⟩ => ⟨S1x1024x512, .bf16⟩
  | .local _ .vmem, ⟨8, _⟩ => ⟨S2048x512, .bf16⟩
  | .local _ .vmem, ⟨9, _⟩ => ⟨S2048x512, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S4x4096x2048 : Shape := ⟨3, ![4, 4096, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4x4096x5632 : Shape := ⟨3, ![4, 4096, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x5632, .f32⟩
  | .hbm, ⟨2, _⟩ => ⟨S2x2048x5632, .f32⟩
  | .hbm, ⟨3, _⟩ => ⟨S4x4096x2048, .f32⟩
  | .hbm, ⟨4, _⟩ => ⟨S1x2048x5632, .f32⟩
  | .hbm, ⟨5, _⟩ => ⟨S2048x5632, .f32⟩
  | .hbm, ⟨6, _⟩ => ⟨S4x4096x5632, .f32⟩
  | .hbm, ⟨7, _⟩ => ⟨S4x4096x5632, .f32⟩
  | .hbm, ⟨8, _⟩ => ⟨S4x4096x5632, .f32⟩
  | .hbm, ⟨9, _⟩ => ⟨S_, .f32⟩
  | .hbm, ⟨10, _⟩ => ⟨S4x4096x5632, .f32⟩
  | .hbm, ⟨11, _⟩ => ⟨S4x4096x5632, .f32⟩
  | .hbm, ⟨12, _⟩ => ⟨S_, .f32⟩
  | .hbm, ⟨13, _⟩ => ⟨S4x4096x5632, .f32⟩
  | .hbm, ⟨14, _⟩ => ⟨S4x4096x5632, .f32⟩
  | .hbm, ⟨15, _⟩ => ⟨S4x4096x5632, .f32⟩
  | .hbm, ⟨16, _⟩ => ⟨S1x2048x5632, .f32⟩
  | .hbm, ⟨17, _⟩ => ⟨S2048x5632, .f32⟩
  | .hbm, ⟨18, _⟩ => ⟨S4x4096x5632, .f32⟩
  | .hbm, ⟨19, _⟩ => ⟨S4x4096x5632, .f32⟩
  | .hbm, ⟨20, _⟩ => ⟨S4x4096x5632, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S4x4096x5632 : Shape := ⟨3, ![4, 4096, 5632]⟩
abbrev S2x5632x2048 : Shape := ⟨3, ![2, 5632, 2048]⟩
abbrev S4x4096x2048 : Shape := ⟨3, ![4, 4096, 2048]⟩
abbrev S4x1x2048 : Shape := ⟨3, ![4, 1, 2048]⟩
abbrev S1x1024x5632 : Shape := ⟨3, ![1, 1024, 5632]⟩
abbrev S1x5632x512 : Shape := ⟨3, ![1, 5632, 512]⟩
abbrev S1x1024x512 : Shape := ⟨3, ![1, 1024, 512]⟩
abbrev S1x1x512 : Shape := ⟨3, ![1, 1, 512]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x5632, .bf16⟩
  | .hbm, ⟨1, _⟩ => ⟨S2x5632x2048, .f32⟩
  | .hbm, ⟨2, _⟩ => ⟨S4x4096x2048, .f32⟩
  | .hbm, ⟨3, _⟩ => ⟨S4x1x2048, .f32⟩
  | .hbm, ⟨4, _⟩ => ⟨S2x5632x2048, .bf16⟩
  | .hbm, ⟨5, _⟩ => ⟨S4x4096x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S4x4096x5632 : Shape := ⟨3, ![4, 4096, 5632]⟩
abbrev S2x5632x2048 : Shape := ⟨3, ![2, 5632, 2048]⟩
abbrev S4x4096x2048 : Shape := ⟨3, ![4, 4096, 2048]⟩
abbrev S4x1x2048 : Shape := ⟨3, ![4, 1, 2048]⟩
abbrev S1x5632x2048 : Shape := ⟨3, ![1, 5632, 2048]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x5632, .bf16⟩
  | .hbm, ⟨1, _⟩ => ⟨S2x5632x2048, .f32⟩
  | .hbm, ⟨2, _⟩ => ⟨S4x4096x2048, .f32⟩
  | .hbm, ⟨3, _⟩ => ⟨S4x1x2048, .f32⟩
  | .hbm, ⟨4, _⟩ => ⟨S4x4096x5632, .f32⟩
  | .hbm, ⟨5, _⟩ => ⟨S1x5632x2048, .f32⟩
  | .hbm, ⟨6, _⟩ => ⟨S5632x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S4x4096x512 : Shape := ⟨3, ![4, 4096, 512]⟩
abbrev S4x4096x1536 : Shape := ⟨3, ![4, 4096, 1536]⟩
abbrev S1x2048x2048 : Shape := ⟨3, ![1, 2048, 2048]⟩
abbrev S4x4096x2048 : Shape := ⟨3, ![4, 4096, 2048]⟩
abbrev S4x1x2048 : Shape := ⟨3, ![4, 1, 2048]⟩
abbrev S1x512x512 : Shape := ⟨3, ![1, 512, 512]⟩
abbrev S1x512x2048 : Shape := ⟨3, ![1, 512, 2048]⟩
abbrev S1x1x2048 : Shape := ⟨3, ![1, 1, 2048]⟩
abbrev S512x512 : Shape := ⟨2, ![512, 512]⟩
abbrev S512x2048 : Shape := ⟨2, ![512, 2048]⟩
abbrev S1x2048 : Shape := ⟨2, ![1, 2048]⟩

abbrev nBuf : Space → Nat
  | .hbm => 7
  | .vmem => 18
  | .smem => 0
  | _ => 0

abbrev bufTy : (tb : Table) → Fin (tcTables nBuf tb) → BufTy
  | .hbm, ⟨0, _⟩ => ⟨S4x4096x512, .bf16⟩
  | .hbm, ⟨1, _⟩ => ⟨S4x4096x1536, .bf16⟩
  | .hbm, ⟨2, _⟩ => ⟨S1x2048x2048, .f32⟩
  | .hbm, ⟨3, _⟩ => ⟨S4x4096x2048, .f32⟩
  | .hbm, ⟨4, _⟩ => ⟨S4x1x2048, .f32⟩
  | .hbm, ⟨5, _⟩ => ⟨S1x2048x2048, .bf16⟩
  | .hbm, ⟨6, _⟩ => ⟨S4x4096x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .f32⟩
  | .local _ .vmem, ⟨13, _⟩ => ⟨S1x512x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x512x2048, .f32⟩
  | .local _ .vmem, ⟨17, _⟩ => ⟨S1x512x2048, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c1_i32 : BitVec 32 := 1#32
  let c0_i32_1 : BitVec 32 := 0#32
  ![c0_i32_0.toNat, c1_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c2_i32 : BitVec 32 := 2#32
  let c0_i32_1 : BitVec 32 := 0#32
  ![c0_i32_0.toNat, c2_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c3_i32 : BitVec 32 := 3#32
  let c0_i32_1 : BitVec 32 := 0#32
  ![c0_i32_0.toNat, c3_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S1x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference4Ideal.lean ====
abbrev S4x4096x512 : Shape := ⟨3, ![4, 4096, 512]⟩
abbrev S4x4096x1536 : Shape := ⟨3, ![4, 4096, 1536]⟩
abbrev S1x2048x2048 : Shape := ⟨3, ![1, 2048, 2048]⟩
abbrev S4x4096x2048 : Shape := ⟨3, ![4, 4096, 2048]⟩
abbrev S4x1x2048 : Shape := ⟨3, ![4, 1, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x1536, .bf16⟩
  | .hbm, ⟨2, _⟩ => ⟨S1x2048x2048, .f32⟩
  | .hbm, ⟨3, _⟩ => ⟨S4x4096x2048, .f32⟩
  | .hbm, ⟨4, _⟩ => ⟨S4x1x2048, .f32⟩
  | .hbm, ⟨5, _⟩ => ⟨S4x4096x512, .f32⟩
  | .hbm, ⟨6, _⟩ => ⟨S4x4096x1536, .f32⟩
  | .hbm, ⟨7, _⟩ => ⟨S4x4096x2048, .f32⟩
  | .hbm, ⟨8, _⟩ => ⟨S2048x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S4x4096x2048 : Shape := ⟨3, ![4, 4096, 2048]⟩
abbrev S1x2048x5120 : Shape := ⟨3, ![1, 2048, 5120]⟩
abbrev S5120 : Shape := ⟨1, ![5120]⟩
abbrev S1x1x5120 : Shape := ⟨3, ![1, 1, 5120]⟩
abbrev S4x4096x512 : Shape := ⟨3, ![4, 4096, 512]⟩
abbrev S1x2048x2048 : Shape := ⟨3, ![1, 2048, 2048]⟩
abbrev S1x2048x512 : Shape := ⟨3, ![1, 2048, 512]⟩
abbrev S2048x2048 : Shape := ⟨2, ![2048, 2048]⟩
abbrev S2048x512 : Shape := ⟨2, ![2048, 512]⟩

abbrev nBuf : Space → Nat
  | .hbm => 8
  | .vmem => 5
  | .smem => 0
  | _ => 0

abbrev bufTy : (tb : Table) → Fin (tcTables nBuf tb) → BufTy
  | .hbm, ⟨0, _⟩ => ⟨S4x4096x2048, .bf16⟩
  | .hbm, ⟨1, _⟩ => ⟨S1x2048x5120, .f32⟩
  | .hbm, ⟨2, _⟩ => ⟨S5120, .f32⟩
  | .hbm, ⟨3, _⟩ => ⟨S1x1x5120, .f32⟩
  | .hbm, ⟨4, _⟩ => ⟨S1x2048x5120, .f32⟩
  | .hbm, ⟨5, _⟩ => ⟨S1x2048x5120, .f32⟩
  | .hbm, ⟨6, _⟩ => ⟨S1x2048x5120, .bf16⟩
  | .hbm, ⟨7, _⟩ => ⟨S4x4096x512, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference5Ideal.lean ====
abbrev S4x4096x2048 : Shape := ⟨3, ![4, 4096, 2048]⟩
abbrev S1x2048x5120 : Shape := ⟨3, ![1, 2048, 5120]⟩
abbrev S2048x5120 : Shape := ⟨2, ![2048, 5120]⟩
abbrev S4x4096x5120 : Shape := ⟨3, ![4, 4096, 5120]⟩
abbrev S4x4096x512 : Shape := ⟨3, ![4, 4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S1x2048x5120, .f32⟩
  | .hbm, ⟨2, _⟩ => ⟨S4x4096x2048, .f32⟩
  | .hbm, ⟨3, _⟩ => ⟨S2048x5120, .f32⟩
  | .hbm, ⟨4, _⟩ => ⟨S4x4096x5120, .f32⟩
  | .hbm, ⟨5, _⟩ => ⟨S4x4096x512, .f32⟩
  | .hbm, ⟨6, _⟩ => ⟨S4x4096x512, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4x4096x2048 : Shape := ⟨3, ![4, 4096, 2048]⟩
abbrev S1x2048x5120 : Shape := ⟨3, ![1, 2048, 5120]⟩
abbrev S5120 : Shape := ⟨1, ![5120]⟩
abbrev S1x1x5120 : Shape := ⟨3, ![1, 1, 5120]⟩
abbrev S4x36x4096x128 : Shape := ⟨4, ![4, 36, 4096, 128]⟩
abbrev S1x2048x2048 : Shape := ⟨3, ![1, 2048, 2048]⟩
abbrev S1x2048x512 : Shape := ⟨3, ![1, 2048, 512]⟩
abbrev S1x4x2048x128 : Shape := ⟨4, ![1, 4, 2048, 128]⟩
abbrev S2048x2048 : Shape := ⟨2, ![2048, 2048]⟩
abbrev S2048x512 : Shape := ⟨2, ![2048, 512]⟩
abbrev S2048x128 : Shape := ⟨2, ![2048, 128]⟩
abbrev S1x1x2048x128 : Shape := ⟨4, ![1, 1, 2048, 128]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x2048, .bf16⟩
  | .hbm, ⟨1, _⟩ => ⟨S1x2048x5120, .f32⟩
  | .hbm, ⟨2, _⟩ => ⟨S5120, .f32⟩
  | .hbm, ⟨3, _⟩ => ⟨S1x1x5120, .f32⟩
  | .hbm, ⟨4, _⟩ => ⟨S1x2048x5120, .f32⟩
  | .hbm, ⟨5, _⟩ => ⟨S1x2048x5120, .f32⟩
  | .hbm, ⟨6, _⟩ => ⟨S1x2048x5120, .bf16⟩
  | .hbm, ⟨7, _⟩ => ⟨S4x36x4096x128, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x4x2048x128, .bf16⟩
  | .local _ .vmem, ⟨5, _⟩ => ⟨S1x4x2048x128, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference6Ideal.lean ====
abbrev S4x4096x2048 : Shape := ⟨3, ![4, 4096, 2048]⟩
abbrev S1x2048x5120 : Shape := ⟨3, ![1, 2048, 5120]⟩
abbrev S2048x5120 : Shape := ⟨2, ![2048, 5120]⟩
abbrev S4x4096x5120 : Shape := ⟨3, ![4, 4096, 5120]⟩
abbrev S4x4096x4608 : Shape := ⟨3, ![4, 4096, 4608]⟩
abbrev S4x4096x1536 : Shape := ⟨3, ![4, 4096, 1536]⟩
abbrev S4x4096x12x128 : Shape := ⟨4, ![4, 4096, 12, 128]⟩
abbrev S4x12x4096x128 : Shape := ⟨4, ![4, 12, 4096, 128]⟩
abbrev S_ : Shape := ⟨0, ![]⟩
abbrev S4x36x4096x128 : Shape := ⟨4, ![4, 36, 4096, 128]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S1x2048x5120, .f32⟩
  | .hbm, ⟨2, _⟩ => ⟨S4x4096x2048, .f32⟩
  | .hbm, ⟨3, _⟩ => ⟨S2048x5120, .f32⟩
  | .hbm, ⟨4, _⟩ => ⟨S4x4096x5120, .f32⟩
  | .hbm, ⟨5, _⟩ => ⟨S4x4096x4608, .f32⟩
  | .hbm, ⟨6, _⟩ => ⟨S4x4096x1536, .f32⟩
  | .hbm, ⟨7, _⟩ => ⟨S4x4096x1536, .f32⟩
  | .hbm, ⟨8, _⟩ => ⟨S4x4096x1536, .f32⟩
  | .hbm, ⟨9, _⟩ => ⟨S4x4096x12x128, .f32⟩
  | .hbm, ⟨10, _⟩ => ⟨S4x12x4096x128, .f32⟩
  | .hbm, ⟨11, _⟩ => ⟨S_, .f32⟩
  | .hbm, ⟨12, _⟩ => ⟨S4x12x4096x128, .f32⟩
  | .hbm, ⟨13, _⟩ => ⟨S4x12x4096x128, .f32⟩
  | .hbm, ⟨14, _⟩ => ⟨S4x4096x12x128, .f32⟩
  | .hbm, ⟨15, _⟩ => ⟨S4x12x4096x128, .f32⟩
  | .hbm, ⟨16, _⟩ => ⟨S4x4096x12x128, .f32⟩
  | .hbm, ⟨17, _⟩ => ⟨S4x12x4096x128, .f32⟩
  | .hbm, ⟨18, _⟩ => ⟨S4x36x4096x128, .f32⟩
  | .hbm, ⟨19, _⟩ => ⟨S4x36x4096x128, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel7.lean ====
abbrev S4x4096x2048 : Shape := ⟨3, ![4, 4096, 2048]⟩
abbrev S2048 : Shape := ⟨1, ![2048]⟩
abbrev S_ : Shape := ⟨0, ![]⟩
abbrev S4x1x2048 : Shape := ⟨3, ![4, 1, 2048]⟩
abbrev S1x2048 : Shape := ⟨2, ![1, 2048]⟩
abbrev S3x1024x2048 : Shape := ⟨3, ![3, 1024, 2048]⟩
abbrev S2x1024x2048 : Shape := ⟨3, ![2, 1024, 2048]⟩
abbrev S3 : Shape := ⟨1, ![3]⟩
abbrev S2 : Shape := ⟨1, ![2]⟩
abbrev S1 : Shape := ⟨1, ![1]⟩
abbrev S1x1024x2048 : Shape := ⟨3, ![1, 1024, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S_, .f32⟩
  | .hbm, ⟨3, _⟩ => ⟨S4x1x2048, .f32⟩
  | .hbm, ⟨4, _⟩ => ⟨S1x2048, .f32⟩
  | .hbm, ⟨5, _⟩ => ⟨S4x4096x2048, .f32⟩
  | .local _ .vmem, ⟨0, _⟩ => ⟨S1x2048, .f32⟩
  | .local _ .vmem, ⟨1, _⟩ => ⟨S4x1x2048, .f32⟩
  | .local _ .vmem, ⟨2, _⟩ => ⟨S4x1x2048, .f32⟩
  | .local _ .vmem, ⟨3, _⟩ => ⟨S3x1024x2048, .f32⟩
  | .local _ .vmem, ⟨4, _⟩ => ⟨S2x1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_16 : BitVec 32 := 0#32
  let c16_i32 : BitVec 32 := 16#32
  let v18 : BitVec 32 := Scalar.addi c0_i32_16 c16_i32
  let c1_i32_17 : BitVec 32 := 1#32
  ⟨c0_i32_16, v18, c1_i32_17⟩
def k0_off1 (k0_t1 : Fin k0_t1_loop.trips) : Fin 1 → Nat :=
  let c0_i32_16 : BitVec 32 := 0#32
  let c1_i32_17 : BitVec 32 := 1#32
  let arg9 : BitVec 32 := Scf.iv c0_i32_16 c1_i32_17 k0_t1
  let c3_i32_31 : BitVec 32 := 3#32
  let c0_i32_32 : BitVec 32 := 0#32
  let v31 : BitVec 1 := Scalar.cmpi .eq c3_i32_31 c0_i32_32
  let c1_i32_33 : BitVec 32 := 1#32
  let v32 : BitVec 32 := Scalar.select v31 c1_i32_33 c3_i32_31
  let v33 : BitVec 32 := Scalar.remsi arg9 v32
  let c0_i32_35 : BitVec 32 := 0#32
  let v35 : BitVec 1 := Scalar.cmpi .slt v33 c0_i32_35
  let c0_i32_36 : BitVec 32 := 0#32
  let v36 : BitVec 1 := Scalar.cmpi .slt v32 c0_i32_36
  let v37 : BitVec 1 := Scalar.xori v35 v36
  let c0_i32_34 : BitVec 32 := 0#32
  let v34 : BitVec 1 := Scalar.cmpi .ne v33 c0_i32_34
  let v38 : BitVec 1 := Scalar.andi v37 v34
  let v39 : BitVec 32 := Scalar.addi v33 v32
  let v40 : BitVec 32 := Scalar.select v38 v39 v33
  ![v40.toNat]
def k0_off2 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c3_i32_31 : BitVec 32 := 3#32
  let c0_i32_32 : BitVec 32 := 0#32
  let v31 : BitVec 1 := Scalar.cmpi .eq c3_i32_31 c0_i32_32
  let c1_i32_33 : BitVec 32 := 1#32
  let v32 : BitVec 32 := Scalar.select v31 c1_i32_33 c3_i32_31
  let v33 : BitVec 32 := Scalar.remsi arg9 v32
  let c0_i32_35 : BitVec 32 := 0#32
  let v35 : BitVec 1 := Scalar.cmpi .slt v33 c0_i32_35
  let c0_i32_36 : BitVec 32 := 0#32
  let v36 : BitVec 1 := Scalar.cmpi .slt v32 c0_i32_36
  let v37 : BitVec 1 := Scalar.xori v35 v36
  let c0_i32_34 : BitVec 32 := 0#32
  let v34 : BitVec 1 := Scalar.cmpi .ne v33 c0_i32_34
  let v38 : BitVec 1 := Scalar.andi v37 v34
  let v39 : BitVec 32 := Scalar.addi v33 v32
  let v40 : BitVec 32 := Scalar.select v38 v39 v33
  let c0_i32_56 : BitVec 32 := 0#32
  let c0_i32_57 : BitVec 32 := 0#32
  ![v40.toNat, 0, 0]
def k0_off3 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c0_i32_43 : BitVec 32 := 0#32
  let v52 : BitVec 1 := Scalar.cmpi .sgt arg9 c0_i32_43
  let v53 : BitVec 32 := Scalar.extui v52
  let c0_i32_44 : BitVec 32 := 0#32
  let v54 : BitVec 1 := Scalar.cmpi .slt arg9 c0_i32_44
  let v55 : BitVec 32 := Scalar.extui v54
  let v56 : BitVec 32 := Scalar.subi v53 v55
  let c4_i32 : BitVec 32 := 4#32
  let c0_i32_45 : BitVec 32 := 0#32
  let v57 : BitVec 1 := Scalar.cmpi .sgt c4_i32 c0_i32_45
  let v58 : BitVec 32 := Scalar.extui v57
  let c0_i32_46 : BitVec 32 := 0#32
  let v59 : BitVec 1 := Scalar.cmpi .slt c4_i32 c0_i32_46
  let v60 : BitVec 32 := Scalar.extui v59
  let v61 : BitVec 32 := Scalar.subi v58 v60
  let v62 : BitVec 1 := Scalar.cmpi .ne v56 v61
  let v63 : BitVec 32 := Scalar.remsi arg9 c4_i32
  let c0_i32_47 : BitVec 32 := 0#32
  let v64 : BitVec 1 := Scalar.cmpi .ne v63 c0_i32_47
  let v65 : BitVec 1 := Scalar.andi v62 v64
  let v51 : BitVec 32 := Scalar.divsi arg9 c4_i32
  let c1_i32_48 : BitVec 32 := 1#32
  let v66 : BitVec 32 := Scalar.subi v51 c1_i32_48
  let v67 : BitVec 32 := Scalar.select v65 v66 v51
  let c4_i32_49 : BitVec 32 := 4#32
  let c0_i32_50 : BitVec 32 := 0#32
  let v68 : BitVec 1 := Scalar.cmpi .eq c4_i32_49 c0_i32_50
  let c1_i32_51 : BitVec 32 := 1#32
  let v69 : BitVec 32 := Scalar.select v68 c1_i32_51 c4_i32_49
  let v70 : BitVec 32 := Scalar.remsi arg9 v69
  let c0_i32_53 : BitVec 32 := 0#32
  let v72 : BitVec 1 := Scalar.cmpi .slt v70 c0_i32_53
  let c0_i32_54 : BitVec 32 := 0#32
  let v73 : BitVec 1 := Scalar.cmpi .slt v69 c0_i32_54
  let v74 : BitVec 1 := Scalar.xori v72 v73
  let c0_i32_52 : BitVec 32 := 0#32
  let v71 : BitVec 1 := Scalar.cmpi .ne v70 c0_i32_52
  let v75 : BitVec 1 := Scalar.andi v74 v71
  let v76 : BitVec 32 := Scalar.addi v70 v69
  let v77 : BitVec 32 := Scalar.select v75 v76 v70
  let c1024_i32_55 : BitVec 32 := 1024#32
  let v78 : BitVec 32 := Scalar.muli v77 c1024_i32_55
  let c0_i32_58 : BitVec 32 := 0#32
  ![v67.toNat, v78.toNat, 0]
def k0_cond1 (k0_t1 : Fin k0_t1_loop.trips) : BitVec 1 :=
  let c0_i32_16 : BitVec 32 := 0#32
  let c1_i32_17 : BitVec 32 := 1#32
  let arg9 : BitVec 32 := Scf.iv c0_i32_16 c1_i32_17 k0_t1
  let c2_i32_59 : BitVec 32 := 2#32
  let v85 : BitVec 1 := Scalar.cmpi .sge arg9 c2_i32_59
  let v86 : BitVec 32 := Scalar.extui v85
  let c0_i32_60 : BitVec 32 := 0#32
  let v87 : BitVec 1 := Scalar.cmpi .ne v86 c0_i32_60
  v87

def k0_off4 (k0_t1 : Fin k0_t1_loop.trips) : Fin 1 → Nat :=
  let c0_i32_16 : BitVec 32 := 0#32
  let c1_i32_17 : BitVec 32 := 1#32
  let arg9 : BitVec 32 := Scf.iv c0_i32_16 c1_i32_17 k0_t1
  let c2_i32_37 : BitVec 32 := 2#32
  let c0_i32_38 : BitVec 32 := 0#32
  let v41 : BitVec 1 := Scalar.cmpi .eq c2_i32_37 c0_i32_38
  let c1_i32_39 : BitVec 32 := 1#32
  let v42 : BitVec 32 := Scalar.select v41 c1_i32_39 c2_i32_37
  let v43 : BitVec 32 := Scalar.remsi arg9 v42
  let c0_i32_41 : BitVec 32 := 0#32
  let v45 : BitVec 1 := Scalar.cmpi .slt v43 c0_i32_41
  let c0_i32_42 : BitVec 32 := 0#32
  let v46 : BitVec 1 := Scalar.cmpi .slt v42 c0_i32_42
  let v47 : BitVec 1 := Scalar.xori v45 v46
  let c0_i32_40 : BitVec 32 := 0#32
  let v44 : BitVec 1 := Scalar.cmpi .ne v43 c0_i32_40
  let v48 : BitVec 1 := Scalar.andi v47 v44
  let v49 : BitVec 32 := Scalar.addi v43 v42
  let v50 : BitVec 32 := Scalar.select v48 v49 v43
  ![v50.toNat]
def k0_off5 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c2_i32_88 : BitVec 32 := 2#32
  let v147 : BitVec 32 := Scalar.subi arg9 c2_i32_88
  let c0_i32_90 : BitVec 32 := 0#32
  let v149 : BitVec 1 := Scalar.cmpi .sgt v147 c0_i32_90
  let v150 : BitVec 32 := Scalar.extui v149
  let c0_i32_91 : BitVec 32 := 0#32
  let v151 : BitVec 1 := Scalar.cmpi .slt v147 c0_i32_91
  let v152 : BitVec 32 := Scalar.extui v151
  let v153 : BitVec 32 := Scalar.subi v150 v152
  let c4_i32_89 : BitVec 32 := 4#32
  let c0_i32_92 : BitVec 32 := 0#32
  let v154 : BitVec 1 := Scalar.cmpi .sgt c4_i32_89 c0_i32_92
  let v155 : BitVec 32 := Scalar.extui v154
  let c0_i32_93 : BitVec 32 := 0#32
  let v156 : BitVec 1 := Scalar.cmpi .slt c4_i32_89 c0_i32_93
  let v157 : BitVec 32 := Scalar.extui v156
  let v158 : BitVec 32 := Scalar.subi v155 v157
  let v159 : BitVec 1 := Scalar.cmpi .ne v153 v158
  let v160 : BitVec 32 := Scalar.remsi v147 c4_i32_89
  let c0_i32_94 : BitVec 32 := 0#32
  let v161 : BitVec 1 := Scalar.cmpi .ne v160 c0_i32_94
  let v162 : BitVec 1 := Scalar.andi v159 v161
  let v148 : BitVec 32 := Scalar.divsi v147 c4_i32_89
  let c1_i32_95 : BitVec 32 := 1#32
  let v163 : BitVec 32 := Scalar.subi v148 c1_i32_95
  let v164 : BitVec 32 := Scalar.select v162 v163 v148
  let c4_i32_96 : BitVec 32 := 4#32
  let c0_i32_97 : BitVec 32 := 0#32
  let v165 : BitVec 1 := Scalar.cmpi .eq c4_i32_96 c0_i32_97
  let c1_i32_98 : BitVec 32 := 1#32
  let v166 : BitVec 32 := Scalar.select v165 c1_i32_98 c4_i32_96
  let v167 : BitVec 32 := Scalar.remsi v147 v166
  let c0_i32_100 : BitVec 32 := 0#32
  let v169 : BitVec 1 := Scalar.cmpi .slt v167 c0_i32_100
  let c0_i32_101 : BitVec 32 := 0#32
  let v170 : BitVec 1 := Scalar.cmpi .slt v166 c0_i32_101
  let v171 : BitVec 1 := Scalar.xori v169 v170
  let c0_i32_99 : BitVec 32 := 0#32
  let v168 : BitVec 1 := Scalar.cmpi .ne v167 c0_i32_99
  let v172 : BitVec 1 := Scalar.andi v171 v168
  let v173 : BitVec 32 := Scalar.addi v167 v166
  let v174 : BitVec 32 := Scalar.select v172 v173 v167
  let c1024_i32_102 : BitVec 32 := 1024#32
  let v175 : BitVec 32 := Scalar.muli v174 c1024_i32_102
  let c0_i32_103 : BitVec 32 := 0#32
  ![v164.toNat, v175.toNat, 0]
def k0_off6 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c2_i32_37 : BitVec 32 := 2#32
  let c0_i32_38 : BitVec 32 := 0#32
  let v41 : BitVec 1 := Scalar.cmpi .eq c2_i32_37 c0_i32_38
  let c1_i32_39 : BitVec 32 := 1#32
  let v42 : BitVec 32 := Scalar.select v41 c1_i32_39 c2_i32_37
  let v43 : BitVec 32 := Scalar.remsi arg9 v42
  let c0_i32_41 : BitVec 32 := 0#32
  let v45 : BitVec 1 := Scalar.cmpi .slt v43 c0_i32_41
  let c0_i32_42 : BitVec 32 := 0#32
  let v46 : BitVec 1 := Scalar.cmpi .slt v42 c0_i32_42
  let v47 : BitVec 1 := Scalar.xori v45 v46
  let c0_i32_40 : BitVec 32 := 0#32
  let v44 : BitVec 1 := Scalar.cmpi .ne v43 c0_i32_40
  let v48 : BitVec 1 := Scalar.andi v47 v44
  let v49 : BitVec 32 := Scalar.addi v43 v42
  let v50 : BitVec 32 := Scalar.select v48 v49 v43
  let c0_i32_104 : BitVec 32 := 0#32
  let c0_i32_105 : BitVec 32 := 0#32
  ![v50.toNat, 0, 0]
def k0_off7 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c3_i32_31 : BitVec 32 := 3#32
  let c0_i32_32 : BitVec 32 := 0#32
  let v31 : BitVec 1 := Scalar.cmpi .eq c3_i32_31 c0_i32_32
  let c1_i32_33 : BitVec 32 := 1#32
  let v32 : BitVec 32 := Scalar.select v31 c1_i32_33 c3_i32_31
  let v33 : BitVec 32 := Scalar.remsi arg9 v32
  let c0_i32_35 : BitVec 32 := 0#32
  let v35 : BitVec 1 := Scalar.cmpi .slt v33 c0_i32_35
  let c0_i32_36 : BitVec 32 := 0#32
  let v36 : BitVec 1 := Scalar.cmpi .slt v32 c0_i32_36
  let v37 : BitVec 1 := Scalar.xori v35 v36
  let c0_i32_34 : BitVec 32 := 0#32
  let v34 : BitVec 1 := Scalar.cmpi .ne v33 c0_i32_34
  let v38 : BitVec 1 := Scalar.andi v37 v34
  let v39 : BitVec 32 := Scalar.addi v33 v32
  let v40 : BitVec 32 := Scalar.select v38 v39 v33
  let v88 : Index := Scalar.indexCast v40
  let c0 : Index := 0#32
  let c0_61 : Index := 0#32
  ![v88.toNat, 0, 0]
def k0_off8 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c2_i32_37 : BitVec 32 := 2#32
  let c0_i32_38 : BitVec 32 := 0#32
  let v41 : BitVec 1 := Scalar.cmpi .eq c2_i32_37 c0_i32_38
  let c1_i32_39 : BitVec 32 := 1#32
  let v42 : BitVec 32 := Scalar.select v41 c1_i32_39 c2_i32_37
  let v43 : BitVec 32 := Scalar.remsi arg9 v42
  let c0_i32_41 : BitVec 32 := 0#32
  let v45 : BitVec 1 := Scalar.cmpi .slt v43 c0_i32_41
  let c0_i32_42 : BitVec 32 := 0#32
  let v46 : BitVec 1 := Scalar.cmpi .slt v42 c0_i32_42
  let v47 : BitVec 1 := Scalar.xori v45 v46
  let c0_i32_40 : BitVec 32 := 0#32
  let v44 : BitVec 1 := Scalar.cmpi .ne v43 c0_i32_40
  let v48 : BitVec 1 := Scalar.andi v47 v44
  let v49 : BitVec 32 := Scalar.addi v43 v42
  let v50 : BitVec 32 := Scalar.select v48 v49 v43
  let v105 : Index := Scalar.indexCast v50
  let c0_66 : Index := 0#32
  let c0_67 : Index := 0#32
  ![v105.toNat, 0, 0]
def k0_off9 (k0_t1 : Fin k0_t1_loop.trips) : Fin 1 → Nat :=
  let c0_i32_16 : BitVec 32 := 0#32
  let c1_i32_17 : BitVec 32 := 1#32
  let arg9 : BitVec 32 := Scf.iv c0_i32_16 c1_i32_17 k0_t1
  let c2_i32_37 : BitVec 32 := 2#32
  let c0_i32_38 : BitVec 32 := 0#32
  let v41 : BitVec 1 := Scalar.cmpi .eq c2_i32_37 c0_i32_38
  let c1_i32_39 : BitVec 32 := 1#32
  let v42 : BitVec 32 := Scalar.select v41 c1_i32_39 c2_i32_37
  let v43 : BitVec 32 := Scalar.remsi arg9 v42
  let c0_i32_41 : BitVec 32 := 0#32
  let v45 : BitVec 1 := Scalar.cmpi .slt v43 c0_i32_41
  let c0_i32_42 : BitVec 32 := 0#32
  let v46 : BitVec 1 := Scalar.cmpi .slt v42 c0_i32_42
  let v47 : BitVec 1 := Scalar.xori v45 v46
  let c0_i32_40 : BitVec 32 := 0#32
  let v44 : BitVec 1 := Scalar.cmpi .ne v43 c0_i32_40
  let v48 : BitVec 1 := Scalar.andi v47 v44
  let v49 : BitVec 32 := Scalar.addi v43 v42
  let v50 : BitVec 32 := Scalar.select v48 v49 v43
  ![v50.toNat]
def k0_off10 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c2_i32_37 : BitVec 32 := 2#32
  let c0_i32_38 : BitVec 32 := 0#32
  let v41 : BitVec 1 := Scalar.cmpi .eq c2_i32_37 c0_i32_38
  let c1_i32_39 : BitVec 32 := 1#32
  let v42 : BitVec 32 := Scalar.select v41 c1_i32_39 c2_i32_37
  let v43 : BitVec 32 := Scalar.remsi arg9 v42
  let c0_i32_41 : BitVec 32 := 0#32
  let v45 : BitVec 1 := Scalar.cmpi .slt v43 c0_i32_41
  let c0_i32_42 : BitVec 32 := 0#32
  let v46 : BitVec 1 := Scalar.cmpi .slt v42 c0_i32_42
  let v47 : BitVec 1 := Scalar.xori v45 v46
  let c0_i32_40 : BitVec 32 := 0#32
  let v44 : BitVec 1 := Scalar.cmpi .ne v43 c0_i32_40
  let v48 : BitVec 1 := Scalar.andi v47 v44
  let v49 : BitVec 32 := Scalar.addi v43 v42
  let v50 : BitVec 32 := Scalar.select v48 v49 v43
  let c0_i32_83 : BitVec 32 := 0#32
  let c0_i32_84 : BitVec 32 := 0#32
  ![v50.toNat, 0, 0]
def k0_cond2 (k0_t1 : Fin k0_t1_loop.trips) : BitVec 1 :=
  let c0_i32_16 : BitVec 32 := 0#32
  let c1_i32_17 : BitVec 32 := 1#32
  let arg9 : BitVec 32 := Scf.iv c0_i32_16 c1_i32_17 k0_t1
  let c3_i32_85 : BitVec 32 := 3#32
  let v143 : BitVec 32 := Scalar.addi arg9 c3_i32_85
  let c16_i32_86 : BitVec 32 := 16#32
  let v144 : BitVec 1 := Scalar.cmpi .slt v143 c16_i32_86
  let v145 : BitVec 32 := Scalar.extui v144
  let c0_i32_87 : BitVec 32 := 0#32
  let v146 : BitVec 1 := Scalar.cmpi .ne v145 c0_i32_87
  v146

def k0_off11 (k0_t1 : Fin k0_t1_loop.trips) : Fin 1 → Nat :=
  let c0_i32_16 : BitVec 32 := 0#32
  let c1_i32_17 : BitVec 32 := 1#32
  let arg9 : BitVec 32 := Scf.iv c0_i32_16 c1_i32_17 k0_t1
  let c3_i32_31 : BitVec 32 := 3#32
  let c0_i32_32 : BitVec 32 := 0#32
  let v31 : BitVec 1 := Scalar.cmpi .eq c3_i32_31 c0_i32_32
  let c1_i32_33 : BitVec 32 := 1#32
  let v32 : BitVec 32 := Scalar.select v31 c1_i32_33 c3_i32_31
  let v33 : BitVec 32 := Scalar.remsi arg9 v32
  let c0_i32_35 : BitVec 32 := 0#32
  let v35 : BitVec 1 := Scalar.cmpi .slt v33 c0_i32_35
  let c0_i32_36 : BitVec 32 := 0#32
  let v36 : BitVec 1 := Scalar.cmpi .slt v32 c0_i32_36
  let v37 : BitVec 1 := Scalar.xori v35 v36
  let c0_i32_34 : BitVec 32 := 0#32
  let v34 : BitVec 1 := Scalar.cmpi .ne v33 c0_i32_34
  let v38 : BitVec 1 := Scalar.andi v37 v34
  let v39 : BitVec 32 := Scalar.addi v33 v32
  let v40 : BitVec 32 := Scalar.select v38 v39 v33
  ![v40.toNat]
def k0_off12 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c3_i32_31 : BitVec 32 := 3#32
  let c0_i32_32 : BitVec 32 := 0#32
  let v31 : BitVec 1 := Scalar.cmpi .eq c3_i32_31 c0_i32_32
  let c1_i32_33 : BitVec 32 := 1#32
  let v32 : BitVec 32 := Scalar.select v31 c1_i32_33 c3_i32_31
  let v33 : BitVec 32 := Scalar.remsi arg9 v32
  let c0_i32_35 : BitVec 32 := 0#32
  let v35 : BitVec 1 := Scalar.cmpi .slt v33 c0_i32_35
  let c0_i32_36 : BitVec 32 := 0#32
  let v36 : BitVec 1 := Scalar.cmpi .slt v32 c0_i32_36
  let v37 : BitVec 1 := Scalar.xori v35 v36
  let c0_i32_34 : BitVec 32 := 0#32
  let v34 : BitVec 1 := Scalar.cmpi .ne v33 c0_i32_34
  let v38 : BitVec 1 := Scalar.andi v37 v34
  let v39 : BitVec 32 := Scalar.addi v33 v32
  let v40 : BitVec 32 := Scalar.select v38 v39 v33
  let c0_i32_103 : BitVec 32 := 0#32
  let c0_i32_104 : BitVec 32 := 0#32
  ![v40.toNat, 0, 0]
def k0_off13 (k0_t1 : Fin k0_t1_loop.trips) : Fin 3 → Nat :=
  let c0_i32_16 : BitVec 32 := 0#32
  let c1_i32_17 : BitVec 32 := 1#32
  let arg9 : BitVec 32 := Scf.iv c0_i32_16 c1_i32_17 k0_t1
  let c3_i32_88 : BitVec 32 := 3#32
  let v147 : BitVec 32 := Scalar.addi arg9 c3_i32_88
  let c0_i32_90 : BitVec 32 := 0#32
  let v149 : BitVec 1 := Scalar.cmpi .sgt v147 c0_i32_90
  let v150 : BitVec 32 := Scalar.extui v149
  let c0_i32_91 : BitVec 32 := 0#32
  let v151 : BitVec 1 := Scalar.cmpi .slt v147 c0_i32_91
  let v152 : BitVec 32 := Scalar.extui v151
  let v153 : BitVec 32 := Scalar.subi v150 v152
  let c4_i32_89 : BitVec 32 := 4#32
  let c0_i32_92 : BitVec 32 := 0#32
  let v154 : BitVec 1 := Scalar.cmpi .sgt c4_i32_89 c0_i32_92
  let v155 : BitVec 32 := Scalar.extui v154
  let c0_i32_93 : BitVec 32 := 0#32
  let v156 : BitVec 1 := Scalar.cmpi .slt c4_i32_89 c0_i32_93
  let v157 : BitVec 32 := Scalar.extui v156
  let v158 : BitVec 32 := Scalar.subi v155 v157
  let v159 : BitVec 1 := Scalar.cmpi .ne v153 v158
  let v160 : BitVec 32 := Scalar.remsi v147 c4_i32_89
  let c0_i32_94 : BitVec 32 := 0#32
  let v161 : BitVec 1 := Scalar.cmpi .ne v160 c0_i32_94
  let v162 : BitVec 1 := Scalar.andi v159 v161
  let v148 : BitVec 32 := Scalar.divsi v147 c4_i32_89
  let c1_i32_95 : BitVec 32 := 1#32
  let v163 : BitVec 32 := Scalar.subi v148 c1_i32_95
  let v164 : BitVec 32 := Scalar.select v162 v163 v148
  let c4_i32_96 : BitVec 32 := 4#32
  let c0_i32_97 : BitVec 32 := 0#32
  let v165 : BitVec 1 := Scalar.cmpi .eq c4_i32_96 c0_i32_97
  let c1_i32_98 : BitVec 32 := 1#32
  let v166 : BitVec 32 := Scalar.select v165 c1_i32_98 c4_i32_96
  let v167 : BitVec 32 := Scalar.remsi v147 v166
  let c0_i32_100 : BitVec 32 := 0#32
  let v169 : BitVec 1 := Scalar.cmpi .slt v167 c0_i32_100
  let c0_i32_101 : BitVec 32 := 0#32
  let v170 : BitVec 1 := Scalar.cmpi .slt v166 c0_i32_101
  let v171 : BitVec 1 := Scalar.xori v169 v170
  let c0_i32_99 : BitVec 32 := 0#32
  let v168 : BitVec 1 := Scalar.cmpi .ne v167 c0_i32_99
  let v172 : BitVec 1 := Scalar.andi v171 v168
  let v173 : BitVec 32 := Scalar.addi v167 v166
  let v174 : BitVec 32 := Scalar.select v172 v173 v167
  let c1024_i32_102 : BitVec 32 := 1024#32
  let v175 : BitVec 32 := Scalar.muli v174 c1024_i32_102
  let c0_i32_105 : BitVec 32 := 0#32
  ![v164.toNat, v175.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference7Ideal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S4x4096x512 : Shape := ⟨3, ![4, 4096, 512]⟩
abbrev S512x3072 : Shape := ⟨2, ![512, 3072]⟩
abbrev S4x4096x128 : Shape := ⟨3, ![4, 4096, 128]⟩
abbrev S1x512x3072 : Shape := ⟨3, ![1, 512, 3072]⟩
abbrev S4x12x4096x256 : Shape := ⟨4, ![4, 12, 4096, 256]⟩
abbrev S4x12x4096x128 : Shape := ⟨4, ![4, 12, 4096, 128]⟩
abbrev S1x1024x512 : Shape := ⟨3, ![1, 1024, 512]⟩
abbrev S1x512x1536 : Shape := ⟨3, ![1, 512, 1536]⟩
abbrev S1x1024x128 : Shape := ⟨3, ![1, 1024, 128]⟩
abbrev S1x6x1024x256 : Shape := ⟨4, ![1, 6, 1024, 256]⟩
abbrev S1x6x1024x128 : Shape := ⟨4, ![1, 6, 1024, 128]⟩
abbrev S1024x512 : Shape := ⟨2, ![1024, 512]⟩
abbrev S512x1536 : Shape := ⟨2, ![512, 1536]⟩
abbrev S1024x1536 : Shape := ⟨2, ![1024, 1536]⟩
abbrev S1024x128 : Shape := ⟨2, ![1024, 128]⟩
abbrev S1x1x1024x128 : Shape := ⟨4, ![1, 1, 1024, 128]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x512, .bf16⟩
  | .hbm, ⟨1, _⟩ => ⟨S512x3072, .f32⟩
  | .hbm, ⟨2, _⟩ => ⟨S4x4096x128, .bf16⟩
  | .hbm, ⟨3, _⟩ => ⟨S512x3072, .bf16⟩
  | .hbm, ⟨4, _⟩ => ⟨S1x512x3072, .bf16⟩
  | .hbm, ⟨5, _⟩ => ⟨S4x12x4096x256, .bf16⟩
  | .hbm, ⟨6, _⟩ => ⟨S4x12x4096x128, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x6x1024x256, .bf16⟩
  | .local _ .vmem, ⟨7, _⟩ => ⟨S1x6x1024x256, .bf16⟩
  | .local _ .vmem, ⟨8, _⟩ => ⟨S1x6x1024x128, .bf16⟩
  | .local _ .vmem, ⟨9, _⟩ => ⟨S1x6x1024x128, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x6x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference8Ideal.lean ====
abbrev S4x4096x512 : Shape := ⟨3, ![4, 4096, 512]⟩
abbrev S512x3072 : Shape := ⟨2, ![512, 3072]⟩
abbrev S4x4096x128 : Shape := ⟨3, ![4, 4096, 128]⟩
abbrev S4x4096x3072 : Shape := ⟨3, ![4, 4096, 3072]⟩
abbrev S4x4096x12x256 : Shape := ⟨4, ![4, 4096, 12, 256]⟩
abbrev S4x4096x12x128 : Shape := ⟨4, ![4, 4096, 12, 128]⟩
abbrev S4x4096x1x128 : Shape := ⟨4, ![4, 4096, 1, 128]⟩
abbrev S4x12x4096x256 : Shape := ⟨4, ![4, 12, 4096, 256]⟩
abbrev S4x12x4096x128 : Shape := ⟨4, ![4, 12, 4096, 128]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S512x3072, .f32⟩
  | .hbm, ⟨2, _⟩ => ⟨S4x4096x128, .bf16⟩
  | .hbm, ⟨3, _⟩ => ⟨S4x4096x512, .f32⟩
  | .hbm, ⟨4, _⟩ => ⟨S4x4096x3072, .f32⟩
  | .hbm, ⟨5, _⟩ => ⟨S4x4096x12x256, .f32⟩
  | .hbm, ⟨6, _⟩ => ⟨S4x4096x12x128, .f32⟩
  | .hbm, ⟨7, _⟩ => ⟨S4x4096x12x128, .f32⟩
  | .hbm, ⟨8, _⟩ => ⟨S4x4096x128, .f32⟩
  | .hbm, ⟨9, _⟩ => ⟨S4x4096x1x128, .f32⟩
  | .hbm, ⟨10, _⟩ => ⟨S4x4096x12x128, .f32⟩
  | .hbm, ⟨11, _⟩ => ⟨S4x4096x12x256, .f32⟩
  | .hbm, ⟨12, _⟩ => ⟨S4x12x4096x256, .f32⟩
  | .hbm, ⟨13, _⟩ => ⟨S4x12x4096x256, .bf16⟩
  | .hbm, ⟨14, _⟩ => ⟨S4x12x4096x128, .f32⟩
  | .hbm, ⟨15, _⟩ => ⟨S4x12x4096x128, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel9.lean ====
abbrev S4x4096x2048 : Shape := ⟨3, ![4, 4096, 2048]⟩
abbrev S2048x1856 : Shape := ⟨2, ![2048, 1856]⟩
abbrev S768 : Shape := ⟨1, ![768]⟩
abbrev S512 : Shape := ⟨1, ![512]⟩
abbrev S4096x16 : Shape := ⟨2, ![4096, 16]⟩
abbrev S2048x64 : Shape := ⟨2, ![2048, 64]⟩
abbrev S2048x2x2x16 : Shape := ⟨4, ![2048, 2, 2, 16]⟩
abbrev S2048x1920 : Shape := ⟨2, ![2048, 1920]⟩
abbrev S4096x128 : Shape := ⟨2, ![4096, 128]⟩
abbrev S1x768 : Shape := ⟨2, ![1, 768]⟩
abbrev S1x512 : Shape := ⟨2, ![1, 512]⟩
abbrev S1x2048x1920 : Shape := ⟨3, ![1, 2048, 1920]⟩
abbrev S4x4096x512 : Shape := ⟨3, ![4, 4096, 512]⟩
abbrev S4x4096x768 : Shape := ⟨3, ![4, 4096, 768]⟩
abbrev S4x4096x128 : Shape := ⟨3, ![4, 4096, 128]⟩
abbrev S1x1024x2048 : Shape := ⟨3, ![1, 1024, 2048]⟩
abbrev S1024x128 : Shape := ⟨2, ![1024, 128]⟩
abbrev S1x1024x512 : Shape := ⟨3, ![1, 1024, 512]⟩
abbrev S1x1024x768 : Shape := ⟨3, ![1, 1024, 768]⟩
abbrev S1x1024x128 : Shape := ⟨3, ![1, 1024, 128]⟩
abbrev S1024x2048 : Shape := ⟨2, ![1024, 2048]⟩
abbrev S1024x1920 : Shape := ⟨2, ![1024, 1920]⟩
abbrev S1024x512 : Shape := ⟨2, ![1024, 512]⟩
abbrev S1024x768 : Shape := ⟨2, ![1024, 768]⟩
abbrev S1024 : Shape := ⟨1, ![1024]⟩
abbrev S1024x1 : Shape := ⟨2, ![1024, 1]⟩

abbrev nBuf : Space → Nat
  | .hbm => 24
  | .vmem => 15
  | .smem => 0
  | _ => 0

abbrev bufTy : (tb : Table) → Fin (tcTables nBuf tb) → BufTy
  | .hbm, ⟨0, _⟩ => ⟨S4x4096x2048, .bf16⟩
  | .hbm, ⟨1, _⟩ => ⟨S2048x1856, .f32⟩
  | .hbm, ⟨2, _⟩ => ⟨S768, .f32⟩
  | .hbm, ⟨3, _⟩ => ⟨S512, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S2048x1856, .bf16⟩
  | .hbm, ⟨9, _⟩ => ⟨S2048x64, .bf16⟩
  | .hbm, ⟨10, _⟩ => ⟨S2048x2x2x16, .bf16⟩
  | .hbm, ⟨11, _⟩ => ⟨S2048x2x2x16, .bf16⟩
  | .hbm, ⟨12, _⟩ => ⟨S2048x64, .bf16⟩
  | .hbm, ⟨13, _⟩ => ⟨S2048x1920, .bf16⟩
  | .hbm, ⟨14, _⟩ => ⟨S4096x16, .f32⟩
  | .hbm, ⟨15, _⟩ => ⟨S4096x16, .f32⟩
  | .hbm, ⟨16, _⟩ => ⟨S4096x128, .f32⟩
  | .hbm, ⟨17, _⟩ => ⟨S1x768, .f32⟩
  | .hbm, ⟨18, _⟩ => ⟨S1x512, .f32⟩
  | .hbm, ⟨19, _⟩ => ⟨S1x2048x1920, .bf16⟩
  | .hbm, ⟨20, _⟩ => ⟨S4x4096x512, .f32⟩
  | .hbm, ⟨21, _⟩ => ⟨S4x4096x768, .bf16⟩
  | .hbm, ⟨22, _⟩ => ⟨S4x4096x512, .bf16⟩
  | .hbm, ⟨23, _⟩ => ⟨S4x4096x128, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1920, .bf16⟩
  | .local _ .vmem, ⟨3, _⟩ => ⟨S1x768, .f32⟩
  | .local _ .vmem, ⟨4, _⟩ => ⟨S1x512, .f32⟩
  | .local _ .vmem, ⟨5, _⟩ => ⟨S1024x128, .f32⟩
  | .local _ .vmem, ⟨6, _⟩ => ⟨S1024x128, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x768, .bf16⟩
  | .local _ .vmem, ⟨10, _⟩ => ⟨S1x1024x768, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x128, .bf16⟩
  | .local _ .vmem, ⟨14, _⟩ => ⟨S1x1024x128, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference9Ideal.lean ====
abbrev S4x4096x2048 : Shape := ⟨3, ![4, 4096, 2048]⟩
abbrev S2048x1856 : Shape := ⟨2, ![2048, 1856]⟩
abbrev S768 : Shape := ⟨1, ![768]⟩
abbrev S512 : Shape := ⟨1, ![512]⟩
abbrev S4096x16 : Shape := ⟨2, ![4096, 16]⟩
abbrev S4x4096x1856 : Shape := ⟨3, ![4, 4096, 1856]⟩
abbrev S4x4096x512 : Shape := ⟨3, ![4, 4096, 512]⟩
abbrev S4x4096x768 : Shape := ⟨3, ![4, 4096, 768]⟩
abbrev S4x4096x64 : Shape := ⟨3, ![4, 4096, 64]⟩
abbrev S4x4096x32 : Shape := ⟨3, ![4, 4096, 32]⟩
abbrev S4x4096x16 : Shape := ⟨3, ![4, 4096, 16]⟩
abbrev S1x4096x16 : Shape := ⟨3, ![1, 4096, 16]⟩
abbrev S_ : Shape := ⟨0, ![]⟩
abbrev S4x4096x128 : Shape := ⟨3, ![4, 4096, 128]⟩
abbrev S4x4096 : Shape := ⟨2, ![4, 4096]⟩
abbrev S4x4096x1 : Shape := ⟨3, ![4, 4096, 1]⟩
abbrev S1x1x768 : Shape := ⟨3, ![1, 1, 768]⟩
abbrev S1x1x512 : Shape := ⟨3, ![1, 1, 512]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x1856, .f32⟩
  | .hbm, ⟨2, _⟩ => ⟨S768, .f32⟩
  | .hbm, ⟨3, _⟩ => ⟨S512, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4x4096x2048, .f32⟩
  | .hbm, ⟨9, _⟩ => ⟨S4x4096x1856, .f32⟩
  | .hbm, ⟨10, _⟩ => ⟨S4x4096x512, .f32⟩
  | .hbm, ⟨11, _⟩ => ⟨S4x4096x768, .f32⟩
  | .hbm, ⟨12, _⟩ => ⟨S4x4096x512, .f32⟩
  | .hbm, ⟨13, _⟩ => ⟨S4x4096x64, .f32⟩
  | .hbm, ⟨14, _⟩ => ⟨S4x4096x32, .f32⟩
  | .hbm, ⟨15, _⟩ => ⟨S4x4096x16, .f32⟩
  | .hbm, ⟨16, _⟩ => ⟨S4x4096x16, .f32⟩
  | .hbm, ⟨17, _⟩ => ⟨S1x4096x16, .f32⟩
  | .hbm, ⟨18, _⟩ => ⟨S4x4096x16, .f32⟩
  | .hbm, ⟨19, _⟩ => ⟨S4x4096x16, .f32⟩
  | .hbm, ⟨20, _⟩ => ⟨S1x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S1x4096x16, .f32⟩
  | .hbm, ⟨25, _⟩ => ⟨S4x4096x16, .f32⟩
  | .hbm, ⟨26, _⟩ => ⟨S4x4096x16, .f32⟩
  | .hbm, ⟨27, _⟩ => ⟨S1x4096x16, .f32⟩
  | .hbm, ⟨28, _⟩ => ⟨S4x4096x16, .f32⟩
  | .hbm, ⟨29, _⟩ => ⟨S4x4096x16, .f32⟩
  | .hbm, ⟨30, _⟩ => ⟨S4x4096x16, .f32⟩
  | .hbm, ⟨31, _⟩ => ⟨S4x4096x32, .f32⟩
  | .hbm, ⟨32, _⟩ => ⟨S4x4096x32, .f32⟩
  | .hbm, ⟨33, _⟩ => ⟨S4x4096x16, .f32⟩
  | .hbm, ⟨34, _⟩ => ⟨S4x4096x16, .f32⟩
  | .hbm, ⟨35, _⟩ => ⟨S1x4096x16, .f32⟩
  | .hbm, ⟨36, _⟩ => ⟨S4x4096x16, .f32⟩
  | .hbm, ⟨37, _⟩ => ⟨S4x4096x16, .f32⟩
  | .hbm, ⟨38, _⟩ => ⟨S1x4096x16, .f32⟩
  | .hbm, ⟨39, _⟩ => ⟨S4x4096x16, .f32⟩
  | .hbm, ⟨40, _⟩ => ⟨S4x4096x16, .f32⟩
  | .hbm, ⟨41, _⟩ => ⟨S4x4096x16, .f32⟩
  | .hbm, ⟨42, _⟩ => ⟨S1x4096x16, .f32⟩
  | .hbm, ⟨43, _⟩ => ⟨S4x4096x16, .f32⟩
  | .hbm, ⟨44, _⟩ => ⟨S4x4096x16, .f32⟩
  | .hbm, ⟨45, _⟩ => ⟨S1x4096x16, .f32⟩
  | .hbm, ⟨46, _⟩ => ⟨S4x4096x16, .f32⟩
  | .hbm, ⟨47, _⟩ => ⟨S4x4096x16, .f32⟩
  | .hbm, ⟨48, _⟩ => ⟨S4x4096x16, .f32⟩
  | .hbm, ⟨49, _⟩ => ⟨S4x4096x32, .f32⟩
  | .hbm, ⟨50, _⟩ => ⟨S4x4096x64, .f32⟩
  | .hbm, ⟨51, _⟩ => ⟨S_, .f32⟩
  | .hbm, ⟨52, _⟩ => ⟨S4x4096x64, .f32⟩
  | .hbm, ⟨53, _⟩ => ⟨S4x4096x128, .f32⟩
  | .hbm, ⟨54, _⟩ => ⟨S4x4096x768, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x768, .f32⟩
  | .hbm, ⟨66, _⟩ => ⟨S4x4096x768, .f32⟩
  | .hbm, ⟨67, _⟩ => ⟨S1x1x768, .f32⟩
  | .hbm, ⟨68, _⟩ => ⟨S4x4096x768, .f32⟩
  | .hbm, ⟨69, _⟩ => ⟨S4x4096x768, .f32⟩
  | .hbm, ⟨70, _⟩ => ⟨S4x4096x768, .bf16⟩
  | .hbm, ⟨71, _⟩ => ⟨S4x4096x512, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x512, .f32⟩
  | .hbm, ⟨83, _⟩ => ⟨S4x4096x512, .f32⟩
  | .hbm, ⟨84, _⟩ => ⟨S1x1x512, .f32⟩
  | .hbm, ⟨85, _⟩ => ⟨S4x4096x512, .f32⟩
  | .hbm, ⟨86, _⟩ => ⟨S4x4096x512, .f32⟩
  | .hbm, ⟨87, _⟩ => ⟨S4x4096x512, .bf16⟩
  | .hbm, ⟨88, _⟩ => ⟨S4x4096x128, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_3 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Kernel10.lean ====
abbrev S4x4096x768 : Shape := ⟨3, ![4, 4096, 768]⟩
abbrev S768x2304 : Shape := ⟨2, ![768, 2304]⟩
abbrev S4096x16 : Shape := ⟨2, ![4096, 16]⟩
abbrev S_ : Shape := ⟨0, ![]⟩
abbrev S768x12x192 : Shape := ⟨3, ![768, 12, 192]⟩
abbrev S768x12x64 : Shape := ⟨3, ![768, 12, 64]⟩
abbrev S768x12x128 : Shape := ⟨3, ![768, 12, 128]⟩
abbrev S768x12x2x2x16 : Shape := ⟨5, ![768, 12, 2, 2, 16]⟩
abbrev S768x12x256 : Shape := ⟨3, ![768, 12, 256]⟩
abbrev S768x3072 : Shape := ⟨2, ![768, 3072]⟩
abbrev S4096x128 : Shape := ⟨2, ![4096, 128]⟩
abbrev S1x768x3072 : Shape := ⟨3, ![1, 768, 3072]⟩
abbrev S4x12x4096x256 : Shape := ⟨4, ![4, 12, 4096, 256]⟩
abbrev S1x1024x768 : Shape := ⟨3, ![1, 1024, 768]⟩
abbrev S1x768x1536 : Shape := ⟨3, ![1, 768, 1536]⟩
abbrev S1024x128 : Shape := ⟨2, ![1024, 128]⟩
abbrev S1x6x1024x256 : Shape := ⟨4, ![1, 6, 1024, 256]⟩
abbrev S1024x768 : Shape := ⟨2, ![1024, 768]⟩
abbrev S768x1536 : Shape := ⟨2, ![768, 1536]⟩
abbrev S1024x1536 : Shape := ⟨2, ![1024, 1536]⟩
abbrev S1x1x1024x128 : Shape := ⟨4, ![1, 1, 1024, 128]⟩

abbrev nBuf : Space → Nat
  | .hbm => 23
  | .vmem => 8
  | .smem => 0
  | _ => 0

abbrev bufTy : (tb : Table) → Fin (tcTables nBuf tb) → BufTy
  | .hbm, ⟨0, _⟩ => ⟨S4x4096x768, .bf16⟩
  | .hbm, ⟨1, _⟩ => ⟨S768x2304, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S_, .f32⟩
  | .hbm, ⟨7, _⟩ => ⟨S768x2304, .f32⟩
  | .hbm, ⟨8, _⟩ => ⟨S768x2304, .f32⟩
  | .hbm, ⟨9, _⟩ => ⟨S768x2304, .bf16⟩
  | .hbm, ⟨10, _⟩ => ⟨S768x12x192, .bf16⟩
  | .hbm, ⟨11, _⟩ => ⟨S768x12x64, .bf16⟩
  | .hbm, ⟨12, _⟩ => ⟨S768x12x128, .bf16⟩
  | .hbm, ⟨13, _⟩ => ⟨S768x12x2x2x16, .bf16⟩
  | .hbm, ⟨14, _⟩ => ⟨S768x12x2x2x16, .bf16⟩
  | .hbm, ⟨15, _⟩ => ⟨S768x12x64, .bf16⟩
  | .hbm, ⟨16, _⟩ => ⟨S768x12x256, .bf16⟩
  | .hbm, ⟨17, _⟩ => ⟨S768x3072, .bf16⟩
  | .hbm, ⟨18, _⟩ => ⟨S4096x16, .f32⟩
  | .hbm, ⟨19, _⟩ => ⟨S4096x16, .f32⟩
  | .hbm, ⟨20, _⟩ => ⟨S4096x128, .f32⟩
  | .hbm, ⟨21, _⟩ => ⟨S1x768x3072, .bf16⟩
  | .hbm, ⟨22, _⟩ => ⟨S4x12x4096x256, .bf16⟩
  | .local _ .vmem, ⟨0, _⟩ => ⟨S1x1024x768, .bf16⟩
  | .local _ .vmem, ⟨1, _⟩ => ⟨S1x1024x768, .bf16⟩
  | .local _ .vmem, ⟨2, _⟩ => ⟨S1x768x1536, .bf16⟩
  | .local _ .vmem, ⟨3, _⟩ => ⟨S1x768x1536, .bf16⟩
  | .local _ .vmem, ⟨4, _⟩ => ⟨S1024x128, .f32⟩
  | .local _ .vmem, ⟨5, _⟩ => ⟨S1024x128, .f32⟩
  | .local _ .vmem, ⟨6, _⟩ => ⟨S1x6x1024x256, .bf16⟩
  | .local _ .vmem, ⟨7, _⟩ => ⟨S1x6x1024x256, .bf16⟩
  | _, _ => ⟨S4x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x6x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference10Ideal.lean ====
abbrev S4x4096x768 : Shape := ⟨3, ![4, 4096, 768]⟩
abbrev S768x2304 : Shape := ⟨2, ![768, 2304]⟩
abbrev S4096x16 : Shape := ⟨2, ![4096, 16]⟩
abbrev S4x4096x2304 : Shape := ⟨3, ![4, 4096, 2304]⟩
abbrev S4x4096x12x192 : Shape := ⟨4, ![4, 4096, 12, 192]⟩
abbrev S4x12x4096x192 : Shape := ⟨4, ![4, 12, 4096, 192]⟩
abbrev S4x12x4096x128 : Shape := ⟨4, ![4, 12, 4096, 128]⟩
abbrev S4x12x4096x64 : Shape := ⟨4, ![4, 12, 4096, 64]⟩
abbrev S4x12x4096x32 : Shape := ⟨4, ![4, 12, 4096, 32]⟩
abbrev S4x12x4096x16 : Shape := ⟨4, ![4, 12, 4096, 16]⟩
abbrev S1x1x4096x16 : Shape := ⟨4, ![1, 1, 4096, 16]⟩
abbrev S4x12x4096x256 : Shape := ⟨4, ![4, 12, 4096, 256]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x768, .bf16⟩
  | .hbm, ⟨1, _⟩ => ⟨S768x2304, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4x4096x768, .f32⟩
  | .hbm, ⟨7, _⟩ => ⟨S4x4096x2304, .f32⟩
  | .hbm, ⟨8, _⟩ => ⟨S4x4096x12x192, .f32⟩
  | .hbm, ⟨9, _⟩ => ⟨S4x12x4096x192, .f32⟩
  | .hbm, ⟨10, _⟩ => ⟨S4x12x4096x128, .f32⟩
  | .hbm, ⟨11, _⟩ => ⟨S4x12x4096x64, .f32⟩
  | .hbm, ⟨12, _⟩ => ⟨S4x12x4096x32, .f32⟩
  | .hbm, ⟨13, _⟩ => ⟨S4x12x4096x16, .f32⟩
  | .hbm, ⟨14, _⟩ => ⟨S4x12x4096x16, .f32⟩
  | .hbm, ⟨15, _⟩ => ⟨S1x1x4096x16, .f32⟩
  | .hbm, ⟨16, _⟩ => ⟨S4x12x4096x16, .f32⟩
  | .hbm, ⟨17, _⟩ => ⟨S4x12x4096x16, .f32⟩
  | .hbm, ⟨18, _⟩ => ⟨S1x1x4096x16, .f32⟩
  | .hbm, ⟨19, _⟩ => ⟨S4x12x4096x16, .f32⟩
  | .hbm, ⟨20, _⟩ => ⟨S4x12x4096x16, .f32⟩
  | .hbm, ⟨21, _⟩ => ⟨S4x12x4096x16, .f32⟩
  | .hbm, ⟨22, _⟩ => ⟨S1x1x4096x16, .f32⟩
  | .hbm, ⟨23, _⟩ => ⟨S4x12x4096x16, .f32⟩
  | .hbm, ⟨24, _⟩ => ⟨S4x12x4096x16, .f32⟩
  | .hbm, ⟨25, _⟩ => ⟨S1x1x4096x16, .f32⟩
  | .hbm, ⟨26, _⟩ => ⟨S4x12x4096x16, .f32⟩
  | .hbm, ⟨27, _⟩ => ⟨S4x12x4096x16, .f32⟩
  | .hbm, ⟨28, _⟩ => ⟨S4x12x4096x16, .f32⟩
  | .hbm, ⟨29, _⟩ => ⟨S4x12x4096x32, .f32⟩
  | .hbm, ⟨30, _⟩ => ⟨S4x12x4096x32, .f32⟩
  | .hbm, ⟨31, _⟩ => ⟨S4x12x4096x16, .f32⟩
  | .hbm, ⟨32, _⟩ => ⟨S4x12x4096x16, .f32⟩
  | .hbm, ⟨33, _⟩ => ⟨S1x1x4096x16, .f32⟩
  | .hbm, ⟨34, _⟩ => ⟨S4x12x4096x16, .f32⟩
  | .hbm, ⟨35, _⟩ => ⟨S4x12x4096x16, .f32⟩
  | .hbm, ⟨36, _⟩ => ⟨S1x1x4096x16, .f32⟩
  | .hbm, ⟨37, _⟩ => ⟨S4x12x4096x16, .f32⟩
  | .hbm, ⟨38, _⟩ => ⟨S4x12x4096x16, .f32⟩
  | .hbm, ⟨39, _⟩ => ⟨S4x12x4096x16, .f32⟩
  | .hbm, ⟨40, _⟩ => ⟨S1x1x4096x16, .f32⟩
  | .hbm, ⟨41, _⟩ => ⟨S4x12x4096x16, .f32⟩
  | .hbm, ⟨42, _⟩ => ⟨S4x12x4096x16, .f32⟩
  | .hbm, ⟨43, _⟩ => ⟨S1x1x4096x16, .f32⟩
  | .hbm, ⟨44, _⟩ => ⟨S4x12x4096x16, .f32⟩
  | .hbm, ⟨45, _⟩ => ⟨S4x12x4096x16, .f32⟩
  | .hbm, ⟨46, _⟩ => ⟨S4x12x4096x16, .f32⟩
  | .hbm, ⟨47, _⟩ => ⟨S4x12x4096x32, .f32⟩
  | .hbm, ⟨48, _⟩ => ⟨S4x12x4096x64, .f32⟩
  | .hbm, ⟨49, _⟩ => ⟨S4x12x4096x256, .f32⟩
  | .hbm, ⟨50, _⟩ => ⟨S_, .f32⟩
  | .hbm, ⟨51, _⟩ => ⟨S4x12x4096x256, .f32⟩
  | .hbm, ⟨52, _⟩ => ⟨S4x12x4096x256, .f32⟩
  | .hbm, ⟨53, _⟩ => ⟨S4x12x4096x256, .bf16⟩
  | _, _ => ⟨S4x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== Kernel11.lean ====
abbrev S1x1024x2048 : Shape := ⟨3, ![1, 1024, 2048]⟩
abbrev S2x2048x5632 : Shape := ⟨3, ![2, 2048, 5632]⟩
abbrev S1x1024x5632 : Shape := ⟨3, ![1, 1024, 5632]⟩
abbrev S1x2048x512 : Shape := ⟨3, ![1, 2048, 512]⟩
abbrev S1x1024x512 : Shape := ⟨3, ![1, 1024, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S1x1024x2048, .bf16⟩
  | .hbm, ⟨1, _⟩ => ⟨S2x2048x5632, .f32⟩
  | .hbm, ⟨2, _⟩ => ⟨S2x2048x5632, .f32⟩
  | .hbm, ⟨3, _⟩ => ⟨S1x1024x5632, .bf16⟩
  | .local _ .vmem, ⟨0, _⟩ => ⟨S1x1024x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x1024x512, .bf16⟩
  | .local _ .vmem, ⟨6, _⟩ => ⟨S1x1024x512, .bf16⟩
  | .local _ .vmem, ⟨7, _⟩ => ⟨S2048x512, .bf16⟩
  | .local _ .vmem, ⟨8, _⟩ => ⟨S2048x512, .bf16⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference11Ideal.lean ====
abbrev S1x1024x2048 : Shape := ⟨3, ![1, 1024, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S1x1024x5632 : Shape := ⟨3, ![1, 1024, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1x1024x2048, .bf16⟩
  | .hbm, ⟨1, _⟩ => ⟨S2x2048x5632, .f32⟩
  | .hbm, ⟨2, _⟩ => ⟨S2x2048x5632, .f32⟩
  | .hbm, ⟨3, _⟩ => ⟨S1x1024x2048, .f32⟩
  | .hbm, ⟨4, _⟩ => ⟨S1x2048x5632, .f32⟩
  | .hbm, ⟨5, _⟩ => ⟨S2048x5632, .f32⟩
  | .hbm, ⟨6, _⟩ => ⟨S1x1024x5632, .f32⟩
  | .hbm, ⟨7, _⟩ => ⟨S1x1024x5632, .f32⟩
  | .hbm, ⟨8, _⟩ => ⟨S1x1024x5632, .f32⟩
  | .hbm, ⟨9, _⟩ => ⟨S_, .f32⟩
  | .hbm, ⟨10, _⟩ => ⟨S1x1024x5632, .f32⟩
  | .hbm, ⟨11, _⟩ => ⟨S1x1024x5632, .f32⟩
  | .hbm, ⟨12, _⟩ => ⟨S_, .f32⟩
  | .hbm, ⟨13, _⟩ => ⟨S1x1024x5632, .f32⟩
  | .hbm, ⟨14, _⟩ => ⟨S1x1024x5632, .f32⟩
  | .hbm, ⟨15, _⟩ => ⟨S1x1024x5632, .f32⟩
  | .hbm, ⟨16, _⟩ => ⟨S1x2048x5632, .f32⟩
  | .hbm, ⟨17, _⟩ => ⟨S2048x5632, .f32⟩
  | .hbm, ⟨18, _⟩ => ⟨S1x1024x5632, .f32⟩
  | .hbm, ⟨19, _⟩ => ⟨S1x1024x5632, .f32⟩
  | .hbm, ⟨20, _⟩ => ⟨S1x1024x5632, .bf16⟩
  | _, _ => ⟨S1x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel12.lean ====
abbrev S1x1024x5632 : Shape := ⟨3, ![1, 1024, 5632]⟩
abbrev S2x5632x2048 : Shape := ⟨3, ![2, 5632, 2048]⟩
abbrev S1x1024x2048 : Shape := ⟨3, ![1, 1024, 2048]⟩
abbrev S1x1x2048 : Shape := ⟨3, ![1, 1, 2048]⟩
abbrev S1x5632x512 : Shape := ⟨3, ![1, 5632, 512]⟩
abbrev S1x1024x512 : Shape := ⟨3, ![1, 1024, 512]⟩
abbrev S1x1x512 : Shape := ⟨3, ![1, 1, 512]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S1x1024x5632, .bf16⟩
  | .hbm, ⟨1, _⟩ => ⟨S2x5632x2048, .f32⟩
  | .hbm, ⟨2, _⟩ => ⟨S1x1024x2048, .f32⟩
  | .hbm, ⟨3, _⟩ => ⟨S1x1x2048, .f32⟩
  | .hbm, ⟨4, _⟩ => ⟨S2x5632x2048, .bf16⟩
  | .hbm, ⟨5, _⟩ => ⟨S1x1024x2048, .f32⟩
  | .local _ .vmem, ⟨0, _⟩ => ⟨S1x1024x5632, .bf16⟩
  | .local _ .vmem, ⟨1, _⟩ => ⟨S1x5632x512, .bf16⟩
  | .local _ .vmem, ⟨2, _⟩ => ⟨S1x5632x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1x512, .f32⟩
  | .local _ .vmem, ⟨6, _⟩ => ⟨S1x1x512, .f32⟩
  | .local _ .vmem, ⟨7, _⟩ => ⟨S1x1024x512, .f32⟩
  | .local _ .vmem, ⟨8, _⟩ => ⟨S1x1024x512, .f32⟩
  | _, _ => ⟨S1x1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference12Ideal.lean ====
abbrev S1x1024x5632 : Shape := ⟨3, ![1, 1024, 5632]⟩
abbrev S2x5632x2048 : Shape := ⟨3, ![2, 5632, 2048]⟩
abbrev S1x1024x2048 : Shape := ⟨3, ![1, 1024, 2048]⟩
abbrev S1x1x2048 : Shape := ⟨3, ![1, 1, 2048]⟩
abbrev S1x5632x2048 : Shape := ⟨3, ![1, 5632, 2048]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S1x1024x5632, .bf16⟩
  | .hbm, ⟨1, _⟩ => ⟨S2x5632x2048, .f32⟩
  | .hbm, ⟨2, _⟩ => ⟨S1x1024x2048, .f32⟩
  | .hbm, ⟨3, _⟩ => ⟨S1x1x2048, .f32⟩
  | .hbm, ⟨4, _⟩ => ⟨S1x1024x5632, .f32⟩
  | .hbm, ⟨5, _⟩ => ⟨S1x5632x2048, .f32⟩
  | .hbm, ⟨6, _⟩ => ⟨S5632x2048, .f32⟩
  | .hbm, ⟨7, _⟩ => ⟨S1x1024x2048, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | _, _ => ⟨S1x1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S1x1024x512 : Shape := ⟨3, ![1, 1024, 512]⟩
abbrev S1x1024x1536 : Shape := ⟨3, ![1, 1024, 1536]⟩
abbrev S1x2048x2048 : Shape := ⟨3, ![1, 2048, 2048]⟩
abbrev S1x1024x2048 : Shape := ⟨3, ![1, 1024, 2048]⟩
abbrev S1x1x2048 : Shape := ⟨3, ![1, 1, 2048]⟩
abbrev S1x512x512 : Shape := ⟨3, ![1, 512, 512]⟩
abbrev S1x1x512 : Shape := ⟨3, ![1, 1, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 7
  | .vmem => 18
  | .smem => 0
  | _ => 0

abbrev bufTy : (tb : Table) → Fin (tcTables nBuf tb) → BufTy
  | .hbm, ⟨0, _⟩ => ⟨S1x1024x512, .bf16⟩
  | .hbm, ⟨1, _⟩ => ⟨S1x1024x1536, .bf16⟩
  | .hbm, ⟨2, _⟩ => ⟨S1x2048x2048, .f32⟩
  | .hbm, ⟨3, _⟩ => ⟨S1x1024x2048, .f32⟩
  | .hbm, ⟨4, _⟩ => ⟨S1x1x2048, .f32⟩
  | .hbm, ⟨5, _⟩ => ⟨S1x2048x2048, .bf16⟩
  | .hbm, ⟨6, _⟩ => ⟨S1x1024x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1024x512, .f32⟩
  | .local _ .vmem, ⟨13, _⟩ => ⟨S1x1024x512, .f32⟩
  | .local _ .vmem, ⟨14, _⟩ => ⟨S1x1x512, .f32⟩
  | .local _ .vmem, ⟨15, _⟩ => ⟨S1x1x512, .f32⟩
  | .local _ .vmem, ⟨16, _⟩ => ⟨S1x1024x512, .f32⟩
  | .local _ .vmem, ⟨17, _⟩ => ⟨S1x1024x512, .f32⟩
  | _, _ => ⟨S1x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c1_i32 : BitVec 32 := 1#32
  let c0_i32_1 : BitVec 32 := 0#32
  ![c0_i32_0.toNat, c1_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c2_i32 : BitVec 32 := 2#32
  let c0_i32_1 : BitVec 32 := 0#32
  ![c0_i32_0.toNat, c2_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c3_i32 : BitVec 32 := 3#32
  let c0_i32_1 : BitVec 32 := 0#32
  ![c0_i32_0.toNat, c3_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference13Ideal.lean ====
abbrev S1x1024x512 : Shape := ⟨3, ![1, 1024, 512]⟩
abbrev S1x1024x1536 : Shape := ⟨3, ![1, 1024, 1536]⟩
abbrev S1x2048x2048 : Shape := ⟨3, ![1, 2048, 2048]⟩
abbrev S1x1024x2048 : Shape := ⟨3, ![1, 1024, 2048]⟩
abbrev S1x1x2048 : Shape := ⟨3, ![1, 1, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x1024x512, .bf16⟩
  | .hbm, ⟨1, _⟩ => ⟨S1x1024x1536, .bf16⟩
  | .hbm, ⟨2, _⟩ => ⟨S1x2048x2048, .f32⟩
  | .hbm, ⟨3, _⟩ => ⟨S1x1024x2048, .f32⟩
  | .hbm, ⟨4, _⟩ => ⟨S1x1x2048, .f32⟩
  | .hbm, ⟨5, _⟩ => ⟨S1x1024x512, .f32⟩
  | .hbm, ⟨6, _⟩ => ⟨S1x1024x1536, .f32⟩
  | .hbm, ⟨7, _⟩ => ⟨S1x1024x2048, .f32⟩
  | .hbm, ⟨8, _⟩ => ⟨S2048x2048, .f32⟩
  | .hbm, ⟨9, _⟩ => ⟨S1x1024x2048, .f32⟩
  | .hbm, ⟨10, _⟩ => ⟨S1x1024x2048, .f32⟩
  | .hbm, ⟨11, _⟩ => ⟨S1x1024x2048, .f32⟩
  | .hbm, ⟨12, _⟩ => ⟨S1x1024x2048, .f32⟩
  | _, _ => ⟨S1x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel14.lean ====
abbrev S1x1024x2048 : Shape := ⟨3, ![1, 1024, 2048]⟩
abbrev S1x2048x5120 : Shape := ⟨3, ![1, 2048, 5120]⟩
abbrev S5120 : Shape := ⟨1, ![5120]⟩
abbrev S1x1x5120 : Shape := ⟨3, ![1, 1, 5120]⟩
abbrev S1x36x1024x128 : Shape := ⟨4, ![1, 36, 1024, 128]⟩
abbrev S1x2048x512 : Shape := ⟨3, ![1, 2048, 512]⟩
abbrev S1x4x1024x128 : Shape := ⟨4, ![1, 4, 1024, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1x1x1024x128 : Shape := ⟨4, ![1, 1, 1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S1x1024x2048, .bf16⟩
  | .hbm, ⟨1, _⟩ => ⟨S1x2048x5120, .f32⟩
  | .hbm, ⟨2, _⟩ => ⟨S5120, .f32⟩
  | .hbm, ⟨3, _⟩ => ⟨S1x1x5120, .f32⟩
  | .hbm, ⟨4, _⟩ => ⟨S1x2048x5120, .f32⟩
  | .hbm, ⟨5, _⟩ => ⟨S1x2048x5120, .f32⟩
  | .hbm, ⟨6, _⟩ => ⟨S1x2048x5120, .bf16⟩
  | .hbm, ⟨7, _⟩ => ⟨S1x36x1024x128, .bf16⟩
  | .local _ .vmem, ⟨0, _⟩ => ⟨S1x1024x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x4x1024x128, .bf16⟩
  | .local _ .vmem, ⟨4, _⟩ => ⟨S1x4x1024x128, .bf16⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 1, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference14Ideal.lean ====
abbrev S1x1024x2048 : Shape := ⟨3, ![1, 1024, 2048]⟩
abbrev S1x2048x5120 : Shape := ⟨3, ![1, 2048, 5120]⟩
abbrev S2048x5120 : Shape := ⟨2, ![2048, 5120]⟩
abbrev S1x1024x5120 : Shape := ⟨3, ![1, 1024, 5120]⟩
abbrev S1x1024x4608 : Shape := ⟨3, ![1, 1024, 4608]⟩
abbrev S1x1024x1536 : Shape := ⟨3, ![1, 1024, 1536]⟩
abbrev S1x1024x12x128 : Shape := ⟨4, ![1, 1024, 12, 128]⟩
abbrev S1x12x1024x128 : Shape := ⟨4, ![1, 12, 1024, 128]⟩
abbrev S_ : Shape := ⟨0, ![]⟩
abbrev S1x36x1024x128 : Shape := ⟨4, ![1, 36, 1024, 128]⟩

abbrev nBuf : Space → Nat
  | .hbm => 20
  | .vmem => 0
  | .smem => 0
  | _ => 0

abbrev bufTy : (tb : Table) → Fin (tcTables nBuf tb) → BufTy
  | .hbm, ⟨0, _⟩ => ⟨S1x1024x2048, .bf16⟩
  | .hbm, ⟨1, _⟩ => ⟨S1x2048x5120, .f32⟩
  | .hbm, ⟨2, _⟩ => ⟨S1x1024x2048, .f32⟩
  | .hbm, ⟨3, _⟩ => ⟨S2048x5120, .f32⟩
  | .hbm, ⟨4, _⟩ => ⟨S1x1024x5120, .f32⟩
  | .hbm, ⟨5, _⟩ => ⟨S1x1024x4608, .f32⟩
  | .hbm, ⟨6, _⟩ => ⟨S1x1024x1536, .f32⟩
  | .hbm, ⟨7, _⟩ => ⟨S1x1024x1536, .f32⟩
  | .hbm, ⟨8, _⟩ => ⟨S1x1024x1536, .f32⟩
  | .hbm, ⟨9, _⟩ => ⟨S1x1024x12x128, .f32⟩
  | .hbm, ⟨10, _⟩ => ⟨S1x12x1024x128, .f32⟩
  | .hbm, ⟨11, _⟩ => ⟨S_, .f32⟩
  | .hbm, ⟨12, _⟩ => ⟨S1x12x1024x128, .f32⟩
  | .hbm, ⟨13, _⟩ => ⟨S1x12x1024x128, .f32⟩
  | .hbm, ⟨14, _⟩ => ⟨S1x1024x12x128, .f32⟩
  | .hbm, ⟨15, _⟩ => ⟨S1x12x1024x128, .f32⟩
  | .hbm, ⟨16, _⟩ => ⟨S1x1024x12x128, .f32⟩
  | .hbm, ⟨17, _⟩ => ⟨S1x12x1024x128, .f32⟩
  | .hbm, ⟨18, _⟩ => ⟨S1x36x1024x128, .f32⟩
  | .hbm, ⟨19, _⟩ => ⟨S1x36x1024x128, .bf16⟩
  | _, _ => ⟨S1x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Proof.Att.Pay.lean ====
/- What one grid point of the attention stores, as the fold of a step over the blocks of keys. -/
module
public import proofs.«01_k».proof.Proof.Gen.KernelIdeal.Value
@[expose] public section
set_option maxRecDepth 16384
noncomputable section
namespace Cert.KernelIdeal.Att
open Cert.KernelIdeal Cert.KernelIdeal.Gen Idealize.ShloMosaic Idealize.ShloMosaic.TcCoe Idealize.SL.Sem Idealize.ShloMosaic.Tactic
variable {F : FTy → Type} [FloatOps F]

/-- The scores of a tile of queries against 512 keys. -/
def sc (q : FVec F S1024x256 .bf16) (k : Vec F S1x1x512x256 .bf16) : FVec F S1024x512 .f32 :=
  matmul dot_S1024x256_S512x256_S1024x512_1_1_0_0_n_n none q (shapeCast S512x256 k shapeCasts_S1x1x512x256_S512x256)
    (constant S1024x512 .f32 0x00000000#32)

/-- Each row's largest score. -/
def mx (s : FVec F S1024x512 .f32) : FVec F S1024x1 .f32 :=
  shapeCast S1024x1 (multiReduction .maximumf [1] S1024 s 0xFF800000#32 reduces_S1024x512_S1024 (.inl rfl) rfl) shapeCasts_S1024_S1024x1

/-- The values weighted by the powers of two of the scores less `m`. -/
def pv (s : FVec F S1024x512 .f32) (m : FVec F S1024x1 .f32) (v : Vec F S1x512x256 .bf16) : FVec F S1024x256 .f32 :=
  matmul dot_S1024x512_S512x256_S1024x256_1_0_0_1_n_n none
    (truncf .bf16 (exp2 (subf s (broadcastTo S1024x512 m broadcasts_S1024x1_S1024x512))) bitsLt_bf16_f32)
    (shapeCast S512x256 v shapeCasts_S1x512x256_S512x256) (constant S1024x256 .f32 0x00000000#32)

/-- The sums rescaled from the maximum `m` to the maximum `m'`. -/
def rescale (m m' : FVec F S1024x1 .f32) (a : FVec F S1024x256 .f32) : FVec F S1024x256 .f32 :=
  mulf a (broadcastTo S1024x256 (exp2 (subf m m')) broadcasts_S1024x1_S1024x256)

/-- The state of a row: its largest score so far and its weighted sums. -/
abbrev St (F : FTy → Type) [FloatOps F] := FVec F S1024x1 .f32 × FVec F S1024x256 .f32

/-- The state after the first 512 keys. -/
def first (q : FVec F S1024x256 .bf16) (k : Vec F S1x1x512x256 .bf16) (v : Vec F S1x512x256 .bf16) : St F :=
  (mx (sc q k), pv (sc q k) (mx (sc q k)) v)

/-- The state after 512 more keys. -/
def step (q : FVec F S1024x256 .bf16) (st : St F) (k : Vec F S1x1x512x256 .bf16) (v : Vec F S1x512x256 .bf16) : St F :=
  (maximumf st.1 (mx (sc q k)),
    addf (rescale st.1 (maximumf st.1 (mx (sc q k))) st.2) (pv (sc q k) (maximumf st.1 (mx (sc q k))) v))

/-- The scores against the 256 context keys. -/
def scC (q : FVec F S1024x256 .bf16) (k : Vec F S1x1x256x256 .bf16) : FVec F S1024x256 .f32 :=
  matmul dot_S1024x256_S256x256_S1024x256_1_1_0_0_n_n none q (shapeCast S256x256 k shapeCasts_S1x1x256x256_S256x256)
    (constant S1024x256 .f32 0x00000000#32)

/-- Each row's largest score against the context keys. -/
def mxC (s : FVec F S1024x256 .f32) : FVec F S1024x1 .f32 :=
  shapeCast S1024x1 (multiReduction .maximumf [1] S1024 s 0xFF800000#32 reduces_S1024x256_S1024 (.inl rfl) rfl) shapeCasts_S1024_S1024x1

/-- The context values weighted by the powers of two of the scores less `m`. -/
def pvC (s : FVec F S1024x256 .f32) (m : FVec F S1024x1 .f32) (v : Vec F S1x256x256 .bf16) : FVec F S1024x256 .f32 :=
  matmul dot_S1024x256_S256x256_S1024x256_1_0_0_1_n_n none
    (truncf .bf16 (exp2 (subf s (broadcastTo S1024x256 m broadcasts_S1024x1_S1024x256))) bitsLt_bf16_f32)
    (shapeCast S256x256 v shapeCasts_S1x256x256_S256x256) (constant S1024x256 .f32 0x00000000#32)

/-- The state after the context keys. -/
def stepC (q : FVec F S1024x256 .bf16) (st : St F) (k : Vec F S1x1x256x256 .bf16) (v : Vec F S1x256x256 .bf16) : St F :=
  (maximumf st.1 (mxC (scC q k)),
    addf (rescale st.1 (maximumf st.1 (mxC (scC q k))) st.2) (pvC (scC q k) (maximumf st.1 (mxC (scC q k))) v))

/-- A row's sums of values divided by its sum of weights, which stands in column 128. -/
def fin (a : FVec F S1024x256 .f32) : FVec F S1x1024x128 .bf16 :=
  shapeCast S1x1024x128
    (truncf .bf16 (divf (extractStridedSlice S1024x128 ![0, 0] a slices_S1024x256_o0_0_S1024x128)
      (broadcastTo S1024x128 (extractStridedSlice S1024x1 ![0, 128] a slices_S1024x256_o0_128_S1024x1)
        broadcasts_S1024x1_S1024x128)) bitsLt_bf16_f32) shapeCasts_S1024x128_S1x1024x128

/-- The state after all the keys, and the stored tile. -/
def head (q : FVec F S1024x256 .bf16) (k0 k1 k2 k3 k4 k5 k6 k7 : Vec F S1x1x512x256 .bf16)
    (v0 v1 v2 v3 v4 v5 v6 v7 : Vec F S1x512x256 .bf16)
    (kc : Vec F S1x1x256x256 .bf16) (vc : Vec F S1x256x256 .bf16) : FVec F S1x1024x128 .bf16 :=
  fin (stepC q (step q (step q (step q (step q (step q (step q (step q (first q k0 v0) k1 v1) k2 v2) k3 v3) k4 v4) k5 v5)
    k6 v6) k7 v7) kc vc).2

/-! The printed values in these terms. -/

theorem p10 (x : Vec F S1x1x1024x256 .bf16) :
    k0_pay10 x = (shapeCast S1024x256 x shapeCasts_S1x1x1024x256_S1024x256) := rfl
theorem p35 (x : Vec F S1x1x1024x256 .bf16) :
    k0_pay35 x = (shapeCast S1024x256 x shapeCasts_S1x1x1024x256_S1024x256) := rfl
theorem p11 (x : Vec F S1x1x1024x256 .bf16) (k : Vec F S1x1x512x256 .bf16) :
    k0_pay11 x k = sc (shapeCast S1024x256 x shapeCasts_S1x1x1024x256_S1024x256) k := rfl
theorem p14 (x : Vec F S1x1x1024x256 .bf16) (k : Vec F S1x1x512x256 .bf16) :
    k0_pay14 x k = sc (shapeCast S1024x256 x shapeCasts_S1x1x1024x256_S1024x256) k := rfl
theorem p36 (x : Vec F S1x1x1024x256 .bf16) (k : Vec F S1x1x512x256 .bf16) :
    k0_pay36 x k = sc (shapeCast S1024x256 x shapeCasts_S1x1x1024x256_S1024x256) k := rfl
theorem p12 (x : Vec F S1x1x1024x256 .bf16) (k : Vec F S1x1x512x256 .bf16) :
    k0_pay12 x k = mx (sc (shapeCast S1024x256 x shapeCasts_S1x1x1024x256_S1024x256) k) := rfl
theorem p37 (x : Vec F S1x1x1024x256 .bf16) (k : Vec F S1x1x512x256 .bf16) :
    k0_pay37 x k = mx (sc (shapeCast S1024x256 x shapeCasts_S1x1x1024x256_S1024x256) k) := rfl
theorem p13 (x : Vec F S1x1x1024x256 .bf16) (k : Vec F S1x1x512x256 .bf16) (v : Vec F S1x512x256 .bf16) :
    k0_pay13 x k v = pv (sc (shapeCast S1024x256 x shapeCasts_S1x1x1024x256_S1024x256) k) (mx (sc (shapeCast S1024x256 x shapeCasts_S1x1x1024x256_S1024x256) k)) v := rfl
theorem p15 (x : Vec F S1x1x1024x256 .bf16) (k k' : Vec F S1x1x512x256 .bf16) :
    k0_pay15 x k k' = (maximumf (mx (sc (shapeCast S1024x256 x shapeCasts_S1x1x1024x256_S1024x256) k)) (mx (sc (shapeCast S1024x256 x shapeCasts_S1x1x1024x256_S1024x256) k'))) := rfl
theorem p16 (x : Vec F S1x1x1024x256 .bf16) (k k' : Vec F S1x1x512x256 .bf16) (v : Vec F S1x512x256 .bf16) :
    k0_pay16 x k k' v = pv (sc (shapeCast S1024x256 x shapeCasts_S1x1x1024x256_S1024x256) k') (maximumf (mx (sc (shapeCast S1024x256 x shapeCasts_S1x1x1024x256_S1024x256) k)) (mx (sc (shapeCast S1024x256 x shapeCasts_S1x1x1024x256_S1024x256) k'))) v := rfl
theorem p17 (q : FVec F S1024x256 .bf16) (k : Vec F S1x1x512x256 .bf16) :
    k0_pay17 q k = sc q k := rfl
theorem p19 (q : FVec F S1024x256 .bf16) (k : Vec F S1x1x512x256 .bf16) :
    k0_pay19 q k = sc q k := rfl
theorem p23 (q : FVec F S1024x256 .bf16) (k : Vec F S1x1x512x256 .bf16) :
    k0_pay23 q k = sc q k := rfl
theorem p25 (q : FVec F S1024x256 .bf16) (k : Vec F S1x1x512x256 .bf16) :
    k0_pay25 q k = sc q k := rfl
theorem p28 (q : FVec F S1024x256 .bf16) (k : Vec F S1x1x512x256 .bf16) :
    k0_pay28 q k = sc q k := rfl
theorem p30 (q : FVec F S1024x256 .bf16) (k : Vec F S1x1x512x256 .bf16) :
    k0_pay30 q k = sc q k := rfl
theorem p40 (q : FVec F S1024x256 .bf16) (k : Vec F S1x1x512x256 .bf16) :
    k0_pay40 q k = sc q k := rfl
theorem p42 (q : FVec F S1024x256 .bf16) (k : Vec F S1x1x512x256 .bf16) :
    k0_pay42 q k = sc q k := rfl
theorem p45 (q : FVec F S1024x256 .bf16) (k : Vec F S1x1x512x256 .bf16) :
    k0_pay45 q k = sc q k := rfl
theorem p47 (q : FVec F S1024x256 .bf16) (k : Vec F S1x1x512x256 .bf16) :
    k0_pay47 q k = sc q k := rfl
theorem p53 (q : FVec F S1024x256 .bf16) (k : Vec F S1x1x512x256 .bf16) :
    k0_pay53 q k = sc q k := rfl
theorem p56 (q : FVec F S1024x256 .bf16) (k : Vec F S1x1x512x256 .bf16) :
    k0_pay56 q k = sc q k := rfl
theorem p18 (q : FVec F S1024x256 .bf16) (m : FVec F S1024x1 .f32) (k : Vec F S1x1x512x256 .bf16) :
    k0_pay18 q m k = (maximumf m (mx (sc q k))) := rfl
theorem p24 (q : FVec F S1024x256 .bf16) (m : FVec F S1024x1 .f32) (k : Vec F S1x1x512x256 .bf16) :
    k0_pay24 q m k = (maximumf m (mx (sc q k))) := rfl
theorem p29 (q : FVec F S1024x256 .bf16) (m : FVec F S1024x1 .f32) (k : Vec F S1x1x512x256 .bf16) :
    k0_pay29 q m k = (maximumf m (mx (sc q k))) := rfl
theorem p41 (q : FVec F S1024x256 .bf16) (m : FVec F S1024x1 .f32) (k : Vec F S1x1x512x256 .bf16) :
    k0_pay41 q m k = (maximumf m (mx (sc q k))) := rfl
theorem p46 (q : FVec F S1024x256 .bf16) (m : FVec F S1024x1 .f32) (k : Vec F S1x1x512x256 .bf16) :
    k0_pay46 q m k = (maximumf m (mx (sc q k))) := rfl
theorem p20 (q : FVec F S1024x256 .bf16) (m : FVec F S1024x1 .f32) (k k' : Vec F S1x1x512x256 .bf16) :
    k0_pay20 q m k k' = (maximumf (maximumf m (mx (sc q k))) (mx (sc q k'))) := rfl
theorem p26 (q : FVec F S1024x256 .bf16) (m : FVec F S1024x1 .f32) (k k' : Vec F S1x1x512x256 .bf16) :
    k0_pay26 q m k k' = (maximumf (maximumf m (mx (sc q k))) (mx (sc q k'))) := rfl
theorem p31 (q : FVec F S1024x256 .bf16) (m : FVec F S1024x1 .f32) (k k' : Vec F S1x1x512x256 .bf16) :
    k0_pay31 q m k k' = (maximumf (maximumf m (mx (sc q k))) (mx (sc q k'))) := rfl
theorem p43 (q : FVec F S1024x256 .bf16) (m : FVec F S1024x1 .f32) (k k' : Vec F S1x1x512x256 .bf16) :
    k0_pay43 q m k k' = (maximumf (maximumf m (mx (sc q k))) (mx (sc q k'))) := rfl
theorem p48 (q : FVec F S1024x256 .bf16) (m : FVec F S1024x1 .f32) (k k' : Vec F S1x1x512x256 .bf16) :
    k0_pay48 q m k k' = (maximumf (maximumf m (mx (sc q k))) (mx (sc q k'))) := rfl
theorem p21 (q : FVec F S1024x256 .bf16) (m : FVec F S1024x1 .f32) (k k' : Vec F S1x1x512x256 .bf16) (v : Vec F S1x512x256 .bf16) :
    k0_pay21 q m k k' v = pv (sc q k') (maximumf (maximumf m (mx (sc q k))) (mx (sc q k'))) v := rfl
theorem p22 (q : FVec F S1024x256 .bf16) (m0 : FVec F S1024x1 .f32) (a : FVec F S1024x256 .f32) (m : FVec F S1024x1 .f32) (b : FVec F S1024x256 .f32) (k : Vec F S1x1x512x256 .bf16) (v : Vec F S1x512x256 .bf16) (k' : Vec F S1x1x512x256 .bf16) :
    k0_pay22 q m0 a m b k v k' = rescale (maximumf m (mx (sc q k))) (maximumf (maximumf m (mx (sc q k))) (mx (sc q k'))) (addf (rescale m (maximumf m (mx (sc q k))) (addf (rescale m0 m a) b)) (pv (sc q k) (maximumf m (mx (sc q k))) v)) := rfl
theorem p27 (q : FVec F S1024x256 .bf16) (m : FVec F S1024x1 .f32) (b a : FVec F S1024x256 .f32) (k : Vec F S1x1x512x256 .bf16) (v : Vec F S1x512x256 .bf16) (k' : Vec F S1x1x512x256 .bf16) (v' : Vec F S1x512x256 .bf16) :
    k0_pay27 q m b a k v k' v' = addf (rescale (maximumf m (mx (sc q k))) (maximumf (maximumf m (mx (sc q k))) (mx (sc q k'))) (addf (rescale m (maximumf m (mx (sc q k))) (addf a b)) (pv (sc q k) (maximumf m (mx (sc q k))) v))) (pv (sc q k') (maximumf (maximumf m (mx (sc q k))) (mx (sc q k'))) v') := rfl
theorem p32 (q : FVec F S1024x256 .bf16) (m : FVec F S1024x1 .f32) (a : FVec F S1024x256 .f32) (k : Vec F S1x1x512x256 .bf16) (v : Vec F S1x512x256 .bf16) (k' : Vec F S1x1x512x256 .bf16) (v' : Vec F S1x512x256 .bf16) :
    k0_pay32 q m a k v k' v' = addf (rescale (maximumf m (mx (sc q k))) (maximumf (maximumf m (mx (sc q k))) (mx (sc q k'))) (addf (rescale m (maximumf m (mx (sc q k))) a) (pv (sc q k) (maximumf m (mx (sc q k))) v))) (pv (sc q k') (maximumf (maximumf m (mx (sc q k))) (mx (sc q k'))) v') := rfl
theorem p49 (q : FVec F S1024x256 .bf16) (m : FVec F S1024x1 .f32) (a : FVec F S1024x256 .f32) (k : Vec F S1x1x512x256 .bf16) (v : Vec F S1x512x256 .bf16) (k' : Vec F S1x1x512x256 .bf16) (v' : Vec F S1x512x256 .bf16) :
    k0_pay49 q m a k v k' v' = addf (rescale (maximumf m (mx (sc q k))) (maximumf (maximumf m (mx (sc q k))) (mx (sc q k'))) (addf (rescale m (maximumf m (mx (sc q k))) a) (pv (sc q k) (maximumf m (mx (sc q k))) v))) (pv (sc q k') (maximumf (maximumf m (mx (sc q k))) (mx (sc q k'))) v') := rfl
theorem p34 (q : FVec F S1024x256 .bf16) (m : FVec F S1024x1 .f32) (a : FVec F S1024x256 .f32) (k : Vec F S1x1x256x256 .bf16) (v : Vec F S1x256x256 .bf16) :
    k0_pay34 q m a (k0_pay33 k) (constant S1024x256 .f32 0x00000000#32) v = fin (stepC q (m, a) k v).2 := rfl
theorem p44 (x : Vec F S1x1x1024x256 .bf16) (q : FVec F S1024x256 .bf16) (m : FVec F S1024x1 .f32) (k0 : Vec F S1x1x512x256 .bf16) (v0 : Vec F S1x512x256 .bf16) (k : Vec F S1x1x512x256 .bf16) (v : Vec F S1x512x256 .bf16) (k' : Vec F S1x1x512x256 .bf16) (v' : Vec F S1x512x256 .bf16) :
    k0_pay44 q m (k0_pay38 x k0) (k0_pay39 v0) (constant S1024x256 .f32 0x00000000#32) k v k' v' = addf (rescale (maximumf m (mx (sc q k))) (maximumf (maximumf m (mx (sc q k))) (mx (sc q k'))) (addf (rescale m (maximumf m (mx (sc q k))) (pv (sc (shapeCast S1024x256 x shapeCasts_S1x1x1024x256_S1024x256) k0) (mx (sc (shapeCast S1024x256 x shapeCasts_S1x1x1024x256_S1024x256) k0)) v0)) (pv (sc q k) (maximumf m (mx (sc q k))) v))) (pv (sc q k') (maximumf (maximumf m (mx (sc q k))) (mx (sc q k'))) v') := rfl
theorem p52 (q : FVec F S1024x256 .bf16) (m : FVec F S1024x1 .f32) (k : Vec F S1x1x512x256 .bf16) :
    k0_pay52 q m (k0_pay50 k) (constant S1024x512 .f32 0x00000000#32) = (maximumf m (mx (sc q k))) := rfl
theorem p54 (q : FVec F S1024x256 .bf16) (m : FVec F S1024x1 .f32) (k k' : Vec F S1x1x512x256 .bf16) :
    k0_pay54 q m (k0_pay50 k) (constant S1024x512 .f32 0x00000000#32) k' = (maximumf (maximumf m (mx (sc q k))) (mx (sc q k'))) := rfl
theorem p55 (q : FVec F S1024x256 .bf16) (m : FVec F S1024x1 .f32) (a : FVec F S1024x256 .f32) (k : Vec F S1x1x512x256 .bf16) (v : Vec F S1x512x256 .bf16) (k' : Vec F S1x1x512x256 .bf16) (v' : Vec F S1x512x256 .bf16) :
    k0_pay55 q m a (k0_pay50 k) (constant S1024x512 .f32 0x00000000#32) v k' v' = addf (rescale (maximumf m (mx (sc q k))) (maximumf (maximumf m (mx (sc q k))) (mx (sc q k'))) (addf (rescale m (maximumf m (mx (sc q k))) a) (pv (sc q k) (maximumf m (mx (sc q k))) v))) (pv (sc q k') (maximumf (maximumf m (mx (sc q k))) (mx (sc q k'))) v') := rfl
theorem p58 (q : FVec F S1024x256 .bf16) (m : FVec F S1024x1 .f32) (a : FVec F S1024x256 .f32) (k : Vec F S1x1x512x256 .bf16) (v : Vec F S1x512x256 .bf16) (kc : Vec F S1x1x256x256 .bf16) (vc : Vec F S1x256x256 .bf16) :
    k0_pay1 (k0_pay58 q m a (sc q k) (mx (sc q k)) v kc vc) = fin (stepC q ((maximumf m (mx (sc q k))), addf (rescale m (maximumf m (mx (sc q k))) a) (pv (sc q k) (maximumf m (mx (sc q k))) v)) kc vc).2 := rfl

/-- The tile of head 0 of the two from the queries, the keys, the context keys and the two scratches. -/
def hd0 (x0 : Vec F S1x2x1024x256 .bf16) (x1 : Vec F S1x2x4096x256 .bf16) (x2 : Vec F S1x2x256x256 .bf16)
    (xs0 : Vec F S2x4096x256 .bf16) (xs1 : Vec F S2x256x256 .bf16) : FVec F S1x1024x128 .bf16 :=
  head (shapeCast S1024x256 (View.ld x0 (Rect.unit ![0, 0, 0, 0] S1x1x1024x256.size inb_S1x2x1024x256_S1x1x1024x256_0_0_0_0)) shapeCasts_S1x1x1024x256_S1024x256)
    (View.ld x1 (Rect.unit ![0, 0, 0, 0] S1x1x512x256.size inb_S1x2x4096x256_S1x1x512x256_0_0_0_0))
    (View.ld x1 (Rect.unit ![0, 0, 512, 0] S1x1x512x256.size inb_S1x2x4096x256_S1x1x512x256_0_0_512_0))
    (View.ld x1 (Rect.unit ![0, 0, 1024, 0] S1x1x512x256.size inb_S1x2x4096x256_S1x1x512x256_0_0_1024_0))
    (View.ld x1 (Rect.unit ![0, 0, 1536, 0] S1x1x512x256.size inb_S1x2x4096x256_S1x1x512x256_0_0_1536_0))
    (View.ld x1 (Rect.unit ![0, 0, 2048, 0] S1x1x512x256.size inb_S1x2x4096x256_S1x1x512x256_0_0_2048_0))
    (View.ld x1 (Rect.unit ![0, 0, 2560, 0] S1x1x512x256.size inb_S1x2x4096x256_S1x1x512x256_0_0_2560_0))
    (View.ld x1 (Rect.unit ![0, 0, 3072, 0] S1x1x512x256.size inb_S1x2x4096x256_S1x1x512x256_0_0_3072_0))
    (View.ld x1 (Rect.unit ![0, 0, 3584, 0] S1x1x512x256.size inb_S1x2x4096x256_S1x1x512x256_0_0_3584_0))
    (View.ld xs0 (Rect.unit ![0, 0, 0] S1x512x256.size inb_S2x4096x256_S1x512x256_0_0_0))
    (View.ld xs0 (Rect.unit ![0, 512, 0] S1x512x256.size inb_S2x4096x256_S1x512x256_0_512_0))
    (View.ld xs0 (Rect.unit ![0, 1024, 0] S1x512x256.size inb_S2x4096x256_S1x512x256_0_1024_0))
    (View.ld xs0 (Rect.unit ![0, 1536, 0] S1x512x256.size inb_S2x4096x256_S1x512x256_0_1536_0))
    (View.ld xs0 (Rect.unit ![0, 2048, 0] S1x512x256.size inb_S2x4096x256_S1x512x256_0_2048_0))
    (View.ld xs0 (Rect.unit ![0, 2560, 0] S1x512x256.size inb_S2x4096x256_S1x512x256_0_2560_0))
    (View.ld xs0 (Rect.unit ![0, 3072, 0] S1x512x256.size inb_S2x4096x256_S1x512x256_0_3072_0))
    (View.ld xs0 (Rect.unit ![0, 3584, 0] S1x512x256.size inb_S2x4096x256_S1x512x256_0_3584_0))
    (View.ld x2 (Rect.unit ![0, 0, 0, 0] S1x1x256x256.size inb_S1x2x256x256_S1x1x256x256_0_0_0_0))
    (View.ld xs1 (Rect.unit ![0, 0, 0] S1x256x256.size inb_S2x256x256_S1x256x256_0_0_0))

/-- The tile of head 1 of the two from the queries, the keys, the context keys and the two scratches. -/
def hd1 (x0 : Vec F S1x2x1024x256 .bf16) (x1 : Vec F S1x2x4096x256 .bf16) (x2 : Vec F S1x2x256x256 .bf16)
    (xs0 : Vec F S2x4096x256 .bf16) (xs1 : Vec F S2x256x256 .bf16) : FVec F S1x1024x128 .bf16 :=
  head (shapeCast S1024x256 (View.ld x0 (Rect.unit ![0, 1, 0, 0] S1x1x1024x256.size inb_S1x2x1024x256_S1x1x1024x256_0_1_0_0)) shapeCasts_S1x1x1024x256_S1024x256)
    (View.ld x1 (Rect.unit ![0, 1, 0, 0] S1x1x512x256.size inb_S1x2x4096x256_S1x1x512x256_0_1_0_0))
    (View.ld x1 (Rect.unit ![0, 1, 512, 0] S1x1x512x256.size inb_S1x2x4096x256_S1x1x512x256_0_1_512_0))
    (View.ld x1 (Rect.unit ![0, 1, 1024, 0] S1x1x512x256.size inb_S1x2x4096x256_S1x1x512x256_0_1_1024_0))
    (View.ld x1 (Rect.unit ![0, 1, 1536, 0] S1x1x512x256.size inb_S1x2x4096x256_S1x1x512x256_0_1_1536_0))
    (View.ld x1 (Rect.unit ![0, 1, 2048, 0] S1x1x512x256.size inb_S1x2x4096x256_S1x1x512x256_0_1_2048_0))
    (View.ld x1 (Rect.unit ![0, 1, 2560, 0] S1x1x512x256.size inb_S1x2x4096x256_S1x1x512x256_0_1_2560_0))
    (View.ld x1 (Rect.unit ![0, 1, 3072, 0] S1x1x512x256.size inb_S1x2x4096x256_S1x1x512x256_0_1_3072_0))
    (View.ld x1 (Rect.unit ![0, 1, 3584, 0] S1x1x512x256.size inb_S1x2x4096x256_S1x1x512x256_0_1_3584_0))
    (View.ld xs0 (Rect.unit ![1, 0, 0] S1x512x256.size inb_S2x4096x256_S1x512x256_1_0_0))
    (View.ld xs0 (Rect.unit ![1, 512, 0] S1x512x256.size inb_S2x4096x256_S1x512x256_1_512_0))
    (View.ld xs0 (Rect.unit ![1, 1024, 0] S1x512x256.size inb_S2x4096x256_S1x512x256_1_1024_0))
    (View.ld xs0 (Rect.unit ![1, 1536, 0] S1x512x256.size inb_S2x4096x256_S1x512x256_1_1536_0))
    (View.ld xs0 (Rect.unit ![1, 2048, 0] S1x512x256.size inb_S2x4096x256_S1x512x256_1_2048_0))
    (View.ld xs0 (Rect.unit ![1, 2560, 0] S1x512x256.size inb_S2x4096x256_S1x512x256_1_2560_0))
    (View.ld xs0 (Rect.unit ![1, 3072, 0] S1x512x256.size inb_S2x4096x256_S1x512x256_1_3072_0))
    (View.ld xs0 (Rect.unit ![1, 3584, 0] S1x512x256.size inb_S2x4096x256_S1x512x256_1_3584_0))
    (View.ld x2 (Rect.unit ![0, 1, 0, 0] S1x1x256x256.size inb_S1x2x256x256_S1x1x256x256_0_1_0_0))
    (View.ld xs1 (Rect.unit ![1, 0, 0] S1x256x256.size inb_S2x256x256_S1x256x256_1_0_0))

/-- The block a grid point stores: the tiles of its two heads beside each other. -/
def outBlk (x0 : Vec F S1x2x1024x256 .bf16) (x1 : Vec F S1x2x4096x256 .bf16) (x2 : Vec F S1x2x256x256 .bf16)
    (xs0 : Vec F S2x4096x256 .bf16) (xs1 : Vec F S2x256x256 .bf16) : Vec F S1x1024x256 .bf16 :=
  View.canon (Val := Elt F) [
    ⟨Rect.unit ![0, 0, 128] S1x1024x128.size inb_S1x1024x256_S1x1024x128_0_0_128, hd1 x0 x1 x2 xs0 xs1⟩,
    ⟨Rect.unit ![0, 0, 0] S1x1024x128.size inb_S1x1024x256_S1x1024x128_0_0_0, hd0 x0 x1 x2 xs0 xs1⟩]

/-- A point that is not the first of its run stores the block made with the scratches it finds. -/
theorem out_B (c : Dev nD) (t : Fin cfg0.N) (h0 : ¬t.val % 4 = 0)
    (x0 : Vec F S1x2x1024x256 .bf16) (x1 : Vec F S1x2x4096x256 .bf16) (x2 : Vec F S1x2x256x256 .bf16)
    (x3 : Vec F S1x2x4096x128 .bf16) (x4 : Vec F S1x2x256x128 .bf16)
    (xs0 : Vec F S2x4096x256 .bf16) (xs1 : Vec F S2x256x256 .bf16) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      scM0_1 (Memref.isWhole_whole _) (fun h => h0 ((hcond0_0 t).mp h)) x0 x1 x2 x3 x4 xs0 xs1 = outBlk x0 x1 x2 xs0 xs1 := by
  unfold out0_B_5
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (Memref.isWhole_whole _).read_unread]
  rw [View.read_writes_junk_eq_canon]
  simp only [p34, p44, p52, p54, p55, p10, p35, p11, p14, p36, p12, p37, p13, p15, p16, p17, p19, p23, p25, p28, p30, p40, p42, p45, p47, p53, p56, p18, p24, p29, p41, p46, p20, p26, p31, p43, p48, p21, p22, p27, p32, p49, p58]
  simp only [outBlk, hd0, hd1, head, step, first]
  rfl

/-- The first point of a run stores the block made with the scratches it leaves. -/
theorem out_A (c : Dev nD) (t : Fin cfg0.N) (h0 : t.val % 4 = 0)
    (x0 : Vec F S1x2x1024x256 .bf16) (x1 : Vec F S1x2x4096x256 .bf16) (x2 : Vec F S1x2x256x256 .bf16)
    (x3 : Vec F S1x2x4096x128 .bf16) (x4 : Vec F S1x2x256x128 .bf16) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      scM0_1 (Memref.isWhole_whole _) ((hcond0_0 t).mpr h0) x0 x1 x2 x3 x4
    = outBlk x0 x1 x2
      (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        scM0_1 (Memref.isWhole_whole _) ((hcond0_0 t).mpr h0) x0 x1 x2 x3 x4)
      (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        scM0_1 (Memref.isWhole_whole _) ((hcond0_0 t).mpr h0) x0 x1 x2 x3 x4) := by
  unfold out0_A_5 sout0_A_0 sout0_A_1
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (Memref.isWhole_whole _).read_unread]
  rw [View.read_writes_junk_eq_canon]
  simp only [View.read_writes_junk_eq_canon, View.readCov_eq_canon']
  simp only [p34, p44, p52, p54, p55, p10, p35, p11, p14, p36, p12, p37, p13, p15, p16, p17, p19, p23, p25, p28, p30, p40, p42, p45, p47, p53, p56, p18, p24, p29, p41, p46, p20, p26, p31, p43, p48, p21, p22, p27, p32, p49, p58]
  simp only [outBlk, hd0, hd1, head, step, first]
  rfl

end Cert.KernelIdeal.Att
end
-- ==== Proof.Att.Online.lean ====
/- The softmax of a row taken block by block, with powers of two: the running maximum and the running sums. -/
module
public import Idealize.ShloMosaic.Lib.Pointwise
@[expose] public section
noncomputable section
namespace Cert.Att
open Idealize.ShloMosaic

/-- A number that is not negative, times a sum, is the sum of the products. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

/-- A finite sum of numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many numbers, as a fold that begins at minus infinity. -/
theorem fold_max_coe {n : ℕ} (hn : 0 < n) (f : Fin n → ℝ) :
    ∃ M : ℝ, (Finset.univ.fold max (⊥ : EReal) fun k => (f k : EReal)) = (M : EReal) ∧ (∀ k, f k ≤ M) ∧ ∃ k, f k = M := by
  haveI : Nonempty (Fin n) := ⟨⟨0, hn⟩⟩
  obtain ⟨k, -, hk⟩ := Finset.exists_max_image (Finset.univ : Finset (Fin n)) f Finset.univ_nonempty
  refine ⟨f k, ?_, fun i => hk i (Finset.mem_univ i), k, rfl⟩
  apply le_antisymm
  · rw [Finset.fold_max_le]
    exact ⟨bot_le, fun i hi => by exact_mod_cast hk i hi⟩
  · rw [Finset.le_fold_max]
    exact Or.inr ⟨k, Finset.mem_univ k, le_rfl⟩

/-- After the first `n` scores `r`: `m` is their maximum and `a` the sum of `v` weighted by `2 ^ (r - m)`. -/
def Inv {D : Type*} (r : ℕ → ℝ) (v : ℕ → D → EReal) (n : ℕ) (m : EReal) (a : D → EReal) : Prop :=
  ∃ M : ℝ, m = (M : EReal) ∧ (∀ k < n, r k ≤ M) ∧ (∃ k < n, r k = M) ∧
    ∀ d, a d = ∑ k ∈ Finset.range n, v k d * ((2 : ℝ) ^ (r k - M) : ℝ)

theorem exp2_sub (a b : ℝ) : Ideal.exp2 ((a : EReal) - (b : EReal)) = (((2 : ℝ) ^ (a - b) : ℝ) : EReal) := by
  rw [← EReal.coe_sub, Ideal.exp2_coe]; rfl

/-- The first block. -/
theorem Inv.first {D : Type*} {r : ℕ → ℝ} {v : ℕ → D → EReal} {w : ℕ} (hw : 0 < w) {s : Fin w → EReal}
    {x : Fin w → D → EReal} (hs : ∀ k, s k = (r k.val : EReal)) (hx : ∀ k d, x k d = v k.val d)
    {m : EReal} (hm : m = Finset.univ.fold max (⊥ : EReal) s) {a : D → EReal}
    (ha : ∀ d, a d = ∑ k : Fin w, Ideal.exp2 (s k - m) * x k d) : Inv r v w m a := by
  obtain ⟨M, h, hle, k0, hk0⟩ := fold_max_coe hw fun k : Fin w => r k.val
  have hm' : m = (M : EReal) := by rw [hm, ← h]; congr 1; funext k; exact hs k
  refine ⟨M, hm', fun k hk => hle ⟨k, hk⟩, ⟨k0.val, k0.isLt, hk0⟩, fun d => ?_⟩
  rw [ha, Finset.sum_range]
  refine Finset.sum_congr rfl fun k _ => ?_
  rw [hs, hm', exp2_sub, hx, mul_comm]

/-- One more block. -/
theorem Inv.step {D : Type*} {r : ℕ → ℝ} {v : ℕ → D → EReal} {n w : ℕ} (hw : 0 < w) {m : EReal} {a : D → EReal}
    (hI : Inv r v n m a) {s : Fin w → EReal} {x : Fin w → D → EReal} (hs : ∀ k, s k = (r (n + k.val) : EReal))
    (hx : ∀ k d, x k d = v (n + k.val) d) {m' : EReal} (hm : m' = max m (Finset.univ.fold max (⊥ : EReal) s))
    {a' : D → EReal} (ha : ∀ d, a' d = a d * Ideal.exp2 (m - m') + ∑ k : Fin w, Ideal.exp2 (s k - m') * x k d) :
    Inv r v (n + w) m' a' := by
  obtain ⟨M0, hM0, hle0, ⟨k1, hk1, hk1'⟩, ha0⟩ := hI
  obtain ⟨M1, h, hle, k0, hk0⟩ := fold_max_coe hw fun k : Fin w => r (n + k.val)
  have hfold : Finset.univ.fold max (⊥ : EReal) s = (M1 : EReal) := by rw [← h]; congr 1; funext k; exact hs k
  have hm' : m' = ((max M0 M1 : ℝ) : EReal) := by rw [hm, hfold, hM0]; exact (Monotone.map_max EReal.coe_strictMono.monotone).symm
  refine ⟨max M0 M1, hm', ?_, ?_, fun d => ?_⟩
  · intro k hk
    rcases lt_or_ge k n with h1 | h1
    · exact (hle0 k h1).trans (le_max_left _ _)
    · have := hle ⟨k - n, by omega⟩
      simp only [Nat.add_sub_cancel' h1] at this
      exact this.trans (le_max_right _ _)
  · rcases le_total M0 M1 with h1 | h1
    · exact ⟨n + k0.val, by omega, by rw [max_eq_right h1]; exact hk0⟩
    · exact ⟨k1, by omega, by rw [max_eq_left h1]; exact hk1'⟩
  · rw [ha, ha0, hM0, hm', exp2_sub, sum_mul_coe _ _ (by positivity), Finset.sum_range_add]
    congr 1
    · refine Finset.sum_congr rfl fun k _ => ?_
      rw [mul_assoc, ← EReal.coe_mul, ← Real.rpow_add (by norm_num)]
      congr 3; ring
    · rw [Finset.sum_range]
      refine Finset.sum_congr rfl fun k _ => ?_
      rw [hs, exp2_sub, hx, mul_comm]

/-- The weighted mean: the sums over the sum of the weights, which is the sum at a column of ones. -/
theorem Inv.div {D : Type*} {r : ℕ → ℝ} {v : ℕ → D → EReal} {n : ℕ} {m : EReal} {a : D → EReal} (hI : Inv r v n m a)
    {d1 : D} (h1 : ∀ k < n, v k d1 = 1) :
    ∃ M : ℝ, (∀ k < n, r k ≤ M) ∧ (∃ k < n, r k = M) ∧ ∀ d, Ideal.div (a d) (a d1) =
      ∑ k ∈ Finset.range n, v k d * (((2 : ℝ) ^ (r k - M) / ∑ k ∈ Finset.range n, (2 : ℝ) ^ (r k - M) : ℝ) : EReal) := by
  obtain ⟨M, -, hle, ⟨k1, hk1, hk1'⟩, ha⟩ := hI
  refine ⟨M, hle, ⟨k1, hk1, hk1'⟩, fun d => ?_⟩
  have hL : a d1 = ((∑ k ∈ Finset.range n, (2 : ℝ) ^ (r k - M) : ℝ) : EReal) := by
    rw [ha, coe_sum]
    refine Finset.sum_congr rfl fun k hk => ?_
    rw [h1 k (Finset.mem_range.mp hk), one_mul]
  have hpos : 0 < ∑ k ∈ Finset.range n, (2 : ℝ) ^ (r k - M) :=
    Finset.sum_pos (fun k _ => by positivity) ⟨k1, Finset.mem_range.mpr hk1⟩
  rw [hL, Ideal.div_coe hpos.ne', ha, sum_mul_coe _ _ (by positivity)]
  refine Finset.sum_congr rfl fun k _ => ?_
  rw [mul_assoc, ← EReal.coe_mul]
  congr 2; ring

/-- The softmax of the scores times the logarithm of two, with the exponential: the same weights. -/
theorem softmax_two {ι : Type*} [Fintype ι] (r : ι → ℝ) (M : ℝ) (hle : ∀ k, r k ≤ M) (hM : ∃ k, r k = M)
    {m : EReal} (hm : m = Finset.univ.fold max (⊥ : EReal) fun k => (r k : EReal) * ((Real.log 2 : ℝ) : EReal)) (k : ι) :
    Ideal.div (Ideal.exp ((r k : EReal) * ((Real.log 2 : ℝ) : EReal) - m))
      (∑ k, Ideal.exp ((r k : EReal) * ((Real.log 2 : ℝ) : EReal) - m))
      = (((2 : ℝ) ^ (r k - M) / ∑ k, (2 : ℝ) ^ (r k - M) : ℝ) : EReal) := by
  have hlog : 0 < Real.log 2 := Real.log_pos (by norm_num)
  have hm' : m = ((M * Real.log 2 : ℝ) : EReal) := by
    rw [hm]
    apply le_antisymm
    · rw [Finset.fold_max_le]
      refine ⟨bot_le, fun i _ => ?_⟩
      rw [← EReal.coe_mul]
      exact_mod_cast mul_le_mul_of_nonneg_right (hle i) hlog.le
    · rw [Finset.le_fold_max]
      obtain ⟨i, hi⟩ := hM
      exact Or.inr ⟨i, Finset.mem_univ i, by rw [← EReal.coe_mul, hi]⟩
  have he : ∀ k, Ideal.exp ((r k : EReal) * ((Real.log 2 : ℝ) : EReal) - m) = (((2 : ℝ) ^ (r k - M) : ℝ) : EReal) := by
    intro k
    rw [hm', ← EReal.coe_mul, ← EReal.coe_sub, Ideal.exp_coe, Real.rpow_def_of_pos (by norm_num)]
    congr 2; ring
  have hpos : 0 < ∑ k, (2 : ℝ) ^ (r k - M) :=
    Finset.sum_pos (fun k _ => by positivity) (by obtain ⟨i, _⟩ := hM; exact ⟨i, Finset.mem_univ i⟩)
  simp only [he]
  rw [← coe_sum, Ideal.div_coe hpos.ne', ← EReal.coe_mul]
  congr 1; ring

end Cert.Att
end
-- ==== Proof.Att.Block.lean ====
/- A tile of the attention read at an index: the softmax of a row taken block by block. -/
module
public import proofs.«01_k».proof.Proof.Att.Pay
public import proofs.«01_k».proof.Proof.Att.Online
public import Idealize.ShloMosaic.Lib.Pointwise
@[expose] public section
set_option maxRecDepth 16384
noncomputable section
namespace Cert.KernelIdeal.Att
open Cert.KernelIdeal Cert.KernelIdeal.Gen Idealize.ShloMosaic Cert.Att

/-- The word of minus infinity. -/
theorem ninf : Ideal.ofBits .f32 0xFF800000#32 = (⊥ : EReal) := by
  simp [Ideal.ofBits, Ideal.ieee]

theorem sc_apply (q : FVec Ideal S1024x256 .bf16) (k : Vec Ideal S1x1x512x256 .bf16) (i : Fin 1024) (j : Fin 512) :
    sc q k (ix2 i j) = ∑ d : Fin 256, q (ix2 i d) * k (ix4 0 0 j d) := by
  pointwise [sc]

theorem mx_apply (s : FVec Ideal S1024x512 .f32) (i : Fin 1024) :
    mx s (ix2 i 0) = Finset.univ.fold max (⊥ : EReal) fun k : Fin 512 => s (ix2 i k) := by
  pointwise [mx]
  rw [ninf]

theorem pv_apply (s : FVec Ideal S1024x512 .f32) (m : FVec Ideal S1024x1 .f32) (v : Vec Ideal S1x512x256 .bf16) (i : Fin 1024)
    (d : Fin 256) : pv s m v (ix2 i d) = ∑ k : Fin 512, Ideal.exp2 (s (ix2 i k) - m (ix2 i 0)) * v (ix3 0 k d) := by
  pointwise [pv]
  rfl

theorem rescale_apply (m m' : FVec Ideal S1024x1 .f32) (a : FVec Ideal S1024x256 .f32) (i : Fin 1024) (d : Fin 256) :
    rescale m m' a (ix2 i d) = a (ix2 i d) * Ideal.exp2 (m (ix2 i 0) - m' (ix2 i 0)) := by
  pointwise [rescale]
  rfl

theorem scC_apply (q : FVec Ideal S1024x256 .bf16) (k : Vec Ideal S1x1x256x256 .bf16) (i : Fin 1024) (j : Fin 256) :
    scC q k (ix2 i j) = ∑ d : Fin 256, q (ix2 i d) * k (ix4 0 0 j d) := by
  pointwise [scC]

theorem mxC_apply (s : FVec Ideal S1024x256 .f32) (i : Fin 1024) :
    mxC s (ix2 i 0) = Finset.univ.fold max (⊥ : EReal) fun k : Fin 256 => s (ix2 i k) := by
  pointwise [mxC]
  rw [ninf]

theorem pvC_apply (s : FVec Ideal S1024x256 .f32) (m : FVec Ideal S1024x1 .f32) (v : Vec Ideal S1x256x256 .bf16) (i : Fin 1024)
    (d : Fin 256) : pvC s m v (ix2 i d) = ∑ k : Fin 256, Ideal.exp2 (s (ix2 i k) - m (ix2 i 0)) * v (ix3 0 k d) := by
  pointwise [pvC]
  rfl

theorem fin_apply (a : FVec Ideal S1024x256 .f32) (i : Fin 1024) (d : Fin 128) :
    fin a (ix3 0 i d) = Ideal.div (a (ix2 i ⟨d.val, by omega⟩)) (a (ix2 i ⟨128, by omega⟩)) := by
  pointwise [fin]

/-- The state of row `i` after the first `n` keys. -/
def InvAt (r : ℕ → ℝ) (v : ℕ → Fin 256 → EReal) (n : ℕ) (st : St Ideal) (i : Fin 1024) : Prop :=
  Inv r v n (st.1 (ix2 i 0)) fun d => st.2 (ix2 i d)

theorem first_inv {r : ℕ → ℝ} {v : ℕ → Fin 256 → EReal} {q : FVec Ideal S1024x256 .bf16} {k : Vec Ideal S1x1x512x256 .bf16}
    {x : Vec Ideal S1x512x256 .bf16} {i : Fin 1024}
    (hk : ∀ j : Fin 512, ∑ d : Fin 256, q (ix2 i d) * k (ix4 0 0 j d) = (r (0 + j.val) : EReal))
    (hx : ∀ (j : Fin 512) d, x (ix3 0 j d) = v (0 + j.val) d) : InvAt r v 512 (first q k x) i := by
  refine Inv.first (by norm_num) (s := fun j : Fin 512 => sc q k (ix2 i j)) (x := fun (j : Fin 512) d => x (ix3 0 j d)) ?_ ?_ ?_ ?_
  · intro j; rw [sc_apply, hk, zero_add]
  · intro j d; rw [hx, zero_add]
  · simp only [first]; rw [mx_apply]
  · intro d; simp only [first]; rw [pv_apply]

theorem step_inv {r : ℕ → ℝ} {v : ℕ → Fin 256 → EReal} {n : ℕ} {q : FVec Ideal S1024x256 .bf16} {st : St Ideal}
    {k : Vec Ideal S1x1x512x256 .bf16} {x : Vec Ideal S1x512x256 .bf16} {i : Fin 1024} (hI : InvAt r v n st i)
    (hk : ∀ j : Fin 512, ∑ d : Fin 256, q (ix2 i d) * k (ix4 0 0 j d) = (r (n + j.val) : EReal))
    (hx : ∀ (j : Fin 512) d, x (ix3 0 j d) = v (n + j.val) d) : InvAt r v (n + 512) (step q st k x) i := by
  refine Inv.step (by norm_num) hI (s := fun j : Fin 512 => sc q k (ix2 i j)) (x := fun (j : Fin 512) d => x (ix3 0 j d)) ?_ hx ?_ ?_
  · intro j; rw [sc_apply, hk]
  · rw [← mx_apply]; rfl
  · intro d
    have h : (step q st k x).2 (ix2 i d) = rescale st.1 (maximumf st.1 (mx (sc q k))) st.2 (ix2 i d)
        + pv (sc q k) (maximumf st.1 (mx (sc q k))) x (ix2 i d) := rfl
    rw [h, rescale_apply, pv_apply]; rfl

theorem stepC_inv {r : ℕ → ℝ} {v : ℕ → Fin 256 → EReal} {n : ℕ} {q : FVec Ideal S1024x256 .bf16} {st : St Ideal}
    {k : Vec Ideal S1x1x256x256 .bf16} {x : Vec Ideal S1x256x256 .bf16} {i : Fin 1024} (hI : InvAt r v n st i)
    (hk : ∀ j : Fin 256, ∑ d : Fin 256, q (ix2 i d) * k (ix4 0 0 j d) = (r (n + j.val) : EReal))
    (hx : ∀ (j : Fin 256) d, x (ix3 0 j d) = v (n + j.val) d) : InvAt r v (n + 256) (stepC q st k x) i := by
  refine Inv.step (by norm_num) hI (s := fun j : Fin 256 => scC q k (ix2 i j)) (x := fun (j : Fin 256) d => x (ix3 0 j d)) ?_ hx ?_ ?_
  · intro j; rw [scC_apply, hk]
  · rw [← mxC_apply]; rfl
  · intro d
    have h : (stepC q st k x).2 (ix2 i d) = rescale st.1 (maximumf st.1 (mxC (scC q k))) st.2 (ix2 i d)
        + pvC (scC q k) (maximumf st.1 (mxC (scC q k))) x (ix2 i d) := rfl
    rw [h, rescale_apply, pvC_apply]; rfl

end Cert.KernelIdeal.Att
end
-- ==== Proof.Att.Head.lean ====
/- The tile of a head read at an index: each row is the softmax-weighted sum of its values over all 4352 keys. -/
module
public import proofs.«01_k».proof.Proof.Att.Block
@[expose] public section
set_option maxRecDepth 16384
noncomputable section
namespace Cert.KernelIdeal.Att
open Cert.KernelIdeal Cert.KernelIdeal.Gen Idealize.ShloMosaic Cert.Att

/-- What a row of the tile holds when its scores are `r` and the values `v`, the largest score being `M`. -/
def RowIs (r : ℕ → ℝ) (v : ℕ → Fin 256 → EReal) (o : Fin 128 → EReal) : Prop :=
  ∃ M : ℝ, (∀ k < 4352, r k ≤ M) ∧ (∃ k < 4352, r k = M) ∧ ∀ d : Fin 128, o d =
    ∑ k ∈ Finset.range 4352, v k ⟨d.val, by omega⟩ *
      (((2 : ℝ) ^ (r k - M) / ∑ k ∈ Finset.range 4352, (2 : ℝ) ^ (r k - M) : ℝ) : EReal)

/-- A row of the tile of a head, from its scores and its values block by block. -/
theorem head_apply {r : ℕ → ℝ} {v : ℕ → Fin 256 → EReal} {q : FVec Ideal S1024x256 .bf16}
    {k0 k1 k2 k3 k4 k5 k6 k7 : Vec Ideal S1x1x512x256 .bf16} {v0 v1 v2 v3 v4 v5 v6 v7 : Vec Ideal S1x512x256 .bf16}
    {kc : Vec Ideal S1x1x256x256 .bf16} {vc : Vec Ideal S1x256x256 .bf16} {i : Fin 1024}
    (hk0 : ∀ j : Fin 512, ∑ d : Fin 256, q (ix2 i d) * k0 (ix4 0 0 j d) = (r (0 + j.val) : EReal))
    (hk1 : ∀ j : Fin 512, ∑ d : Fin 256, q (ix2 i d) * k1 (ix4 0 0 j d) = (r (512 + j.val) : EReal))
    (hk2 : ∀ j : Fin 512, ∑ d : Fin 256, q (ix2 i d) * k2 (ix4 0 0 j d) = (r (1024 + j.val) : EReal))
    (hk3 : ∀ j : Fin 512, ∑ d : Fin 256, q (ix2 i d) * k3 (ix4 0 0 j d) = (r (1536 + j.val) : EReal))
    (hk4 : ∀ j : Fin 512, ∑ d : Fin 256, q (ix2 i d) * k4 (ix4 0 0 j d) = (r (2048 + j.val) : EReal))
    (hk5 : ∀ j : Fin 512, ∑ d : Fin 256, q (ix2 i d) * k5 (ix4 0 0 j d) = (r (2560 + j.val) : EReal))
    (hk6 : ∀ j : Fin 512, ∑ d : Fin 256, q (ix2 i d) * k6 (ix4 0 0 j d) = (r (3072 + j.val) : EReal))
    (hk7 : ∀ j : Fin 512, ∑ d : Fin 256, q (ix2 i d) * k7 (ix4 0 0 j d) = (r (3584 + j.val) : EReal))
    (hkc : ∀ j : Fin 256, ∑ d : Fin 256, q (ix2 i d) * kc (ix4 0 0 j d) = (r (4096 + j.val) : EReal))
    (hv0 : ∀ (j : Fin 512) d, v0 (ix3 0 j d) = v (0 + j.val) d)
    (hv1 : ∀ (j : Fin 512) d, v1 (ix3 0 j d) = v (512 + j.val) d)
    (hv2 : ∀ (j : Fin 512) d, v2 (ix3 0 j d) = v (1024 + j.val) d)
    (hv3 : ∀ (j : Fin 512) d, v3 (ix3 0 j d) = v (1536 + j.val) d)
    (hv4 : ∀ (j : Fin 512) d, v4 (ix3 0 j d) = v (2048 + j.val) d)
    (hv5 : ∀ (j : Fin 512) d, v5 (ix3 0 j d) = v (2560 + j.val) d)
    (hv6 : ∀ (j : Fin 512) d, v6 (ix3 0 j d) = v (3072 + j.val) d)
    (hv7 : ∀ (j : Fin 512) d, v7 (ix3 0 j d) = v (3584 + j.val) d)
    (hvc : ∀ (j : Fin 256) d, vc (ix3 0 j d) = v (4096 + j.val) d) (h1 : ∀ k < 4352, v k ⟨128, by omega⟩ = 1) :
    RowIs r v fun d => head q k0 k1 k2 k3 k4 k5 k6 k7 v0 v1 v2 v3 v4 v5 v6 v7 kc vc (ix3 0 i d) := by
  have I0 := first_inv hk0 hv0
  have I1 := step_inv I0 hk1 hv1
  have I2 := step_inv I1 hk2 hv2
  have I3 := step_inv I2 hk3 hv3
  have I4 := step_inv I3 hk4 hv4
  have I5 := step_inv I4 hk5 hv5
  have I6 := step_inv I5 hk6 hv6
  have I7 := step_inv I6 hk7 hv7
  have I8 := stepC_inv I7 hkc hvc
  obtain ⟨M, h, h', hd⟩ := Inv.div I8 h1
  refine ⟨M, h, h', fun d => ?_⟩
  show fin _ _ = _
  rw [fin_apply]
  exact hd ⟨d.val, by omega⟩

/-- A row of the tile of head 0 from the blocks and the scratches. -/
theorem hd0_apply {r : ℕ → ℝ} {v : ℕ → Fin 256 → EReal} {x0 : Vec Ideal S1x2x1024x256 .bf16} {x1 : Vec Ideal S1x2x4096x256 .bf16}
    {x2 : Vec Ideal S1x2x256x256 .bf16} {xs0 : Vec Ideal S2x4096x256 .bf16} {xs1 : Vec Ideal S2x256x256 .bf16} {i : Fin 1024}
    (hk : ∀ j : Fin 4096, ∑ d : Fin 256, x0 (ix4 0 0 i d) * x1 (ix4 0 0 j d) = (r j.val : EReal))
    (hkc : ∀ j : Fin 256, ∑ d : Fin 256, x0 (ix4 0 0 i d) * x2 (ix4 0 0 j d) = (r (4096 + j.val) : EReal))
    (hv : ∀ (j : Fin 4096) d, xs0 (ix3 0 j d) = v j.val d) (hvc : ∀ (j : Fin 256) d, xs1 (ix3 0 j d) = v (4096 + j.val) d)
    (h1 : ∀ k < 4352, v k ⟨128, by omega⟩ = 1) : RowIs r v fun d => hd0 x0 x1 x2 xs0 xs1 (ix3 0 i d) := by
  unfold hd0
  apply head_apply <;> try exact h1
  · intro j; rw [← hk ⟨0 + j.val, by omega⟩]; pointwise
  · intro j; rw [← hk ⟨512 + j.val, by omega⟩]; pointwise
  · intro j; rw [← hk ⟨1024 + j.val, by omega⟩]; pointwise
  · intro j; rw [← hk ⟨1536 + j.val, by omega⟩]; pointwise
  · intro j; rw [← hk ⟨2048 + j.val, by omega⟩]; pointwise
  · intro j; rw [← hk ⟨2560 + j.val, by omega⟩]; pointwise
  · intro j; rw [← hk ⟨3072 + j.val, by omega⟩]; pointwise
  · intro j; rw [← hk ⟨3584 + j.val, by omega⟩]; pointwise
  · intro j; rw [← hkc j]; pointwise
  · intro j d; rw [← hv ⟨0 + j.val, by omega⟩ d]; pointwise
  · intro j d; rw [← hv ⟨512 + j.val, by omega⟩ d]; pointwise
  · intro j d; rw [← hv ⟨1024 + j.val, by omega⟩ d]; pointwise
  · intro j d; rw [← hv ⟨1536 + j.val, by omega⟩ d]; pointwise
  · intro j d; rw [← hv ⟨2048 + j.val, by omega⟩ d]; pointwise
  · intro j d; rw [← hv ⟨2560 + j.val, by omega⟩ d]; pointwise
  · intro j d; rw [← hv ⟨3072 + j.val, by omega⟩ d]; pointwise
  · intro j d; rw [← hv ⟨3584 + j.val, by omega⟩ d]; pointwise
  · intro j d; rw [← hvc j d]; pointwise

/-- A row of the tile of head 1 from the blocks and the scratches. -/
theorem hd1_apply {r : ℕ → ℝ} {v : ℕ → Fin 256 → EReal} {x0 : Vec Ideal S1x2x1024x256 .bf16} {x1 : Vec Ideal S1x2x4096x256 .bf16}
    {x2 : Vec Ideal S1x2x256x256 .bf16} {xs0 : Vec Ideal S2x4096x256 .bf16} {xs1 : Vec Ideal S2x256x256 .bf16} {i : Fin 1024}
    (hk : ∀ j : Fin 4096, ∑ d : Fin 256, x0 (ix4 0 1 i d) * x1 (ix4 0 1 j d) = (r j.val : EReal))
    (hkc : ∀ j : Fin 256, ∑ d : Fin 256, x0 (ix4 0 1 i d) * x2 (ix4 0 1 j d) = (r (4096 + j.val) : EReal))
    (hv : ∀ (j : Fin 4096) d, xs0 (ix3 1 j d) = v j.val d) (hvc : ∀ (j : Fin 256) d, xs1 (ix3 1 j d) = v (4096 + j.val) d)
    (h1 : ∀ k < 4352, v k ⟨128, by omega⟩ = 1) : RowIs r v fun d => hd1 x0 x1 x2 xs0 xs1 (ix3 0 i d) := by
  unfold hd1
  apply head_apply <;> try exact h1
  · intro j; rw [← hk ⟨0 + j.val, by omega⟩]; pointwise
  · intro j; rw [← hk ⟨512 + j.val, by omega⟩]; pointwise
  · intro j; rw [← hk ⟨1024 + j.val, by omega⟩]; pointwise
  · intro j; rw [← hk ⟨1536 + j.val, by omega⟩]; pointwise
  · intro j; rw [← hk ⟨2048 + j.val, by omega⟩]; pointwise
  · intro j; rw [← hk ⟨2560 + j.val, by omega⟩]; pointwise
  · intro j; rw [← hk ⟨3072 + j.val, by omega⟩]; pointwise
  · intro j; rw [← hk ⟨3584 + j.val, by omega⟩]; pointwise
  · intro j; rw [← hkc j]; pointwise
  · intro j d; rw [← hv ⟨0 + j.val, by omega⟩ d]; pointwise
  · intro j d; rw [← hv ⟨512 + j.val, by omega⟩ d]; pointwise
  · intro j d; rw [← hv ⟨1024 + j.val, by omega⟩ d]; pointwise
  · intro j d; rw [← hv ⟨1536 + j.val, by omega⟩ d]; pointwise
  · intro j d; rw [← hv ⟨2048 + j.val, by omega⟩ d]; pointwise
  · intro j d; rw [← hv ⟨2560 + j.val, by omega⟩ d]; pointwise
  · intro j d; rw [← hv ⟨3072 + j.val, by omega⟩ d]; pointwise
  · intro j d; rw [← hv ⟨3584 + j.val, by omega⟩ d]; pointwise
  · intro j d; rw [← hvc j d]; pointwise

end Cert.KernelIdeal.Att
end
-- ==== Proof.Att.Vals.lean ====
/- What the first point of a run leaves in the two scratches: the values of its two heads, a column of ones after them. -/
module
public import proofs.«01_k».proof.Proof.Att.Head
public import Idealize.ShloMosaic.Lib.Pipeline.ValueKit
@[expose] public section
set_option maxRecDepth 16384
noncomputable section
namespace Cert.KernelIdeal.Att
open Cert.KernelIdeal Cert.KernelIdeal.Gen Idealize.ShloMosaic Idealize.ShloMosaic.TcCoe Idealize.SL.Sem Idealize.ShloMosaic.Tactic Cert.Att

/-- The 128 values of a key, then a one, then zeros. -/
def vx (v : Fin 128 → EReal) (d : Fin 256) : EReal := if h : d.val < 128 then v ⟨d.val, h⟩ else if d.val = 128 then 1 else 0

theorem one_at {n : ℕ} (hn : n < 128) :
    Scalar.select (IntOp.cmpi CmpIPredicate.eq (BitVec.ofNat 32 n) 0#32) (1 : EReal) 0 = if n = 0 then 1 else 0 := by
  by_cases h : n = 0
  · subst h; rfl
  · have hne : BitVec.ofNat 32 n ≠ 0#32 := by
      intro e
      have := congrArg BitVec.toNat e
      simp at this; omega
    rw [if_neg h]
    have hb : (BitVec.ofNat 32 n == 0#32) = false := beq_eq_false_iff_ne.mpr hne
    show (if BitVec.ofBool (BitVec.ofNat 32 n == 0#32) = 1#1 then (1 : EReal) else 0) = 0
    rw [hb]; rfl

theorem ones_piece {f : Fin 128 → EReal} {k n : ℕ} (hn : n < 128) (hk : k = 128 + n) :
    Scalar.select (IntOp.cmpi CmpIPredicate.eq (BitVec.ofNat 32 n) 0#32) (1 : EReal) 0
      = if h : k < 128 then f ⟨k, h⟩ else if k = 128 then 1 else 0 := by
  rw [one_at hn, dif_neg (by omega)]
  by_cases h : n = 0
  · rw [if_pos h, if_pos (by omega)]
  · rw [if_neg h, if_neg (by omega)]

/-- The scratch of the values of the keys after the first point of a run. -/
theorem scr0 (c : Dev nD) (t : Fin cfg0.N) (h0 : t.val % 4 = 0)
    (x0 : Vec Ideal S1x2x1024x256 .bf16) (x1 : Vec Ideal S1x2x4096x256 .bf16) (x2 : Vec Ideal S1x2x256x256 .bf16)
    (x3 : Vec Ideal S1x2x4096x128 .bf16) (x4 : Vec Ideal S1x2x256x128 .bf16) (y : S2x4096x256.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        scM0_1 (Memref.isWhole_whole _) ((hcond0_0 t).mpr h0) x0 x1 x2 x3 x4 y = vx (fun e => x3 (ix4 0 (y 0) (y 1) e)) (y 2) := by
  unfold sout0_A_0
  unfold kernelRun0_A
  dsimp only
  sl_unfold_words
  simp only [View.readAt_eq_ld, (hs0_3 t).read_unread]
  rw [View.read_writes_junk_eq_canon]
  canon_tiles x hh
  all_goals pointwise [k0_pay2, k0_pay3, k0_pay4, k0_pay5, vx]
  · exact ones_piece (f := fun e => x3 (ix4 0 (y 0) (y 1) e)) x2_lt hh2
  · rw [dif_pos (by omega)]; blk_ext
  · exact ones_piece (f := fun e => x3 (ix4 0 (y 0) (y 1) e)) x2_lt hh2
  · rw [dif_pos (by omega)]; blk_ext

/-- The scratch of the values of the context keys after the first point of a run. -/
theorem scr1 (c : Dev nD) (t : Fin cfg0.N) (h0 : t.val % 4 = 0)
    (x0 : Vec Ideal S1x2x1024x256 .bf16) (x1 : Vec Ideal S1x2x4096x256 .bf16) (x2 : Vec Ideal S1x2x256x256 .bf16)
    (x3 : Vec Ideal S1x2x4096x128 .bf16) (x4 : Vec Ideal S1x2x256x128 .bf16) (y : S2x256x256.Idx) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        scM0_1 (Memref.isWhole_whole _) ((hcond0_0 t).mpr h0) x0 x1 x2 x3 x4 y = vx (fun e => x4 (ix4 0 (y 0) (y 1) e)) (y 2) := by
  unfold sout0_A_1
  unfold kernelRun0_A
  dsimp only
  sl_unfold_words
  simp only [View.readAt_eq_ld, (hs0_4 t).read_unread]
  rw [View.read_writes_junk_eq_canon]
  canon_tiles x hh
  all_goals pointwise [k0_pay6, k0_pay7, k0_pay8, k0_pay9, vx]
  · exact ones_piece (f := fun e => x4 (ix4 0 (y 0) (y 1) e)) x2_lt hh2
  · rw [dif_pos (by omega)]; blk_ext
  · exact ones_piece (f := fun e => x4 (ix4 0 (y 0) (y 1) e)) x2_lt hh2
  · rw [dif_pos (by omega)]; blk_ext

/-- The two scratches after any point hold the values of the blocks of that point: over a run they stay. -/
theorem vblock_same : ∀ t : Fin cfg0.N, ¬t.val % 4 = 0 → ∀ t' : Fin cfg0.N, t'.val = t.val - 1 →
    win0_3.index t' = win0_3.index t ∧ win0_4.index t' = win0_4.index t :=
  (by decide +kernel : ∀ t : Fin grid0.N, ¬t.val % 4 = 0 → ∀ t' : Fin grid0.N, t'.val = t.val - 1 →
    win0_3.index t' = win0_3.index t ∧ win0_4.index t' = win0_4.index t)

variable (m : (ℓ : Loc nD τ sig) → Buf (Elt Ideal) ℓ)

theorem iblk3_same (c : Dev nD) (t t' : Fin cfg0.N) (e : win0_3.index t' = win0_3.index t) : iblk m c 3 t' = iblk m c 3 t := by
  funext x
  blk_ext [iblk, V, e]

theorem iblk4_same (c : Dev nD) (t t' : Fin cfg0.N) (e : win0_4.index t' = win0_4.index t) : iblk m c 4 t' = iblk m c 4 t := by
  funext x
  blk_ext [iblk, V, e]

theorem scr (c : Dev nD) : ∀ (n : ℕ) (hn : n < cfg0.N),
    (∀ y, (outsAt0 m c n hn).2.1 y = vx (fun e => iblk m c 3 ⟨n, hn⟩ (ix4 0 (y 0) (y 1) e)) (y 2)) ∧
    (∀ y, (outsAt0 m c n hn).2.2 y = vx (fun e => iblk m c 4 ⟨n, hn⟩ (ix4 0 (y 0) (y 1) e)) (y 2)) := by
  intro n
  induction n with
  | zero =>
    intro hn
    rw [show outsAt0 m c 0 hn = _ from outsAt0_A m c ⟨0, hn⟩ rfl]
    exact ⟨fun y => scr0 c ⟨0, hn⟩ rfl (iblk m c 0 ⟨0, hn⟩) (iblk m c 1 ⟨0, hn⟩) (iblk m c 2 ⟨0, hn⟩) (iblk m c 3 ⟨0, hn⟩) (iblk m c 4 ⟨0, hn⟩) y, fun y => scr1 c ⟨0, hn⟩ rfl (iblk m c 0 ⟨0, hn⟩) (iblk m c 1 ⟨0, hn⟩) (iblk m c 2 ⟨0, hn⟩) (iblk m c 3 ⟨0, hn⟩) (iblk m c 4 ⟨0, hn⟩) y⟩
  | succ n ih =>
    intro hn
    by_cases h0 : (n + 1) % 4 = 0
    · rw [show outsAt0 m c (n + 1) hn = _ from outsAt0_A m c ⟨n + 1, hn⟩ h0]
      exact ⟨fun y => scr0 c ⟨n + 1, hn⟩ h0 (iblk m c 0 ⟨n + 1, hn⟩) (iblk m c 1 ⟨n + 1, hn⟩) (iblk m c 2 ⟨n + 1, hn⟩) (iblk m c 3 ⟨n + 1, hn⟩) (iblk m c 4 ⟨n + 1, hn⟩) y, fun y => scr1 c ⟨n + 1, hn⟩ h0 (iblk m c 0 ⟨n + 1, hn⟩) (iblk m c 1 ⟨n + 1, hn⟩) (iblk m c 2 ⟨n + 1, hn⟩) (iblk m c 3 ⟨n + 1, hn⟩) (iblk m c 4 ⟨n + 1, hn⟩) y⟩
    · obtain ⟨e3, e4⟩ := vblock_same ⟨n + 1, hn⟩ h0 ⟨n, by omega⟩ rfl
      have eB := outsAt0_B m c ⟨n + 1, hn⟩ h0
      have e0 : (outsAt0 m c (n + 1) hn).2.1 = (outsAt0 m c n (by omega)).2.1 := congrArg (fun p => p.2.1) eB
      have e1 : (outsAt0 m c (n + 1) hn).2.2 = (outsAt0 m c n (by omega)).2.2 := congrArg (fun p => p.2.2) eB
      rw [e0, e1, ← iblk3_same m c _ _ e3, ← iblk4_same m c _ _ e4]
      exact ih (by omega)

end Cert.KernelIdeal.Att
end
-- ==== Proof.Att.Spec.lean ====
/- The attention as a formula over the arrays, and its rows. -/
module
public import proofs.«01_k».proof.Proof.Att.Vals
@[expose] public section
set_option maxRecDepth 16384
noncomputable section
namespace Cert.Att
open Idealize.ShloMosaic

section
variable {D : ℕ} (L : Fin 4 → Fin 12 → Fin 4096 → Fin D → EReal) (C : Fin 12 → Fin 1024 → Fin D → EReal)
/-- The rows of a head in the order the kernel meets them: the 4096 latent ones, then the 256 of the context of the sample. -/
def rowN (b : Fin 4) (h : Fin 12) (n : ℕ) (e : Fin D) : EReal :=
  if hn : n < 4096 then L b h ⟨n, hn⟩ e else C h ⟨256 * b.val + (n - 4096) % 256, by omega⟩ e

theorem rowN_lat (b : Fin 4) (h : Fin 12) (n : Fin 4096) (e : Fin D) : rowN L C b h n.val e = L b h n e := dif_pos n.isLt
theorem rowN_ctx (b : Fin 4) (h : Fin 12) (n : Fin 256) (e : Fin D) :
    rowN L C b h (4096 + n.val) e = C h ⟨256 * b.val + n.val, by omega⟩ e := by
  unfold rowN
  rw [dif_neg (by omega)]
  have hi : (⟨256 * b.val + (4096 + n.val - 4096) % 256, by omega⟩ : Fin 1024) = ⟨256 * b.val + n.val, by omega⟩ :=
    Fin.ext (by show 256 * b.val + (4096 + n.val - 4096) % 256 = 256 * b.val + n.val; omega)
  rw [hi]
end

variable (Q KL : Fin 4 → Fin 12 → Fin 4096 → Fin 256 → EReal) (VL : Fin 4 → Fin 12 → Fin 4096 → Fin 128 → EReal)
  (KC : Fin 12 → Fin 1024 → Fin 256 → EReal) (VC : Fin 12 → Fin 1024 → Fin 128 → EReal)

/-- The score of query `i` against key `n`. -/
def scoreN (b : Fin 4) (h : Fin 12) (i : Fin 4096) (n : ℕ) : EReal := ∑ e : Fin 256, Q b h i e * rowN KL KC b h n e

/-- The score as a real number. -/
def rr (b : Fin 4) (h : Fin 12) (i : Fin 4096) (n : ℕ) : ℝ := (scoreN Q KL KC b h i n).toReal

/-- The largest of the first 4352 numbers. -/
def top (r : ℕ → ℝ) : ℝ := (Finset.range 4352).sup' ⟨0, by simp⟩ r

/-- The weight of key `k` when the scores are `r`. -/
def wt (r : ℕ → ℝ) (k : ℕ) : ℝ := (2 : ℝ) ^ (r k - top r) / ∑ k ∈ Finset.range 4352, (2 : ℝ) ^ (r k - top r)

theorem top_unique {r : ℕ → ℝ} {M : ℝ} (h : ∀ k < 4352, r k ≤ M) (h' : ∃ k < 4352, r k = M) : top r = M := by
  obtain ⟨k, hk, rfl⟩ := h'
  exact le_antisymm (Finset.sup'_le _ _ fun j hj => h j (Finset.mem_range.mp hj))
    (Finset.le_sup' r (Finset.mem_range.mpr hk))

/-- The attention: the values weighted by the powers of two of the scores, normalised. -/
def att (b : Fin 4) (i : Fin 4096) (h : Fin 12) (d : Fin 128) : EReal :=
  ∑ k ∈ Finset.range 4352, rowN VL VC b h k d * (wt (rr Q KL KC b h i) k : EReal)

/-- All scores are numbers. -/
def Scored : Prop := ∀ b h i, ∀ n < 4352, scoreN Q KL KC b h i n = (rr Q KL KC b h i n : EReal)

/-- Products of numbers sum to a number. -/
theorem scored_of (hQ : ∀ b h i e, ∃ x : ℝ, Q b h i e = x) (hL : ∀ b h i e, ∃ x : ℝ, KL b h i e = x)
    (hC : ∀ h i e, ∃ x : ℝ, KC h i e = x) : Scored Q KL KC := by
  intro b h i n _
  have hk : ∀ e, ∃ x : ℝ, rowN KL KC b h n e = x := by
    intro e; unfold rowN; split
    · exact hL _ _ _ _
    · exact hC _ _ _
  choose x hx using hQ b h i
  choose y hy using hk
  have : scoreN Q KL KC b h i n = ((∑ e : Fin 256, x e * y e : ℝ) : EReal) := by
    unfold scoreN
    rw [coe_sum]
    exact Finset.sum_congr rfl fun e _ => by rw [hx, hy, EReal.coe_mul]
  rw [rr, this, EReal.toReal_coe]

variable {Q KL VL KC VC}

/-- A row of a tile of the kernel is a row of the attention. -/
theorem att_of_row {b : Fin 4} {i : Fin 4096} {h : Fin 12} {v : ℕ → Fin 256 → EReal} {o : Fin 128 → EReal}
    (H : Cert.KernelIdeal.Att.RowIs (rr Q KL KC b h i) v o) (hv : ∀ k (d : Fin 128), v k ⟨d.val, by omega⟩ = rowN VL VC b h k d)
    (d : Fin 128) : o d = att Q KL VL KC VC b i h d := by
  obtain ⟨M, h1, h2, ho⟩ := H
  rw [ho, ← top_unique h1 h2]
  exact Finset.sum_congr rfl fun k _ => by rw [hv]; rfl

end Cert.Att
end
-- ==== Proof.Att.Point.lean ====
/- The block of a grid point of the attention, at an index. -/
module
public import proofs.«01_k».proof.Proof.Att.Spec
@[expose] public section
set_option maxRecDepth 16384
noncomputable section
namespace Cert.KernelIdeal.Att
open Cert.KernelIdeal Cert.KernelIdeal.Gen Idealize.ShloMosaic Idealize.ShloMosaic.TcCoe Idealize.SL.Sem Idealize.ShloMosaic.Tactic Cert.Att

/-- The second half of a block is the tile of its second head, the first half that of its first. -/
theorem outBlk_apply (x0 : Vec Ideal S1x2x1024x256 .bf16) (x1 : Vec Ideal S1x2x4096x256 .bf16) (x2 : Vec Ideal S1x2x256x256 .bf16)
    (xs0 : Vec Ideal S2x4096x256 .bf16) (xs1 : Vec Ideal S2x256x256 .bf16) (y : S1x1024x256.Idx) (d : Fin 128) :
    ((y 2).val = d.val → outBlk x0 x1 x2 xs0 xs1 y = hd0 x0 x1 x2 xs0 xs1 (ix3 0 (y 1) d)) ∧
    ((y 2).val = 128 + d.val → outBlk x0 x1 x2 xs0 xs1 y = hd1 x0 x1 x2 xs0 xs1 (ix3 0 (y 1) d)) := by
  constructor
  all_goals
    intro hy
    unfold outBlk
    canon_tiles x hh
    · first | (exfalso; omega) | blk_ext
    · first | (exfalso; omega) | blk_ext

variable (m : (ℓ : Loc nD τ sig) → Buf (Elt Ideal) ℓ)

/-- The input blocks of a point. -/
abbrev X0 (c : Dev nD) (t : Fin cfg0.N) : Vec Ideal S1x2x1024x256 .bf16 := iblk m c 0 t
abbrev X1 (c : Dev nD) (t : Fin cfg0.N) : Vec Ideal S1x2x4096x256 .bf16 := iblk m c 1 t
abbrev X2 (c : Dev nD) (t : Fin cfg0.N) : Vec Ideal S1x2x256x256 .bf16 := iblk m c 2 t
abbrev X3 (c : Dev nD) (t : Fin cfg0.N) : Vec Ideal S1x2x4096x128 .bf16 := iblk m c 3 t
abbrev X4 (c : Dev nD) (t : Fin cfg0.N) : Vec Ideal S1x2x256x128 .bf16 := iblk m c 4 t

/-- What a point stores, over the scratches as it leaves them. -/
theorem out_eqA (c : Dev nD) (t : Fin cfg0.N) (h0 : t.val % 4 = 0) : (outsAt0 m c t.val t.isLt).1 = outBlk (X0 m c t) (X1 m c t) (X2 m c t)
    (outsAt0 m c t.val t.isLt).2.1 (outsAt0 m c t.val t.isLt).2.2 := by
  rw [outsAt0_A m c t h0]
  dsimp only
  exact out_A c t h0 (X0 m c t) (X1 m c t) (X2 m c t) (X3 m c t) (X4 m c t)

theorem out_eqB (c : Dev nD) (t : Fin cfg0.N) (h0 : ¬t.val % 4 = 0) : (outsAt0 m c t.val t.isLt).1 = outBlk (X0 m c t) (X1 m c t) (X2 m c t)
    (outsAt0 m c t.val t.isLt).2.1 (outsAt0 m c t.val t.isLt).2.2 := by
  generalize hx : outsAt0 m c t.val t.isLt = p
  have e := outsAt0_B m c t h0
  rw [hx] at e
  generalize outsAt0 m c (t.val - 1) (Nat.lt_of_le_of_lt (Nat.sub_le _ _) t.isLt) = p' at e
  subst e
  dsimp only
  exact out_B c t h0 (X0 m c t) (X1 m c t) (X2 m c t) (X3 m c t) (X4 m c t) _ _

theorem out_eq (c : Dev nD) (t : Fin cfg0.N) : (outsAt0 m c t.val t.isLt).1 = outBlk (X0 m c t) (X1 m c t) (X2 m c t)
    (outsAt0 m c t.val t.isLt).2.1 (outsAt0 m c t.val t.isLt).2.2 := by
  by_cases h0 : t.val % 4 = 0
  · exact out_eqA m c t h0
  · exact out_eqB m c t h0

/-- The arrays as functions of their coordinates. -/
abbrev Qf (c : Dev nD) : Fin 4 → Fin 12 → Fin 4096 → Fin 256 → EReal := fun b h i e => (m ((c : Thread nD τ).loc main_arg0) : S4x12x4096x256.Idx → EReal) (ix4 b h i e)
abbrev KLf (c : Dev nD) : Fin 4 → Fin 12 → Fin 4096 → Fin 256 → EReal := fun b h i e => (m ((c : Thread nD τ).loc main_arg1) : S4x12x4096x256.Idx → EReal) (ix4 b h i e)
abbrev VLf (c : Dev nD) : Fin 4 → Fin 12 → Fin 4096 → Fin 128 → EReal := fun b h i e => (m ((c : Thread nD τ).loc main_arg2) : S4x12x4096x128.Idx → EReal) (ix4 b h i e)
abbrev KCf (c : Dev nD) : Fin 12 → Fin 1024 → Fin 256 → EReal := fun h i e => (m ((c : Thread nD τ).loc main_arg3) : S1x12x1024x256.Idx → EReal) (ix4 0 h i e)
abbrev VCf (c : Dev nD) : Fin 12 → Fin 1024 → Fin 128 → EReal := fun h i e => (m ((c : Thread nD τ).loc main_arg4) : S1x12x1024x128.Idx → EReal) (ix4 0 h i e)

/-- The windows' block indices. -/
theorem idx : ∀ t : Fin cfg0.N, win0_0.index t = ![t.val / 24, t.val / 4 % 6, t.val % 4, 0] ∧ win0_1.index t = ![t.val / 24, t.val / 4 % 6, 0, 0]
    ∧ win0_2.index t = ![0, t.val / 4 % 6, t.val / 24, 0] ∧ win0_3.index t = ![t.val / 24, t.val / 4 % 6, 0, 0]
    ∧ win0_4.index t = ![0, t.val / 4 % 6, t.val / 24, 0] ∧ win0_5.index t = ![t.val / 24, t.val % 4, t.val / 4 % 6] :=
  (by decide +kernel : ∀ t : Fin grid0.N, win0_0.index t = ![t.val / 24, t.val / 4 % 6, t.val % 4, 0] ∧ win0_1.index t = ![t.val / 24, t.val / 4 % 6, 0, 0]
    ∧ win0_2.index t = ![0, t.val / 4 % 6, t.val / 24, 0] ∧ win0_3.index t = ![t.val / 24, t.val / 4 % 6, 0, 0]
    ∧ win0_4.index t = ![0, t.val / 4 % 6, t.val / 24, 0] ∧ win0_5.index t = ![t.val / 24, t.val % 4, t.val / 4 % 6])

section
variable (c : Dev nD) (t : Fin cfg0.N) (b : Fin 4) (h : Fin 12) (hh : Fin 2) (hb : b.val = t.val / 24) (hh' : h.val = 2 * (t.val / 4 % 6) + hh.val)
include hb hh'

theorem rd0 (i : Fin 1024) (I : Fin 4096) (hI : I.val = 1024 * (t.val % 4) + i.val) (e : Fin 256) : X0 m c t (ix4 0 hh i e) = Qf m c b h I e := by
  unfold Qf; blk_ext [X0, X1, X2, X3, X4, iblk, V, idx t]
theorem rd1 (j : Fin 4096) (e : Fin 256) : X1 m c t (ix4 0 hh j e) = KLf m c b h j e := by
  unfold KLf; blk_ext [X0, X1, X2, X3, X4, iblk, V, idx t]
theorem rd2 (j : Fin 256) (e : Fin 256) : X2 m c t (ix4 0 hh j e) = KCf m c h ⟨256 * b.val + j.val, by omega⟩ e := by
  unfold KCf; blk_ext [X0, X1, X2, X3, X4, iblk, V, idx t]
theorem rd3 (j : Fin 4096) (e : Fin 128) : X3 m c t (ix4 0 hh j e) = VLf m c b h j e := by
  unfold VLf; blk_ext [X0, X1, X2, X3, X4, iblk, V, idx t]
theorem rd4 (j : Fin 256) (e : Fin 128) : X4 m c t (ix4 0 hh j e) = VCf m c h ⟨256 * b.val + j.val, by omega⟩ e := by
  unfold VCf; blk_ext [X0, X1, X2, X3, X4, iblk, V, idx t]
end

/-- One element of the block of a point. -/
theorem point (c : Dev nD) (hS : Scored (Qf m c) (KLf m c) (KCf m c)) (t : Fin cfg0.N) (y : S1x1024x256.Idx)
    (b : Fin 4) (h : Fin 12) (hh : Fin 2) (I : Fin 4096) (d : Fin 128) (hb : b.val = t.val / 24)
    (hI : I.val = 1024 * (t.val % 4) + (y 1).val) (hh' : h.val = 2 * (t.val / 4 % 6) + hh.val) (hd : (y 2).val = 128 * hh.val + d.val) :
    (outsAt0 m c t.val t.isLt).1 y = att (Qf m c) (KLf m c) (VLf m c) (KCf m c) (VCf m c) b I h d := by
  have sk : ∀ j : Fin 4096, ∑ e : Fin 256, X0 m c t (ix4 0 hh (y 1) e) * X1 m c t (ix4 0 hh j e) = (rr (Qf m c) (KLf m c) (KCf m c) b h I j.val : EReal) := by
    intro j
    rw [← hS b h I j.val (by omega), scoreN]
    exact Finset.sum_congr rfl fun e _ => by rw [rd0 m c t b h hh hb hh' _ I hI, rd1 m c t b h hh hb hh', rowN_lat]
  have sc : ∀ j : Fin 256, ∑ e : Fin 256, X0 m c t (ix4 0 hh (y 1) e) * X2 m c t (ix4 0 hh j e) = (rr (Qf m c) (KLf m c) (KCf m c) b h I (4096 + j.val) : EReal) := by
    intro j
    rw [← hS b h I (4096 + j.val) (by omega), scoreN]
    exact Finset.sum_congr rfl fun e _ => by rw [rd0 m c t b h hh hb hh' _ I hI, rd2 m c t b h hh hb hh', rowN_ctx]
  have vk : ∀ (j : Fin 4096) d, (outsAt0 m c t.val t.isLt).2.1 (ix3 hh j d) = vx (rowN (VLf m c) (VCf m c) b h j.val) d := by
    intro j d
    rw [(scr m c t.val t.isLt).1]
    congr 1; funext e
    exact (rd3 m c t b h hh hb hh' j e).trans (rowN_lat _ _ _ _ _ _).symm
  have vc : ∀ (j : Fin 256) d, (outsAt0 m c t.val t.isLt).2.2 (ix3 hh j d) = vx (rowN (VLf m c) (VCf m c) b h (4096 + j.val)) d := by
    intro j d
    rw [(scr m c t.val t.isLt).2]
    congr 1; funext e
    exact (rd4 m c t b h hh hb hh' j e).trans (rowN_ctx _ _ _ _ _ _).symm
  have h1 : ∀ k < 4352, vx (rowN (VLf m c) (VCf m c) b h k) ⟨128, by omega⟩ = 1 := fun k _ => rfl
  have hv : ∀ k (d : Fin 128), vx (rowN (VLf m c) (VCf m c) b h k) ⟨d.val, by omega⟩ = rowN (VLf m c) (VCf m c) b h k d := fun k d => dif_pos d.isLt
  rw [out_eq]
  obtain ⟨o0, o1⟩ := outBlk_apply (X0 m c t) (X1 m c t) (X2 m c t) (outsAt0 m c t.val t.isLt).2.1 (outsAt0 m c t.val t.isLt).2.2 y d
  obtain rfl | rfl : hh = 0 ∨ hh = 1 := by omega
  · rw [o0 (by omega)]
    exact att_of_row (hd0_apply sk sc vk vc h1) hv d
  · rw [o1 (by omega)]
    exact att_of_row (hd1_apply sk sc vk vc h1) hv d

/-- The result array of the kernel, in closed form. -/
def G (c : Dev nD) : S4x4096x1536.Idx → EReal := fun x => att (Qf m c) (KLf m c) (VLf m c) (KCf m c) (VCf m c) (x 0) (x 1)
  ⟨(x 2).val / 128, by have : (x 2).val < 1536 := (x 2).isLt; omega⟩ ⟨(x 2).val % 128, by omega⟩

theorem final (c : Dev nD) (hS : Scored (Qf m c) (KLf m c) (KCf m c)) : (dats m 0 c).arrAt 5 cfg0.N = G m c := by
  refine (dats m 0 c).arrAt_eq_of_covers 5 _ (by decide +kernel) fun t _ y => ?_
  blk_simp
  rw [after0_5]
  have hy : (y 2).val < 256 := (y 2).isLt
  have hN : t.val < 96 := lt_of_lt_of_eq t.isLt N_0
  refine point m c hS t y _ _ ⟨(y 2).val / 128, by omega⟩ _ _ ?_ ?_ ?_ ?_
  all_goals blk_simp [idx t]
  all_goals (try dsimp only)
  all_goals omega
end Cert.KernelIdeal.Att
end
-- ==== Proof.Att.Ref.lean ====
/- The reference attention read at an index: the same formula, its keys in the other order. -/
module
public import proofs.«01_k».proof.Proof.Att.Spec
public import proofs.«01_k».proof.Proof.Gen.ReferenceIdeal.Read
@[expose] public section
set_option maxRecDepth 16384
noncomputable section
namespace Cert.Att

/-- Key `k` of the reference, whose context keys come first, in the kernel's numbering. -/
def σ (k : Fin 4352) : ℕ := if k.val < 256 then 4096 + k.val else k.val - 256

theorem σ_lt (k : Fin 4352) : σ k < 4352 := by unfold σ; split <;> omega

theorem σ_surj {n : ℕ} (hn : n < 4352) : ∃ k, σ k = n := by
  by_cases h : n < 4096
  · exact ⟨⟨n + 256, by omega⟩, by unfold σ; rw [if_neg (by simp)]; simp⟩
  · exact ⟨⟨n - 4096, by omega⟩, by unfold σ; rw [if_pos (by simp; omega)]; simp; omega⟩

theorem σ_inj : Function.Injective σ := by
  intro a b h
  unfold σ at h
  apply Fin.ext
  have := a.isLt; have := b.isLt
  split at h <;> split at h <;> omega

theorem sum_σ {M : Type*} [AddCommMonoid M] (f : ℕ → M) : ∑ k : Fin 4352, f (σ k) = ∑ n ∈ Finset.range 4352, f n := by
  refine Finset.sum_bij (fun k _ => σ k) (fun k _ => Finset.mem_range.mpr (σ_lt k)) (fun a _ b _ h => σ_inj h) ?_ fun _ _ => rfl
  intro n hn
  obtain ⟨k, hk⟩ := σ_surj (Finset.mem_range.mp hn)
  exact ⟨k, Finset.mem_univ _, hk⟩

/-- The reference's weights. -/
theorem softmax_σ {r : ℕ → ℝ} {m : EReal}
    (hm : m = Finset.univ.fold max (⊥ : EReal) fun k : Fin 4352 => (r (σ k) : EReal) * ((Real.log 2 : ℝ) : EReal)) (k : Fin 4352) :
    Idealize.ShloMosaic.Ideal.div (Idealize.ShloMosaic.Ideal.exp ((r (σ k) : EReal) * ((Real.log 2 : ℝ) : EReal) - m))
      (∑ k : Fin 4352, Idealize.ShloMosaic.Ideal.exp ((r (σ k) : EReal) * ((Real.log 2 : ℝ) : EReal) - m)) = (wt r (σ k) : EReal) := by
  have h0 : ∀ k, r (σ k) ≤ top r := fun k => Finset.le_sup' r (Finset.mem_range.mpr (σ_lt k))
  have h1 : ∃ k, r (σ k) = top r := by
    obtain ⟨n, hn, e⟩ := Finset.exists_mem_eq_sup' (⟨0, by simp⟩ : (Finset.range 4352).Nonempty) r
    obtain ⟨k, hk⟩ := σ_surj (Finset.mem_range.mp hn)
    exact ⟨k, by rw [hk]; exact e.symm⟩
  rw [softmax_two (fun k => r (σ k)) (top r) h0 h1 hm k]
  unfold wt
  rw [← sum_σ fun n => (2 : ℝ) ^ (r n - top r)]

section
open Cert.ReferenceIdeal Cert.ReferenceIdeal.Gen Cert.ReferenceIdeal.Read Idealize.ShloMosaic

variable (x0 x1 : FVec Ideal S4x12x4096x256 .bf16) (x2 : FVec Ideal S4x12x4096x128 .bf16) (x3 : FVec Ideal S1x12x1024x256 .bf16)
  (x4 : FVec Ideal S1x12x1024x128 .bf16)

theorem keys_apply (b : Fin 4) (h : Fin 12) (k : Fin 4352) (e : Fin 256) : val_main_v4 (F := Ideal) x1 x3 (ix4 b h k e)
    = rowN (fun b h i e => x1 (ix4 b h i e)) (fun h i e => x3 (ix4 0 h i e)) b h (σ k) e := by
  pointwise [val_main_v4, val_main_v2, val_main_v1, val_main_v0, val_main_v3]
  by_cases hk : k.val < 256
  · rw [dif_pos hk, σ, if_pos hk]
    refine Eq.trans ?_ (rowN_ctx _ _ b h ⟨k.val, hk⟩ e).symm
    blk_ext
  · rw [dif_neg hk, σ, if_neg hk]
    exact (rowN_lat (fun b h i e => x1 (ix4 b h i e)) (fun h i e => x3 (ix4 0 h i e)) b h ⟨k.val - 256, by omega⟩ e).symm

theorem vals_apply (b : Fin 4) (h : Fin 12) (k : Fin 4352) (e : Fin 128) : val_main_v9 (F := Ideal) x2 x4 (ix4 b h k e)
    = rowN (fun b h i e => x2 (ix4 b h i e)) (fun h i e => x4 (ix4 0 h i e)) b h (σ k) e := by
  pointwise [val_main_v9, val_main_v7, val_main_v6, val_main_v5, val_main_v8]
  by_cases hk : k.val < 256
  · rw [dif_pos hk, σ, if_pos hk]
    refine Eq.trans ?_ (rowN_ctx _ _ b h ⟨k.val, hk⟩ e).symm
    blk_ext
  · rw [dif_neg hk, σ, if_neg hk]
    exact (rowN_lat (fun b h i e => x2 (ix4 b h i e)) (fun h i e => x4 (ix4 0 h i e)) b h ⟨k.val - 256, by omega⟩ e).symm

theorem two : Ideal.ofBits .f32 0x40000000#32 = ((2 : ℝ) : EReal) := by
  simp [Ideal.ofBits, Ideal.ieee]
  rw [← EReal.coe_mul]
  norm_num

/-- The scores times the logarithm of two. -/
theorem score_apply (b : Fin 4) (h : Fin 12) (i : Fin 4096) (k : Fin 4352) : val_main_v14 (F := Ideal) x0 x1 x3 (ix4 b h i k)
    = scoreN (fun b h i e => x0 (ix4 b h i e)) (fun b h i e => x1 (ix4 b h i e)) (fun h i e => x3 (ix4 0 h i e)) b h i (σ k)
      * ((Real.log 2 : ℝ) : EReal) := by
  pointwise [val_main_v14, val_main_v13, val_main_v12, val_main_cst, val_main_v11, val_main_v10]
  rw [two, Ideal.log_coe, if_neg (by norm_num)]
  congr 1
  exact Finset.sum_congr rfl fun e _ => by rw [keys_apply]

theorem top_apply (b : Fin 4) (h : Fin 12) (i : Fin 4096) : val_main_v15 (F := Ideal) x0 x1 x3 (ix3 b h i)
    = Finset.univ.fold max (⊥ : EReal) fun k : Fin 4352 => val_main_v14 (F := Ideal) x0 x1 x3 (ix4 b h i k) := by
  unfold val_main_v15
  generalize val_main_v14 (F := Ideal) x0 x1 x3 = y
  pointwise [val_main_cst_0]
  rw [Cert.KernelIdeal.Att.ninf]

theorem exp_apply (b : Fin 4) (h : Fin 12) (i : Fin 4096) (k : Fin 4352) : val_main_v21 (F := Ideal) x0 x1 x3 (ix4 b h i k)
    = Ideal.exp (val_main_v14 (F := Ideal) x0 x1 x3 (ix4 b h i k) - val_main_v15 (F := Ideal) x0 x1 x3 (ix3 b h i)) := by
  have e18 : idx_main_v18 (idx_main_v19 (ix4 b h i k)) = ix3 b h i := by
    funext a; match a with
    | ⟨0, _⟩ => rfl
    | ⟨1, _⟩ => rfl
    | ⟨2, _⟩ => rfl
  rw [val_main_v21_apply, val_main_v20_apply, val_main_v19_apply, val_main_v18_apply, val_main_v17_apply, val_main_v16_apply,
    val_main_cst_1_apply, e18]
  generalize val_main_v14 (F := Ideal) x0 x1 x3 = y
  generalize val_main_v15 (F := Ideal) x0 x1 x3 = z
  show Ideal.exp (y _ - max (Ideal.ofBits .f32 0xFF800000#32) (z _)) = _
  rw [Cert.KernelIdeal.Att.ninf, max_eq_right bot_le]

theorem sum_apply (b : Fin 4) (h : Fin 12) (i : Fin 4096) : val_main_v22 (F := Ideal) x0 x1 x3 (ix3 b h i)
    = ∑ k : Fin 4352, val_main_v21 (F := Ideal) x0 x1 x3 (ix4 b h i k) := by
  unfold val_main_v22
  generalize val_main_v21 (F := Ideal) x0 x1 x3 = y
  pointwise [val_main_cst_2]

theorem div_apply (b : Fin 4) (h : Fin 12) (i : Fin 4096) (k : Fin 4352) : val_main_v25 (F := Ideal) x0 x1 x3 (ix4 b h i k)
    = Ideal.div (val_main_v21 (F := Ideal) x0 x1 x3 (ix4 b h i k)) (val_main_v22 (F := Ideal) x0 x1 x3 (ix3 b h i)) := by
  have e23 : idx_main_v23 (idx_main_v24 (ix4 b h i k)) = ix3 b h i := by
    funext a; match a with
    | ⟨0, _⟩ => rfl
    | ⟨1, _⟩ => rfl
    | ⟨2, _⟩ => rfl
  rw [val_main_v25_apply, val_main_v24_apply, val_main_v23_apply, e23]
  rfl

/-- The reference's weight of a key. -/
theorem w_apply (hS : Scored (fun b h i e => x0 (ix4 b h i e)) (fun b h i e => x1 (ix4 b h i e)) (fun h i e => x3 (ix4 0 h i e)))
    (b : Fin 4) (h : Fin 12) (i : Fin 4096) (k : Fin 4352) : val_main_v25 (F := Ideal) x0 x1 x3 (ix4 b h i k)
    = (wt (rr (fun b h i e => x0 (ix4 b h i e)) (fun b h i e => x1 (ix4 b h i e)) (fun h i e => x3 (ix4 0 h i e)) b h i) (σ k) : EReal) := by
  have hs : ∀ k, val_main_v14 (F := Ideal) x0 x1 x3 (ix4 b h i k) = (rr (fun b h i e => x0 (ix4 b h i e)) (fun b h i e => x1 (ix4 b h i e))
      (fun h i e => x3 (ix4 0 h i e)) b h i (σ k) : EReal) * ((Real.log 2 : ℝ) : EReal) := fun k => by
    rw [score_apply, hS b h i _ (σ_lt k)]
  have hm := top_apply x0 x1 x3 b h i
  simp only [hs] at hm
  rw [div_apply, sum_apply]
  simp only [exp_apply, hs]
  exact softmax_σ hm k

/-- The reference's result. -/
theorem out_apply (hS : Scored (fun b h i e => x0 (ix4 b h i e)) (fun b h i e => x1 (ix4 b h i e)) (fun h i e => x3 (ix4 0 h i e)))
    (b : Fin 4) (i : Fin 4096) (c : Fin 1536) : val_main_v29 (F := Ideal) x0 x1 x2 x3 x4 (ix3 b i c)
    = att (fun b h i e => x0 (ix4 b h i e)) (fun b h i e => x1 (ix4 b h i e)) (fun b h i e => x2 (ix4 b h i e))
      (fun h i e => x3 (ix4 0 h i e)) (fun h i e => x4 (ix4 0 h i e)) b i ⟨c.val / 128, by omega⟩ ⟨c.val % 128, by omega⟩ := by
  pointwise [val_main_v29, val_main_v28, val_main_v27, val_main_v26]
  unfold att
  rw [← sum_σ]
  exact Finset.sum_congr rfl fun k _ => by rw [vals_apply, w_apply x0 x1 x3 hS]
end
end Cert.Att
end
-- ==== Proof.Att.Claim.lean ====
/- The attention's claims: its precondition gives finite scores, and the two programs then agree. -/
module
public import proofs.«01_k».proof.Defs
public import proofs.«01_k».proof.Proof.Att.Point
public import proofs.«01_k».proof.Proof.Att.Ref
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
@[expose] public section
noncomputable section
namespace Cert.Att
open Idealize.ShloMosaic Idealize.SL.Sem

/-- The precondition's shape relations. -/
theorem preFacts : Cert.Pre_scores_finite.Facts := ⟨by decide, by decide⟩

/-- The bf16 word of `+∞`. -/
theorem pinf : Ideal.ofBits .bf16 0x7F80#16 = (⊤ : EReal) := by simp [Ideal.ofBits, Ideal.ieee]

/-- A value whose absolute value is below `+∞` is a real number. -/
theorem real_of_lt {x : EReal} (h : max x (-x) < ⊤) : ∃ r : ℝ, x = r := by
  refine ⟨x.toReal, (EReal.coe_toReal ?_ ?_).symm⟩
  · rintro rfl; simp at h
  · rintro rfl; simp at h

/-- The comparison's one bit, read back. -/
theorem lt_of_bit {a b : EReal} (h : FloatOps.cmpf (F := Ideal) .olt (φ := .bf16) a b = 1#1) : a < b := by
  by_contra hn
  simp [Ideal.cmpf_def, Ideal.cmp, hn] at h

/-- One component of the precondition: every element is a real number. -/
theorem real_of_bits {S : Shape} (x : FVec Ideal S .bf16) (hb : Cert.Pre_scores_finite.S_.BroadcastsInDim S ![])
    (h : cmpf .olt (Host.absf x) (broadcastInDim S ![] hb (constant (F := Ideal) Cert.Pre_scores_finite.S_ .bf16 0x7F80#16))
      = fun _ => 1#1) (i : S.Idx) : ∃ r : ℝ, x i = r := by
  have h1 : FloatOps.cmpf (F := Ideal) .olt (φ := .bf16) (max (x i) (-(x i))) (Ideal.ofBits .bf16 0x7F80#16) = 1#1 := congrFun h i
  rw [pinf] at h1
  exact real_of_lt (lt_of_bit h1)

end Cert.Att

namespace Cert.KernelIdeal.Att
open Idealize.ShloMosaic Idealize.SL.Sem Cert.Att

/-- The precondition makes every score a real number. -/
theorem scored (m : (ℓ : Loc nD τ sig) → Buf (Elt Ideal) ℓ)
    (h : haveI := preFacts; Cert.Pre_KernelIdeal_scores_finite m) (c : Dev nD) :
    Scored (Qf m c) (KLf m c) (KCf m c) := by
  obtain ⟨h0, h1, h3⟩ := h c
  exact scored_of _ _ _ (fun b h i e => real_of_bits _ _ h0 (ix4 b h i e)) (fun b h i e => real_of_bits _ _ h1 (ix4 b h i e))
    (fun h i e => real_of_bits _ _ h3 (ix4 0 h i e))

/-- The reference's result is the same function of the same arrays. -/
theorem ref_eq (m : (ℓ : Loc nD τ sig) → Buf (Elt Ideal) ℓ) (c : Dev nD) (hS : Scored (Qf m c) (KLf m c) (KCf m c)) :
    Cert.ReferenceIdeal.Read.val_main_v29 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = G m c := by
  funext x
  rw [eq_ix3 x]
  exact out_apply _ _ _ _ _ hS _ _ _

/-- At finite queries and keys the kernel and the reference end with the same result. -/
theorem agree : haveI := Cert.KernelIdeal.Gen.facts; haveI := Cert.ReferenceIdeal.Gen.facts; haveI := preFacts
    Cert.algebraic_KernelIdeal_ReferenceIdeal_pre_scores_finite := by
  intro m g m' g' hpre hag
  refine ⟨fun c => G m c, ?_, ?_⟩
  · refine (θ_run _ _ _).mono (fun r h c => ?_) (Cert.KernelIdeal.Value.run_blocks m g)
    obtain ⟨hv, ha⟩ := h c
    exact ⟨hv.trans (final m c (scored m hpre c)), ha⟩
  · refine (θ_run _ _ _).mono (fun r h c => ?_) (Cert.ReferenceIdeal.Value.run m' g')
    obtain ⟨hv, ha⟩ := h c
    refine ⟨hv.trans ?_, ha⟩
    obtain ⟨e0, e1, e2, e3, e4⟩ := hag c
    rw [Cert.ReferenceIdeal.Read.val_main_v29_eq, e0, e1, e2, e3, e4]
    exact ref_eq m c (scored m hpre c)

/-- The reference ends with its arguments unchanged and every counter zero. -/
theorem ref_frame : haveI := Cert.ReferenceIdeal.Gen.facts; Cert.quiescent_ReferenceIdeal := fun m g _ =>
  haveI := Cert.ReferenceIdeal.Gen.facts
  (θ_run Cert.ReferenceIdeal.defs _ _).mono
    (fun r h => And.intro (fun c => (h c).2) (sem_eq_zero_of_no_sems (by decide) r.2)) (Cert.ReferenceIdeal.Value.run m g)

end Cert.KernelIdeal.Att
end
-- ==== Proof.Up.Value.lean ====
/- The first feed-forward products: what the two scratches keep over a run of points, and what the result array holds. -/
module
public import proofs.«01_k».proof.Proof.Gen.Kernel2Ideal.Value
public import proofs.«01_k».proof.Proof.Gen.Reference2Ideal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem Idealize.ShloMosaic.Tactic
open Idealize.ShloMosaic.Pipeline (Dat)
namespace Cert.Kernel2Ideal.Up
open Cert.Kernel2Ideal Cert.Kernel2Ideal.Gen Cert.Reference2Ideal.Read
variable (m : (ℓ : Loc nD τ sig) → Buf (Elt Ideal) ℓ)

/-- The reference's result, over the call's three arrays. -/
abbrev REF (A : FVec Ideal S4x4096x2048 .bf16) (G U : FVec Ideal S2x2048x5632 .f32) : FVec Ideal S4x4096x5632 .bf16 :=
  val_main_v9 (F := Ideal) A G U

/-- Where each window's block lies at a grid point. -/
theorem idx : ∀ t : Fin cfg0.N, win0_0.index t = ![t.val / 4 % 4, t.val % 4, 0] ∧ win0_1.index t = ![1, 0, t.val / 16]
    ∧ win0_2.index t = ![1, 0, t.val / 16] ∧ win0_3.index t = ![t.val / 4 % 4, t.val % 4, t.val / 16] ∧ t.val / 16 < 11 :=
  (by decide +kernel : ∀ t : Fin grid0.N, _)

/-- Within a run of sixteen points the weights' blocks are the same. -/
theorem same (c : Dev nD) (t t' : Fin cfg0.N) (e : t'.val / 16 = t.val / 16) :
    iblk m c 1 t' = iblk m c 1 t ∧ iblk m c 2 t' = iblk m c 2 t := by
  have e1 : win0_1.index t' = win0_1.index t := by rw [(idx t').2.1, (idx t).2.1, e]
  have e2 : win0_2.index t' = win0_2.index t := by rw [(idx t').2.2.1, (idx t).2.2.1, e]
  constructor
  · funext x; blk_ext [iblk, V, e1]
  · funext x; blk_ext [iblk, V, e2]

/-- After the first point of a run the first scratch holds the gate's block of weights. -/
theorem scrA0 (c : Dev nD) (t : Fin cfg0.N) (h0 : t.val % 16 = 0) :
    (outsAt0 m c t.val t.isLt).2.1 = k0_pay1 (iblk m c 1 t) := by
  rw [outsAt0_A m c t h0]
  frame_out

/-- After the first point of a run the second scratch holds the other block of weights. -/
theorem scrA1 (c : Dev nD) (t : Fin cfg0.N) (h0 : t.val % 16 = 0) :
    (outsAt0 m c t.val t.isLt).2.2 = k0_pay2 (iblk m c 2 t) := by
  rw [outsAt0_A m c t h0]
  frame_out

/-- What the first point of a run stores. -/
theorem outA (c : Dev nD) (t : Fin cfg0.N) (h0 : t.val % 16 = 0) :
    (outsAt0 m c t.val t.isLt).1 = k0_pay3 (iblk m c 0 t) (k0_pay1 (iblk m c 1 t)) (k0_pay2 (iblk m c 2 t)) := by
  rw [outsAt0_A m c t h0]
  frame_out

/-- What a later point of a run stores, and that it leaves the scratches as they were. -/
theorem outB (c : Dev nD) (t : Fin cfg0.N) (h0 : ¬t.val % 16 = 0) :
    (outsAt0 m c t.val t.isLt).1 = k0_pay3 (iblk m c 0 t) (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h0]
  generalize outsAt0 m c (t.val - 1) (Nat.lt_of_le_of_lt (Nat.sub_le _ _) t.isLt) = p'
  frame_out
  exact congrArg₂ (k0_pay3 (iblk m c 0 t)) ((Memref.isWhole_whole _).read_unread _) ((Memref.isWhole_whole _).read_unread _)

/-- At every point the two scratches hold the weights' blocks of that point. -/
theorem scr (c : Dev nD) : ∀ (n : ℕ) (hn : n < cfg0.N),
    (outsAt0 m c n hn).2.1 = k0_pay1 (iblk m c 1 ⟨n, hn⟩) ∧ (outsAt0 m c n hn).2.2 = k0_pay2 (iblk m c 2 ⟨n, hn⟩) := by
  intro n
  induction n with
  | zero =>
    intro hn
    exact ⟨scrA0 m c ⟨0, hn⟩ rfl, scrA1 m c ⟨0, hn⟩ rfl⟩
  | succ n ih =>
    intro hn
    by_cases h0 : (n + 1) % 16 = 0
    · exact ⟨scrA0 m c ⟨n + 1, hn⟩ h0, scrA1 m c ⟨n + 1, hn⟩ h0⟩
    · have eB := outsAt0_B m c ⟨n + 1, hn⟩ h0
      have e0 : (outsAt0 m c (n + 1) hn).2.1 = (outsAt0 m c n (by omega)).2.1 := congrArg (fun p => p.2.1) eB
      have e1 : (outsAt0 m c (n + 1) hn).2.2 = (outsAt0 m c n (by omega)).2.2 := congrArg (fun p => p.2.2) eB
      obtain ⟨s1, s2⟩ := same m c ⟨n + 1, hn⟩ ⟨n, by omega⟩ (by dsimp only; omega)
      rw [e0, e1, ← s1, ← s2]
      exact ih (by omega)

/-- What any point stores. -/
theorem out (c : Dev nD) (t : Fin cfg0.N) :
    (outsAt0 m c t.val t.isLt).1 = k0_pay3 (iblk m c 0 t) (k0_pay1 (iblk m c 1 t)) (k0_pay2 (iblk m c 2 t)) := by
  by_cases h0 : t.val % 16 = 0
  · exact outA m c t h0
  · rw [outB m c t h0]
    obtain ⟨s1, s2⟩ := same m c t ⟨t.val - 1, Nat.lt_of_le_of_lt (Nat.sub_le _ _) t.isLt⟩ (by dsimp only; omega)
    obtain ⟨r1, r2⟩ := scr m c (t.val - 1) (Nat.lt_of_le_of_lt (Nat.sub_le _ _) t.isLt)
    rw [r1, r2, s1, s2]

/-- What a point stores at an index of its block is the reference's value there. -/
theorem point (c : Dev nD) (t : Fin cfg0.N) (y : S1x1024x512.Idx) :
    k0_pay3 (iblk m c 0 t) (k0_pay1 (iblk m c 1 t)) (k0_pay2 (iblk m c 2 t)) y
      = REF (m ((c : Thread nD τ).loc main_arg0)) (m ((c : Thread nD τ).loc main_arg1)) (m ((c : Thread nD τ).loc main_arg2))
          (((cfg0.win 3).blk t).view.emb y) := by
  pointwise [k0_pay3, k0_pay1, k0_pay2, REF, val_main_v9, val_main_v8, val_main_v7, val_main_v6, val_main_v5, val_main_v4, val_main_v3,
    val_main_v2, val_main_v1, val_main_v0, val_main_call0_v5, val_main_call0_v4, val_main_call0_v3, val_main_call0_v2,
    val_main_call0_v1, val_main_call0_v0, val_main_call0_cst, val_main_call0_cst_0]
  simp only [zero_sub]
  blk_point [iblk, V, idx t]

/-- The result array after the run is the reference's. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out]
  exact point m c t y

end Cert.Kernel2Ideal.Up
end
-- ==== Proof.Up.Claim.lean ====
/- The first feed-forward products: kernel and reference end with the same result. -/
module
public import proofs.«01_k».proof.Defs
public import proofs.«01_k».proof.Proof.Up.Value
public import proofs.«01_k».proof.Proof.Gen.Reference2Ideal.Run
@[expose] public section
noncomputable section
open Idealize.ShloMosaic Idealize.ShloMosaic.TcCoe Idealize.SL.Sem
namespace Cert.Kernel2Ideal.Up
open Cert.Kernel2Ideal

/-- Kernel and reference end with the same result. -/
theorem agree : haveI := Cert.Kernel2Ideal.Gen.facts; haveI := Cert.Reference2Ideal.Gen.facts
    Cert.algebraic_Kernel2Ideal_Reference2Ideal := by
  intro m g m' g' hpre hag
  refine ⟨fun c => REF (m ((c : Thread nD τ).loc main_arg0)) (m ((c : Thread nD τ).loc main_arg1)) (m ((c : Thread nD τ).loc main_arg2)), ?_, ?_⟩
  · refine (θ_run _ _ _).mono (fun r h c => ?_) (Cert.Kernel2Ideal.Value.run_blocks m g)
    obtain ⟨hv, ha⟩ := h c
    exact ⟨hv.trans (final m c), ha⟩
  · refine (θ_run _ _ _).mono (fun r h c => ?_) (Cert.Reference2Ideal.Value.run m' g')
    obtain ⟨hv, ha⟩ := h c
    refine ⟨hv.trans ?_, ha⟩
    obtain ⟨e0, e1, e2⟩ := hag c
    rw [Cert.Reference2Ideal.Read.val_main_v9_eq, e0, e1, e2]

/-- The reference ends with its arguments unchanged and every counter zero. -/
theorem ref_frame : haveI := Cert.Reference2Ideal.Gen.facts; Cert.quiescent_Reference2Ideal := fun m g _ =>
  haveI := Cert.Reference2Ideal.Gen.facts
  (θ_run Cert.Reference2Ideal.defs _ _).mono
    (fun r h => And.intro (fun c => (h c).2) (sem_eq_zero_of_no_sems (by decide) r.2)) (Cert.Reference2Ideal.Value.run m g)

end Cert.Kernel2Ideal.Up
end
-- ==== Proof.Down.Value.lean ====
/- The second feed-forward product: what a block holds, and what the result array holds. -/
module
public import proofs.«01_k».proof.Proof.Gen.Kernel3Ideal.Value
public import proofs.«01_k».proof.Proof.Gen.Reference3Ideal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Down
open Cert.Kernel3Ideal Cert.Kernel3Ideal.Gen Cert.Reference3Ideal.Read
variable (m : (ℓ : Loc nD τ sig) → Buf (Elt Ideal) ℓ)

/-- The reference's result, over the call's four arrays. -/
abbrev REF (A : FVec Ideal S4x4096x5632 .bf16) (W : FVec Ideal S2x5632x2048 .f32) (X : FVec Ideal S4x4096x2048 .f32)
    (G : FVec Ideal S4x1x2048 .f32) : FVec Ideal S4x4096x2048 .f32 := val_main_v6 (F := Ideal) A W X G

/-- Where each window's block lies at a grid point. -/
theorem idx : ∀ t : Fin cfg0.N, win0_0.index t = ![t.val / 16, t.val / 4 % 4, 0] ∧ win0_1.index t = ![1, 0, t.val % 4]
    ∧ win0_2.index t = ![t.val / 16, t.val / 4 % 4, t.val % 4] ∧ win0_3.index t = ![t.val / 16, 0, t.val % 4]
    ∧ win0_4.index t = ![t.val / 16, t.val / 4 % 4, t.val % 4] ∧ t.val / 16 < 4 :=
  (by decide +kernel : ∀ t : Fin grid0.N, _)

/-- What the body stores at an index of a point's block is the reference's value there. -/
theorem point (c : Dev nD) (t : Fin cfg0.N) (y : S1x1024x512.Idx) :
    k0_pay1 (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, REF, val_main_v6, val_main_v5, val_main_v4, val_main_v3, val_main_v2, val_main_v1, val_main_v0]
  blk_point [iblk, V, idx t]

/-- The result array after the run is the reference's. -/
theorem final (c : Dev nD) : (dats m 0 c).arrAt 4 cfg0.N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  exact point m c t y

end Cert.Kernel3Ideal.Down
end
-- ==== Proof.Down.Claim.lean ====
/- The second feed-forward product: kernel and reference end with the same result. -/
module
public import proofs.«01_k».proof.Defs
public import proofs.«01_k».proof.Proof.Down.Value
public import proofs.«01_k».proof.Proof.Gen.Reference3Ideal.Run
@[expose] public section
noncomputable section
open Idealize.ShloMosaic Idealize.ShloMosaic.TcCoe Idealize.SL.Sem
namespace Cert.Kernel3Ideal.Down
open Cert.Kernel3Ideal

/-- Kernel and reference end with the same result. -/
theorem agree : haveI := Cert.Kernel3Ideal.Gen.facts; haveI := Cert.Reference3Ideal.Gen.facts
    Cert.algebraic_Kernel3Ideal_Reference3Ideal := by
  intro m g m' g' hpre hag
  refine ⟨fun c => REF (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.Kernel3Ideal.Value.run_blocks m g)
    obtain ⟨hv, ha⟩ := h c
    exact ⟨hv.trans (final m c), ha⟩
  · refine (θ_run _ _ _).mono (fun r h c => ?_) (Cert.Reference3Ideal.Value.run m' g')
    obtain ⟨hv, ha⟩ := h c
    refine ⟨hv.trans ?_, ha⟩
    obtain ⟨e0, e1, e2, e3⟩ := hag c
    rw [Cert.Reference3Ideal.Read.val_main_v6_eq, e0, e1, e2, e3]

/-- The reference ends with its arguments unchanged and every counter zero. -/
theorem ref_frame : haveI := Cert.Reference3Ideal.Gen.facts; Cert.quiescent_Reference3Ideal := fun m g _ =>
  haveI := Cert.Reference3Ideal.Gen.facts
  (θ_run Cert.Reference3Ideal.defs _ _).mono
    (fun r h => And.intro (fun c => (h c).2) (sem_eq_zero_of_no_sems (by decide) r.2)) (Cert.Reference3Ideal.Value.run m g)

end Cert.Kernel3Ideal.Down
end
-- ==== Proof.OutProj.Value.lean ====
/- The output projection: a product over 2048 columns taken as four products over 512, and what the result array holds. -/
module
public import proofs.«01_k».proof.Proof.Gen.Kernel4Ideal.Value
public import proofs.«01_k».proof.Proof.Gen.Reference4Ideal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel4Ideal.OutProj
open Cert.Kernel4Ideal Cert.Kernel4Ideal.Gen Cert.Reference4Ideal.Read
variable (m : (ℓ : Loc nD τ sig) → Buf (Elt Ideal) ℓ)

/-- A sum over 1536 terms is the sum of its three thirds. -/
theorem sum_thirds (f : Fin 1536 → EReal) : ∑ k, f k
    = ∑ k : Fin 512, f ⟨k.val, by omega⟩ + ∑ k : Fin 512, f ⟨512 + k.val, by omega⟩ + ∑ k : Fin 512, f ⟨1024 + k.val, by omega⟩ := by
  refine (Fin.sum_univ_add (a := 1024) (b := 512) f).trans (congrArg₂ (· + ·) ?_ rfl)
  exact Fin.sum_univ_add (a := 512) (b := 512) _

/-- The four products in the kernel's grouping are the two of the reference. -/
theorem regroup (x g a : EReal) (f : Fin 1536 → EReal) :
    x + g * (a + ∑ k : Fin 512, f ⟨k.val, by omega⟩ + ∑ k : Fin 512, f ⟨512 + k.val, by omega⟩ + ∑ k : Fin 512, f ⟨1024 + k.val, by omega⟩)
      = x + g * (a + ∑ k, f k) := by
  rw [sum_thirds, add_assoc, add_assoc, ← add_assoc (∑ k : Fin 512, f ⟨k.val, _⟩)]

/-- The reference's result, over the call's five arrays. -/
abbrev REF (A : FVec Ideal S4x4096x512 .bf16) (B : FVec Ideal S4x4096x1536 .bf16) (W : FVec Ideal S1x2048x2048 .f32)
    (X : FVec Ideal S4x4096x2048 .f32) (G : FVec Ideal S4x1x2048 .f32) : FVec Ideal S4x4096x2048 .f32 :=
  val_main_v7 (F := Ideal) A B W X G

/-- Where each window's block lies at a grid point. -/
theorem idx : ∀ t : Fin cfg0.N, win0_0.index t = ![t.val / 8, t.val % 8, 0] ∧ win0_1.index t = ![t.val / 8, t.val % 8, 0]
    ∧ win0_2.index t = ![t.val / 8, t.val % 8, 1] ∧ win0_3.index t = ![t.val / 8, t.val % 8, 2]
    ∧ win0_4.index t = ![0, 0, 0] ∧ win0_5.index t = ![0, 1, 0] ∧ win0_6.index t = ![0, 2, 0] ∧ win0_7.index t = ![0, 3, 0]
    ∧ win0_8.index t = ![t.val / 8, t.val % 8, 0] ∧ win0_9.index t = ![t.val / 8, 0, 0]
    ∧ win0_10.index t = ![t.val / 8, t.val % 8, 0] ∧ t.val / 8 < 4 :=
  (by decide +kernel : ∀ t : Fin grid0.N, _)

/-- What a point stores at an index of its block is the reference's value there. -/
theorem point (c : Dev nD) (t : Fin cfg0.N) (y : S1x512x2048.Idx) :
    out0_10 (iblk m c 0 t) (iblk m c 1 t) (iblk m c 2 t) (iblk m c 3 t) (iblk m c 4 t) (iblk m c 5 t) (iblk m c 6 t) (iblk m c 7 t)
      (iblk m c 8 t) (iblk m c 9 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 10).blk t).view.emb y) := by
  frame_out
  pointwise [k0_pay1, k0_pay2, k0_pay3, REF, val_main_v7, val_main_v6, val_main_v5, val_main_v4, val_main_v3, val_main_v2, val_main_v1, val_main_v0]
  refine Eq.trans ?_ (regroup _ _ _ _)
  beta_reduce
  blk_point [iblk, V, idx t]

/-- The result array after the run is the reference's. -/
theorem final (c : Dev nD) : (dats m 0 c).arrAt 10 cfg0.N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 10 _ (by decide +kernel) fun t _ y => ?_
  blk_simp
  rw [after0_10]
  exact point m c t y

end Cert.Kernel4Ideal.OutProj
end
-- ==== Proof.OutProj.Claim.lean ====
/- The output projection: kernel and reference end with the same result. -/
module
public import proofs.«01_k».proof.Defs
public import proofs.«01_k».proof.Proof.OutProj.Value
public import proofs.«01_k».proof.Proof.Gen.Reference4Ideal.Run
@[expose] public section
noncomputable section
open Idealize.ShloMosaic Idealize.ShloMosaic.TcCoe Idealize.SL.Sem
namespace Cert.Kernel4Ideal.OutProj
open Cert.Kernel4Ideal

/-- Kernel and reference end with the same result. -/
theorem agree : haveI := Cert.Kernel4Ideal.Gen.facts; haveI := Cert.Reference4Ideal.Gen.facts
    Cert.algebraic_Kernel4Ideal_Reference4Ideal := by
  intro m g m' g' hpre hag
  refine ⟨fun c => REF (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run _ _ _).mono (fun r h c => ?_) (Cert.Kernel4Ideal.Value.run_blocks m g)
    obtain ⟨hv, ha⟩ := h c
    exact ⟨hv.trans (final m c), ha⟩
  · refine (θ_run _ _ _).mono (fun r h c => ?_) (Cert.Reference4Ideal.Value.run m' g')
    obtain ⟨hv, ha⟩ := h c
    refine ⟨hv.trans ?_, ha⟩
    obtain ⟨e0, e1, e2, e3, e4⟩ := hag c
    rw [Cert.Reference4Ideal.Read.val_main_v7_eq, e0, e1, e2, e3, e4]

/-- The reference ends with its arguments unchanged and every counter zero. -/
theorem ref_frame : haveI := Cert.Reference4Ideal.Gen.facts; Cert.quiescent_Reference4Ideal := fun m g _ =>
  haveI := Cert.Reference4Ideal.Gen.facts
  (θ_run Cert.Reference4Ideal.defs _ _).mono
    (fun r h => And.intro (fun c => (h c).2) (sem_eq_zero_of_no_sems (by decide) r.2)) (Cert.Reference4Ideal.Value.run m g)

end Cert.Kernel4Ideal.OutProj
end
-- ==== Proof.Fourier.Value.lean ====
/- The Fourier columns of the even layers' input projection: what the result array holds. -/
module
public import proofs.«01_k».proof.Proof.Gen.Kernel5Ideal.Value
public import proofs.«01_k».proof.Proof.Gen.Reference5Ideal.Read
public import Idealize.ShloMosaic.Lib.Pipeline.ValueKit
public import Idealize.ShloMosaic.Lib.Claim
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel5Ideal.Fourier
open Cert.Kernel5Ideal Cert.Kernel5Ideal.Gen Cert.Reference5Ideal.Read
variable (m : (ℓ : Loc nD τ sig) → Buf (Elt Ideal) ℓ)

/-- The column scale is one outside the query columns. -/
theorem lit_one : ∀ i : Fin 5120, (i.val < 512 ∨ 2048 ≤ i.val) → lit0 i = 0x3F800000#32 :=
  (by decide +kernel)

/-- The reference's result, over the call's two arrays. -/
abbrev REF (A : FVec Ideal S4x4096x2048 .bf16) (W : FVec Ideal S1x2048x5120 .f32) : FVec Ideal S4x4096x512 .bf16 :=
  val_main_v4 (F := Ideal) A W

/-- The call's array of weights, before scaling. -/
abbrev wt (c : Dev nD) : FVec Ideal S1x2048x5120 .f32 := m ((c : Thread nD τ).loc main_arg1)

/-- The prepared weights: each weight times its column's scale. -/
theorem weights (c : Dev nD) (i : S1x2048x5120.Idx) : (V m c main_v3 : FVec Ideal S1x2048x5120 .bf16) i
    = (wt m c i * (FloatOps.ofBits (F := Ideal) .f32 (lit0 (i 2)) : EReal) : EReal) := by
  have e : (V m c main_v3 : FVec Ideal S1x2048x5120 .bf16) i = FloatOps.mulf (F := Ideal) (wt m c i)
      (FloatOps.ofBits (F := Ideal) .f32 (lit0 (S5120.rowMajor (ix1 (i 2))))) := rfl
  rw [e]
  have r : S5120.rowMajor (ix1 (i 2)) = i 2 := Fin.ext (Shape.rowMajor_val_one _)
  rw [r]
  rfl

/-- Outside the query columns the prepared weight is the weight. -/
theorem weights_one (c : Dev nD) (i : S1x2048x5120.Idx) (h : (i 2).val < 512 ∨ 2048 ≤ (i 2).val) :
    (V m c main_v3 : FVec Ideal S1x2048x5120 .bf16) i = wt m c i := by
  rw [weights, lit_one (i 2) h]
  show wt m c i * Ideal.ofBits .f32 0x3F800000#32 = _
  rw [Ideal.ofBits_one_f32, mul_one]

/-- Where each window's block lies at a grid point. -/
theorem idx : ∀ t : Fin cfg0.N, win0_0.index t = ![t.val / 2, t.val % 2, 0] ∧ win0_1.index t = ![0, 0, 0]
    ∧ win0_2.index t = ![t.val / 2, t.val % 2, 0] ∧ t.val / 2 < 4 :=
  (by decide +kernel : ∀ t : Fin grid0.N, _)

/-- What a point stores at an index of its block is the reference's value there. -/
theorem point (c : Dev nD) (t : Fin cfg0.N) (y : S1x2048x512.Idx) :
    out0_2 (iblk m c 0 t) (iblk m c 1 t) y
      = REF (m ((c : Thread nD τ).loc main_arg0)) (m ((c : Thread nD τ).loc main_arg1)) (((cfg0.win 2).blk t).view.emb y) := by
  frame_out
  pointwise [k0_pay1, REF, val_main_v4, val_main_v3, val_main_v2, val_main_v1, val_main_v0]
  have h2 : (y 2).val < 512 := (y 2).isLt
  have key : ∀ x : Fin 2048, (V m c main_v3 : FVec Ideal S1x2048x5120 .bf16) ((win0_1.blk t).view.emb (ix3 0 x (y 2)))
      = wt m c (ix3 0 x ⟨(y 2).val, by omega⟩) := by
    intro x
    have e : (win0_1.blk t).view.emb (ix3 0 x (y 2)) = (ix3 0 x ⟨(y 2).val, by omega⟩ : S1x2048x5120.Idx) := by
      blk_ext [idx t]
    rw [e]
    exact weights_one m c _ (Or.inl h2)
  blk_point [iblk, V, idx t]
  exact key _

/-- The result array after the run is the reference's. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel5Ideal.Fourier
end
-- ==== Proof.Fourier.Claim.lean ====
/- The Fourier columns of the even layers' input projection: kernel and reference end with the same result. -/
module
public import proofs.«01_k».proof.Defs
public import proofs.«01_k».proof.Proof.Fourier.Value
public import proofs.«01_k».proof.Proof.Gen.Reference5Ideal.Run
@[expose] public section
noncomputable section
open Idealize.ShloMosaic Idealize.ShloMosaic.TcCoe Idealize.SL.Sem
namespace Cert.Kernel5Ideal.Fourier
open Cert.Kernel5Ideal

/-- Kernel and reference end with the same result. -/
theorem agree : haveI := Cert.Kernel5Ideal.Gen.facts; haveI := Cert.Reference5Ideal.Gen.facts
    Cert.algebraic_Kernel5Ideal_Reference5Ideal := by
  intro m g m' g' hpre hag
  refine ⟨fun c => REF (m ((c : Thread nD τ).loc main_arg0)) (m ((c : Thread nD τ).loc main_arg1)), ?_, ?_⟩
  · refine (θ_run _ _ _).mono (fun r h c => ?_) (Cert.Kernel5Ideal.Value.run_blocks m g)
    obtain ⟨hv, ha⟩ := h c
    exact ⟨hv.trans (final m c), ha⟩
  · refine (θ_run _ _ _).mono (fun r h c => ?_) (Cert.Reference5Ideal.Value.run m' g')
    obtain ⟨hv, ha⟩ := h c
    refine ⟨hv.trans ?_, ha⟩
    obtain ⟨e0, e1⟩ := hag c
    rw [Cert.Reference5Ideal.Read.val_main_v4_eq, e0, e1]

/-- The reference ends with its arguments unchanged and every counter zero. -/
theorem ref_frame : haveI := Cert.Reference5Ideal.Gen.facts; Cert.quiescent_Reference5Ideal := fun m g _ =>
  haveI := Cert.Reference5Ideal.Gen.facts
  (θ_run Cert.Reference5Ideal.defs _ _).mono
    (fun r h => And.intro (fun c => (h c).2) (sem_eq_zero_of_no_sems (by decide) r.2)) (Cert.Reference5Ideal.Value.run m g)

end Cert.Kernel5Ideal.Fourier
end
-- ==== Proof.Qkv.Value.lean ====
/- The query, key and value columns of the even layers' input projection: what the result array holds. -/
module
public import proofs.«01_k».proof.Proof.Gen.Kernel6Ideal.Value
public import proofs.«01_k».proof.Proof.Gen.Reference6Ideal.Read
public import Idealize.ShloMosaic.Lib.Pipeline.ValueKit
public import Idealize.ShloMosaic.Lib.Claim
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel6Ideal.Qkv
open Cert.Kernel6Ideal Cert.Kernel6Ideal.Gen Cert.Kernel6Ideal.Value Cert.Reference6Ideal.Read
variable (m : (ℓ : Loc nD τ sig) → Buf (Elt Ideal) ℓ)

/-- The column scale is one outside the query columns. -/
theorem lit_one : ∀ i : Fin 5120, (i.val < 512 ∨ 2048 ≤ i.val) → lit0 i = 0x3F800000#32 :=
  (by decide +kernel)

/-- In the query columns the column scale is one constant. -/
theorem lit_scale : ∀ i : Fin 5120, (512 ≤ i.val ∧ i.val < 2048) → lit0 i = 0x3E0293EE#32 :=
  (by decide +kernel)

/-- The constant of the query columns is a nonnegative real. -/
theorem scale_real : ∃ r : ℝ, 0 ≤ r ∧ Ideal.ofBits .f32 0x3E0293EE#32 = (r : EReal) := by
  refine ⟨8557550 / 2 ^ 26, by positivity, ?_⟩
  simp [Ideal.ofBits, Ideal.ieee]
  rw [show (8557550 / 2 ^ 26 : ℝ) = (8557550 : ℝ) * (1 / 67108864 : ℝ) by norm_num, EReal.coe_mul]
  norm_num

/-- A nonnegative real factor goes under a sum. -/
theorem sum_scale {ι : Type} (s : Finset ι) (f : ι → EReal) (r : ℝ) (h : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr h) (EReal.coe_ne_top r) _ _

/-- The call's array of weights, before scaling. -/
abbrev wt (c : Dev nD) : FVec Ideal S1x2048x5120 .f32 := m ((c : Thread nD τ).loc main_arg1)

/-- The call's array of activations. -/
abbrev act (c : Dev nD) : FVec Ideal S4x4096x2048 .bf16 := m ((c : Thread nD τ).loc main_arg0)

/-- The prepared weights, scaled. -/
abbrev pw (c : Dev nD) : FVec Ideal S1x2048x5120 .bf16 := V m c main_v3

/-- The prepared weights: each weight times its column's scale. -/
theorem weights (c : Dev nD) (i : S1x2048x5120.Idx) : pw m c i
    = (wt m c i * (FloatOps.ofBits (F := Ideal) .f32 (lit0 (i 2)) : EReal) : EReal) := by
  have e : pw m c i = FloatOps.mulf (F := Ideal) (wt m c i)
      (FloatOps.ofBits (F := Ideal) .f32 (lit0 (S5120.rowMajor (ix1 (i 2))))) := rfl
  rw [e]
  have r : S5120.rowMajor (ix1 (i 2)) = i 2 := Fin.ext (Shape.rowMajor_val_one _)
  rw [r]
  rfl

/-- Outside the query columns the prepared weight is the weight. -/
theorem weights_one (c : Dev nD) (i : S1x2048x5120.Idx) (h : (i 2).val < 512 ∨ 2048 ≤ (i 2).val) :
    pw m c i = wt m c i := by
  rw [weights, lit_one (i 2) h]
  show wt m c i * Ideal.ofBits .f32 0x3F800000#32 = _
  rw [Ideal.ofBits_one_f32, mul_one]

/-- In the query columns the prepared weight is the weight times the constant. -/
theorem weights_scale (c : Dev nD) (i : S1x2048x5120.Idx) (h : 512 ≤ (i 2).val ∧ (i 2).val < 2048) :
    pw m c i = wt m c i * Ideal.ofBits .f32 0x3E0293EE#32 := by
  rw [weights, lit_scale (i 2) h]
  rfl

/-- The reference's result, over the call's two arrays. -/
abbrev REF (A : FVec Ideal S4x4096x2048 .bf16) (W : FVec Ideal S1x2048x5120 .f32) : FVec Ideal S4x36x4096x128 .bf16 :=
  val_main_v16 (F := Ideal) A W

/-- The projection's product at a row and a column. -/
abbrev dotAt (A : FVec Ideal S4x4096x2048 .bf16) (W : FVec Ideal S1x2048x5120 .f32) (b : Fin 4) (n : Fin 4096) (j : Fin 5120) : EReal :=
  ∑ k : Fin 2048, (A (ix3 b n k) : EReal) * (W (ix3 0 k j) : EReal)

/-- The reference's result at a key or value head. -/
theorem ref_plain (A : FVec Ideal S4x4096x2048 .bf16) (W : FVec Ideal S1x2048x5120 .f32) (b : Fin 4) (g : Fin 36) (n : Fin 4096) (e : Fin 128)
    (h : 12 ≤ g.val) : REF A W (ix4 b g n e) = dotAt A W b n ⟨512 + g.val * 128 + e.val, by omega⟩ := by
  pointwise [REF, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rw [dif_neg (by omega)]
  split
  · exact Finset.sum_congr rfl fun k _ => congrArg₂ (· * ·) rfl (congrArg W (congrArg (ix3 0 k) (Fin.ext (by show 512 + (1536 + ((g.val - 12) * 128 + e.val)) = 512 + g.val * 128 + e.val; omega))))
  · exact Finset.sum_congr rfl fun k _ => congrArg₂ (· * ·) rfl (congrArg W (congrArg (ix3 0 k) (Fin.ext (by show 512 + (3072 + ((g.val - 12 - 12) * 128 + e.val)) = 512 + g.val * 128 + e.val; omega))))

/-- The reference's result at a query head. -/
theorem ref_scaled (A : FVec Ideal S4x4096x2048 .bf16) (W : FVec Ideal S1x2048x5120 .f32) (b : Fin 4) (g : Fin 36) (n : Fin 4096) (e : Fin 128)
    (h : g.val < 12) : REF A W (ix4 b g n e) = dotAt A W b n ⟨512 + g.val * 128 + e.val, by omega⟩ * Ideal.ofBits .f32 0x3E0293EE#32 := by
  pointwise [REF, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rw [dif_pos h]
  refine congrArg (· * _) (Finset.sum_congr rfl fun k _ => congrArg₂ (· * ·) rfl (congrArg W (congrArg (ix3 0 k) (Fin.ext ?_))))
  show 512 + (g.val * 128 + e.val) = 512 + g.val * 128 + e.val
  omega

/-- Where each window's block lies at a grid point. -/
theorem idx : ∀ t : Fin cfg0.N, win0_0.index t = ![t.val / 18, t.val / 9 % 2, 0] ∧ win0_1.index t = ![0, 0, 1 + t.val % 9]
    ∧ win0_2.index t = ![t.val / 18, t.val % 9, t.val / 9 % 2, 0] ∧ t.val / 18 < 4 :=
  (by decide +kernel : ∀ t : Fin grid0.N, _)

/-- What a point stores at an index of its block is the reference's value there. -/
theorem point (c : Dev nD) (t : Fin cfg0.N) (y : S1x4x2048x128.Idx) :
    out0_2 (iblk m c 0 t) (iblk m c 1 t) y
      = REF (m ((c : Thread nD τ).loc main_arg0)) (m ((c : Thread nD τ).loc main_arg1)) (((cfg0.win 2).blk t).view.emb y) := by
  have h1 : (y 1).val < 4 := (y 1).isLt
  have h2 : (y 2).val < 2048 := (y 2).isLt
  have h3 : (y 3).val < 128 := (y 3).isLt
  have hb : t.val / 18 < 4 := (idx t).2.2.2
  have key : ∀ x : Fin 2048, (win0_1.blk t).view.emb (ix3 0 x ⟨(y 1).val * 128 + (y 3).val, by omega⟩)
      = (ix3 0 x ⟨512 + (4 * (t.val % 9) + (y 1).val) * 128 + (y 3).val, by omega⟩ : S1x2048x5120.Idx) := by
    intro x
    blk_ext [idx t]
  have e : ((cfg0.win 2).blk t).view.emb y = (ix4 ⟨t.val / 18, hb⟩ ⟨4 * (t.val % 9) + (y 1).val, by omega⟩ ⟨2048 * (t.val / 9 % 2) + (y 2).val, by omega⟩ ⟨(y 3).val, by omega⟩ : S4x36x4096x128.Idx) := by
    blk_ext [idx t]
  have main : out0_2 (iblk m c 0 t) (iblk m c 1 t) y
      = ∑ k : Fin 2048, (act m c (ix3 ⟨t.val / 18, hb⟩ ⟨2048 * (t.val / 9 % 2) + (y 2).val, by omega⟩ k) : EReal)
        * (pw m c (ix3 0 k ⟨512 + (4 * (t.val % 9) + (y 1).val) * 128 + (y 3).val, by omega⟩) : EReal) := by
    refine (canon2_eq _ _ y).trans ?_
    pointwise [k0_pay1]
    simp only [← key]
    blk_point [iblk, idx t]
  rw [main, e]
  by_cases hq : 4 * (t.val % 9) + (y 1).val < 12
  · refine Eq.trans ?_ (ref_scaled _ _ _ _ _ _ hq).symm
    obtain ⟨r, hr, er⟩ := scale_real
    rw [er, sum_scale _ _ r hr]
    refine Finset.sum_congr rfl fun k _ => ?_
    rw [weights_scale m c (ix3 0 k ⟨512 + (4 * (t.val % 9) + (y 1).val) * 128 + (y 3).val, by omega⟩) ⟨by show 512 ≤ 512 + (4 * (t.val % 9) + (y 1).val) * 128 + (y 3).val; omega, by show 512 + (4 * (t.val % 9) + (y 1).val) * 128 + (y 3).val < 2048; omega⟩, er, mul_assoc]
  · refine Eq.trans ?_ (ref_plain _ _ _ _ _ _ (by show 12 ≤ 4 * (t.val % 9) + (y 1).val; omega)).symm
    refine Finset.sum_congr rfl fun k _ => ?_
    rw [weights_one m c (ix3 0 k ⟨512 + (4 * (t.val % 9) + (y 1).val) * 128 + (y 3).val, by omega⟩) (Or.inr (by show 2048 ≤ 512 + (4 * (t.val % 9) + (y 1).val) * 128 + (y 3).val; omega))]

/-- The result array after the run is the reference's. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel6Ideal.Qkv
end
-- ==== Proof.Qkv.Claim.lean ====
/- The query, key and value columns of the even layers' input projection: kernel and reference end with the same result. -/
module
public import proofs.«01_k».proof.Defs
public import proofs.«01_k».proof.Proof.Qkv.Value
public import proofs.«01_k».proof.Proof.Gen.Reference6Ideal.Run
@[expose] public section
noncomputable section
open Idealize.ShloMosaic Idealize.ShloMosaic.TcCoe Idealize.SL.Sem
namespace Cert.Kernel6Ideal.Qkv
open Cert.Kernel6Ideal

/-- Kernel and reference end with the same result. -/
theorem agree : haveI := Cert.Kernel6Ideal.Gen.facts; haveI := Cert.Reference6Ideal.Gen.facts
    Cert.algebraic_Kernel6Ideal_Reference6Ideal := by
  intro m g m' g' hpre hag
  refine ⟨fun c => REF (m ((c : Thread nD τ).loc main_arg0)) (m ((c : Thread nD τ).loc main_arg1)), ?_, ?_⟩
  · refine (θ_run _ _ _).mono (fun r h c => ?_) (Cert.Kernel6Ideal.Value.run_blocks m g)
    obtain ⟨hv, ha⟩ := h c
    exact ⟨hv.trans (final m c), ha⟩
  · refine (θ_run _ _ _).mono (fun r h c => ?_) (Cert.Reference6Ideal.Value.run m' g')
    obtain ⟨hv, ha⟩ := h c
    refine ⟨hv.trans ?_, ha⟩
    obtain ⟨e0, e1⟩ := hag c
    rw [Cert.Reference6Ideal.Read.val_main_v16_eq, e0, e1]

/-- The reference ends with its arguments unchanged and every counter zero. -/
theorem ref_frame : haveI := Cert.Reference6Ideal.Gen.facts; Cert.quiescent_Reference6Ideal := fun m g _ =>
  haveI := Cert.Reference6Ideal.Gen.facts
  (θ_run Cert.Reference6Ideal.defs _ _).mono
    (fun r h => And.intro (fun c => (h c).2) (sem_eq_zero_of_no_sems (by decide) r.2)) (Cert.Reference6Ideal.Value.run m g)

end Cert.Kernel6Ideal.Qkv
end
-- ==== Proof.Norm.NamesIdeal.lean ====
/- The final norm's copies: the blocks of the input and of the result, the slots of the two rings and their
   semaphores under fixed names, with the offsets of each step in closed form. -/
module
public import proofs.«01_k».proof.Defs
public import proofs.«01_k».proof.Proof.Gen.Kernel7Ideal.Skeleton
public import proofs.«01_k».proof.Proof.Gen.Kernel7Ideal.Launch
public import proofs.«01_k».proof.Proof.Gen.Kernel7Ideal.Loops
public import proofs.«01_k».proof.Proof.Gen.Kernel7Ideal.Points
public import Idealize.ShloMosaic.Lib.Pipeline.FrameValue
public import Idealize.ShloMosaic.Lib.Ring
public import Idealize.ShloMosaic.Lib.Tactic

@[expose] public section

noncomputable section

namespace Cert.Kernel7Ideal.Norm

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The input array, the result array and the two scratch rings. -/
abbrev xM : Memref sig .tc .hbm S4x4096x2048 .f32 := Memref.whole main_arg0
abbrev yM : Memref sig .tc .hbm S4x4096x2048 .f32 := Memref.whole main_v2
abbrev xbM : Memref sig .tc .vmem S3x1024x2048 .f32 := Memref.whole cc0_scratch0
abbrev obM : Memref sig .tc .vmem S2x1024x2048 .f32 := Memref.whole cc0_scratch1

/-- Where block `b` of 1024 rows starts. -/
abbrev blkOff (b : Fin 16) : Fin 3 → Nat := ![b.val / 4, b.val % 4 * 1024, 0]
theorem blkOff_inb (b : Fin 16) : ∀ a, blkOff b a + S1x1024x2048.size a ≤ S4x4096x2048.size a := by
  have := b.isLt; intro a; fin_cases a
  · show b.val / 4 + 1 ≤ 4; omega
  · show b.val % 4 * 1024 + 1024 ≤ 4096; omega
  · show 0 + 2048 ≤ 2048; omega
abbrev xsOff (s : Fin 3) : Fin 3 → Nat := ![s.val, 0, 0]
theorem xsOff_inb (s : Fin 3) : ∀ a, xsOff s a + S1x1024x2048.size a ≤ S3x1024x2048.size a := by
  have := s.isLt; intro a; fin_cases a
  · show s.val + 1 ≤ 3; omega
  · show 0 + 1024 ≤ 1024; omega
  · show 0 + 2048 ≤ 2048; omega
abbrev osOff (s : Fin 2) : Fin 3 → Nat := ![s.val, 0, 0]
theorem osOff_inb (s : Fin 2) : ∀ a, osOff s a + S1x1024x2048.size a ≤ S2x1024x2048.size a := by
  have := s.isLt; intro a; fin_cases a
  · show s.val + 1 ≤ 2; omega
  · show 0 + 1024 ≤ 1024; omega
  · show 0 + 2048 ≤ 2048; omega
abbrev xcOff (s : Fin 3) : Fin 1 → Nat := ![s.val]
theorem xcOff_inb (s : Fin 3) : ∀ a, xcOff s a + S1.size a ≤ S3.size a := by
  have := s.isLt; intro a; fin_cases a; show s.val + 1 ≤ 3; omega
abbrev ocOff (s : Fin 2) : Fin 1 → Nat := ![s.val]
theorem ocOff_inb (s : Fin 2) : ∀ a, ocOff s a + S1.size a ≤ S2.size a := by
  have := s.isLt; intro a; fin_cases a; show s.val + 1 ≤ 2; omega

/-- Block `b` of the input. -/
def xB (b : Fin 16) : Memref sig .tc .hbm S1024x2048 .f32 :=
  (xM.slice (Rect.unit (s := S4x4096x2048) (blkOff b) S1x1024x2048.size (blkOff_inb b)) (fun _ => rfl)).squeeze S1024x2048 squeezes_S1x1024x2048_S1024x2048
/-- Block `b` of the result. -/
def yB (b : Fin 16) : Memref sig .tc .hbm S1024x2048 .f32 :=
  (yM.slice (Rect.unit (s := S4x4096x2048) (blkOff b) S1x1024x2048.size (blkOff_inb b)) (fun _ => rfl)).squeeze S1024x2048 squeezes_S1x1024x2048_S1024x2048
/-- Slot `s` of the input ring. -/
def xS (s : Fin 3) : Memref sig .tc .vmem S1024x2048 .f32 :=
  (xbM.slice (Rect.unit (s := S3x1024x2048) (xsOff s) S1x1024x2048.size (xsOff_inb s)) (fun _ => rfl)).squeeze S1024x2048 squeezes_S1x1024x2048_S1024x2048
/-- Slot `s` of the output ring. -/
def oS (s : Fin 2) : Memref sig .tc .vmem S1024x2048 .f32 :=
  (obM.slice (Rect.unit (s := S2x1024x2048) (osOff s) S1x1024x2048.size (osOff_inb s)) (fun _ => rfl)).squeeze S1024x2048 squeezes_S1x1024x2048_S1024x2048
/-- The semaphore of slot `s` of the input ring. -/
def xC (s : Fin 3) : DmaSems sig S_ := (cc0_scratch2.slice (Rect.unit (s := S3) (xcOff s) S1.size (xcOff_inb s))).squeeze S_ squeezes_S1_S_
/-- The semaphore of slot `s` of the output ring. -/
def oC (s : Fin 2) : DmaSems sig S_ := (cc0_scratch3.slice (Rect.unit (s := S2) (ocOff s) S1.size (ocOff_inb s))).squeeze S_ squeezes_S1_S_

instance (s : Fin 3) : ClosedOff (xsOff s) := ⟨xsOff s, rfl⟩
instance (s : Fin 2) : ClosedOff (osOff s) := ⟨osOff s, rfl⟩
instance (b : Fin 16) : ClosedOff (blkOff b) := ⟨blkOff b, rfl⟩

theorem trips_eq : k0_t1_loop.trips = 16 := by decide +kernel

theorem off1_eq : ∀ k : Fin k0_t1_loop.trips, k0_off1 k = xcOff (Ring.sl 3 k.val) := by decide +kernel
theorem off2_eq : ∀ k : Fin k0_t1_loop.trips, k0_off2 k = xsOff (Ring.sl 3 k.val) := by decide +kernel
theorem off3_eq : ∀ k : Fin k0_t1_loop.trips, k0_off3 k = blkOff (Ring.bk 16 k.val) := by decide +kernel
theorem off4_eq : ∀ k : Fin k0_t1_loop.trips, k0_cond1 k = 1#1 → k0_off4 k = ocOff (Ring.sl 2 k.val) := by decide +kernel
theorem off5_eq : ∀ k : Fin k0_t1_loop.trips, k0_cond1 k = 1#1 → k0_off5 k = blkOff (Ring.bk 16 (k.val - 2)) := by decide +kernel
theorem off6_eq : ∀ k : Fin k0_t1_loop.trips, k0_cond1 k = 1#1 → k0_off6 k = osOff (Ring.sl 2 k.val) := by decide +kernel
theorem off7_eq : ∀ k : Fin k0_t1_loop.trips, k0_off7 k = xsOff (Ring.sl 3 k.val) := by decide +kernel
theorem off8_eq : ∀ k : Fin k0_t1_loop.trips, k0_off8 k = osOff (Ring.sl 2 k.val) := by decide +kernel
theorem off9_eq : ∀ k : Fin k0_t1_loop.trips, k0_off9 k = ocOff (Ring.sl 2 k.val) := by decide +kernel
theorem off10_eq : ∀ k : Fin k0_t1_loop.trips, k0_off10 k = osOff (Ring.sl 2 k.val) := by decide +kernel
theorem off11_eq : ∀ k : Fin k0_t1_loop.trips, k0_cond2 k = 1#1 → k0_off11 k = xcOff (Ring.sl 3 k.val) := by decide +kernel
theorem off12_eq : ∀ k : Fin k0_t1_loop.trips, k0_cond2 k = 1#1 → k0_off12 k = xsOff (Ring.sl 3 k.val) := by decide +kernel
theorem off13_eq : ∀ k : Fin k0_t1_loop.trips, k0_cond2 k = 1#1 → k0_off13 k = blkOff (Ring.bk 16 (k.val + 3)) := by decide +kernel
theorem cond1_iff : ∀ k : Fin k0_t1_loop.trips, k0_cond1 k = 1#1 ↔ 2 ≤ k.val := by decide +kernel
theorem cond2_iff : ∀ k : Fin k0_t1_loop.trips, k0_cond2 k = 1#1 ↔ k.val + 3 < 16 := by decide +kernel

instance (k : Fin k0_t1_loop.trips) : ClosedOff (k0_off2 k) := ⟨xsOff (Ring.sl 3 k.val), off2_eq k⟩
instance (k : Fin k0_t1_loop.trips) : ClosedOff (k0_off7 k) := ⟨xsOff (Ring.sl 3 k.val), off7_eq k⟩
instance (k : Fin k0_t1_loop.trips) : ClosedOff (k0_off8 k) := ⟨osOff (Ring.sl 2 k.val), off8_eq k⟩
instance (k : Fin k0_t1_loop.trips) : ClosedOff (k0_off10 k) := ⟨osOff (Ring.sl 2 k.val), off10_eq k⟩

/-! ### The slices of the body under these names -/

theorem xC_congr {off : Fin 1 → Nat} {s : Fin 3} (e : off = xcOff s) (hh) :
    (cc0_scratch2.slice (Rect.unit (s := S3) off S1.size hh)).squeeze S_ squeezes_S1_S_ = xC s :=
  congrArg (fun A : DmaSems sig S1 => A.squeeze S_ squeezes_S1_S_) (SemArray.slice_unit_congr _ e _ _)
theorem oC_congr {off : Fin 1 → Nat} {s : Fin 2} (e : off = ocOff s) (hh) :
    (cc0_scratch3.slice (Rect.unit (s := S2) off S1.size hh)).squeeze S_ squeezes_S1_S_ = oC s :=
  congrArg (fun A : DmaSems sig S1 => A.squeeze S_ squeezes_S1_S_) (SemArray.slice_unit_congr _ e _ _)
theorem xS_congr {off : Fin 3 → Nat} {s : Fin 3} (e : off = xsOff s) (hh hs) :
    (xbM.slice (Rect.unit (s := S3x1024x2048) off S1x1024x2048.size hh) hs).squeeze S1024x2048 squeezes_S1x1024x2048_S1024x2048 = xS s :=
  congrArg (fun M : Memref sig .tc .vmem S1x1024x2048 .f32 => M.squeeze S1024x2048 squeezes_S1x1024x2048_S1024x2048) (Memref.slice_unit_congr _ e _ _ _ _)
theorem oS_congr {off : Fin 3 → Nat} {s : Fin 2} (e : off = osOff s) (hh hs) :
    (obM.slice (Rect.unit (s := S2x1024x2048) off S1x1024x2048.size hh) hs).squeeze S1024x2048 squeezes_S1x1024x2048_S1024x2048 = oS s :=
  congrArg (fun M : Memref sig .tc .vmem S1x1024x2048 .f32 => M.squeeze S1024x2048 squeezes_S1x1024x2048_S1024x2048) (Memref.slice_unit_congr _ e _ _ _ _)
theorem xB_congr {off : Fin 3 → Nat} {b : Fin 16} (e : off = blkOff b) (hh hs) :
    (xM.slice (Rect.unit (s := S4x4096x2048) off S1x1024x2048.size hh) hs).squeeze S1024x2048 squeezes_S1x1024x2048_S1024x2048 = xB b :=
  congrArg (fun M : Memref sig .tc .hbm S1x1024x2048 .f32 => M.squeeze S1024x2048 squeezes_S1x1024x2048_S1024x2048) (Memref.slice_unit_congr _ e _ _ _ _)
theorem yB_congr {off : Fin 3 → Nat} {b : Fin 16} (e : off = blkOff b) (hh hs) :
    (yM.slice (Rect.unit (s := S4x4096x2048) off S1x1024x2048.size hh) hs).squeeze S1024x2048 squeezes_S1x1024x2048_S1024x2048 = yB b :=
  congrArg (fun M : Memref sig .tc .hbm S1x1024x2048 .f32 => M.squeeze S1024x2048 squeezes_S1x1024x2048_S1024x2048) (Memref.slice_unit_congr _ e _ _ _ _)

@[sl_canon] theorem xCL0 (hh) : (cc0_scratch2.slice (Rect.unit (s := S3) ![0] S1.size hh)).squeeze S_ squeezes_S1_S_ = xC 0 := xC_congr (by decide) _
@[sl_canon] theorem xCL1 (hh) : (cc0_scratch2.slice (Rect.unit (s := S3) ![1] S1.size hh)).squeeze S_ squeezes_S1_S_ = xC 1 := xC_congr (by decide) _
@[sl_canon] theorem xCL2 (hh) : (cc0_scratch2.slice (Rect.unit (s := S3) ![2] S1.size hh)).squeeze S_ squeezes_S1_S_ = xC 2 := xC_congr (by decide) _
@[sl_canon] theorem xSL0 (hh hs) : (xbM.slice (Rect.unit (s := S3x1024x2048) ![0, 0, 0] S1x1024x2048.size hh) hs).squeeze S1024x2048 squeezes_S1x1024x2048_S1024x2048 = xS 0 := xS_congr (by decide) _ _
@[sl_canon] theorem xSL1 (hh hs) : (xbM.slice (Rect.unit (s := S3x1024x2048) ![1, 0, 0] S1x1024x2048.size hh) hs).squeeze S1024x2048 squeezes_S1x1024x2048_S1024x2048 = xS 1 := xS_congr (by decide) _ _
@[sl_canon] theorem xSL2 (hh hs) : (xbM.slice (Rect.unit (s := S3x1024x2048) ![2, 0, 0] S1x1024x2048.size hh) hs).squeeze S1024x2048 squeezes_S1x1024x2048_S1024x2048 = xS 2 := xS_congr (by decide) _ _
@[sl_canon] theorem xBL0 (hh hs) : (xM.slice (Rect.unit (s := S4x4096x2048) ![0, 0, 0] S1x1024x2048.size hh) hs).squeeze S1024x2048 squeezes_S1x1024x2048_S1024x2048 = xB 0 := xB_congr (by decide) _ _
@[sl_canon] theorem xBL1 (hh hs) : (xM.slice (Rect.unit (s := S4x4096x2048) ![0, 1024, 0] S1x1024x2048.size hh) hs).squeeze S1024x2048 squeezes_S1x1024x2048_S1024x2048 = xB 1 := xB_congr (by decide) _ _
@[sl_canon] theorem xBL2 (hh hs) : (xM.slice (Rect.unit (s := S4x4096x2048) ![0, 2048, 0] S1x1024x2048.size hh) hs).squeeze S1024x2048 squeezes_S1x1024x2048_S1024x2048 = xB 2 := xB_congr (by decide) _ _
@[sl_canon] theorem oCL0 (hh) : (cc0_scratch3.slice (Rect.unit (s := S2) ![0] S1.size hh)).squeeze S_ squeezes_S1_S_ = oC 0 := oC_congr (by decide) _
@[sl_canon] theorem oCL1 (hh) : (cc0_scratch3.slice (Rect.unit (s := S2) ![1] S1.size hh)).squeeze S_ squeezes_S1_S_ = oC 1 := oC_congr (by decide) _
@[sl_canon] theorem oSL0 (hh hs) : (obM.slice (Rect.unit (s := S2x1024x2048) ![0, 0, 0] S1x1024x2048.size hh) hs).squeeze S1024x2048 squeezes_S1x1024x2048_S1024x2048 = oS 0 := oS_congr (by decide) _ _
@[sl_canon] theorem oSL1 (hh hs) : (obM.slice (Rect.unit (s := S2x1024x2048) ![1, 0, 0] S1x1024x2048.size hh) hs).squeeze S1024x2048 squeezes_S1x1024x2048_S1024x2048 = oS 1 := oS_congr (by decide) _ _
@[sl_canon] theorem yBL14 (hh hs) : (yM.slice (Rect.unit (s := S4x4096x2048) ![3, 2048, 0] S1x1024x2048.size hh) hs).squeeze S1024x2048 squeezes_S1x1024x2048_S1024x2048 = yB 14 := yB_congr (by decide) _ _
@[sl_canon] theorem yBL15 (hh hs) : (yM.slice (Rect.unit (s := S4x4096x2048) ![3, 3072, 0] S1x1024x2048.size hh) hs).squeeze S1024x2048 squeezes_S1x1024x2048_S1024x2048 = yB 15 := yB_congr (by decide) _ _

section Trip
variable (k : Fin k0_t1_loop.trips)
@[sl_canon] theorem xCW (hh) : (cc0_scratch2.slice (Rect.unit (s := S3) (k0_off1 k) S1.size hh)).squeeze S_ squeezes_S1_S_ = xC (Ring.sl 3 k.val) := xC_congr (off1_eq k) _
@[sl_canon] theorem xSW (hh hs) : (xbM.slice (Rect.unit (s := S3x1024x2048) (k0_off2 k) S1x1024x2048.size hh) hs).squeeze S1024x2048 squeezes_S1x1024x2048_S1024x2048 = xS (Ring.sl 3 k.val) := xS_congr (off2_eq k) _ _
@[sl_canon] theorem xBW (hh hs) : (xM.slice (Rect.unit (s := S4x4096x2048) (k0_off3 k) S1x1024x2048.size hh) hs).squeeze S1024x2048 squeezes_S1x1024x2048_S1024x2048 = xB (Ring.bk 16 k.val) := xB_congr (off3_eq k) _ _
@[sl_canon] theorem oCW (h : k0_cond1 k = 1#1) (hh) : (cc0_scratch3.slice (Rect.unit (s := S2) (k0_off4 k) S1.size hh)).squeeze S_ squeezes_S1_S_ = oC (Ring.sl 2 k.val) := oC_congr (off4_eq k h) _
@[sl_canon] theorem yBW (h : k0_cond1 k = 1#1) (hh hs) : (yM.slice (Rect.unit (s := S4x4096x2048) (k0_off5 k) S1x1024x2048.size hh) hs).squeeze S1024x2048 squeezes_S1x1024x2048_S1024x2048 = yB (Ring.bk 16 (k.val - 2)) := yB_congr (off5_eq k h) _ _
@[sl_canon] theorem oSW (h : k0_cond1 k = 1#1) (hh hs) : (obM.slice (Rect.unit (s := S2x1024x2048) (k0_off6 k) S1x1024x2048.size hh) hs).squeeze S1024x2048 squeezes_S1x1024x2048_S1024x2048 = oS (Ring.sl 2 k.val) := oS_congr (off6_eq k h) _ _
@[sl_canon] theorem oCI (hh) : (cc0_scratch3.slice (Rect.unit (s := S2) (k0_off9 k) S1.size hh)).squeeze S_ squeezes_S1_S_ = oC (Ring.sl 2 k.val) := oC_congr (off9_eq k) _
@[sl_canon] theorem yBI (hh hs) : (yM.slice (Rect.unit (s := S4x4096x2048) (k0_off3 k) S1x1024x2048.size hh) hs).squeeze S1024x2048 squeezes_S1x1024x2048_S1024x2048 = yB (Ring.bk 16 k.val) := yB_congr (off3_eq k) _ _
@[sl_canon] theorem oSI (hh hs) : (obM.slice (Rect.unit (s := S2x1024x2048) (k0_off10 k) S1x1024x2048.size hh) hs).squeeze S1024x2048 squeezes_S1x1024x2048_S1024x2048 = oS (Ring.sl 2 k.val) := oS_congr (off10_eq k) _ _
@[sl_canon] theorem xCI (h : k0_cond2 k = 1#1) (hh) : (cc0_scratch2.slice (Rect.unit (s := S3) (k0_off11 k) S1.size hh)).squeeze S_ squeezes_S1_S_ = xC (Ring.sl 3 k.val) := xC_congr (off11_eq k h) _
@[sl_canon] theorem xSI (h : k0_cond2 k = 1#1) (hh hs) : (xbM.slice (Rect.unit (s := S3x1024x2048) (k0_off12 k) S1x1024x2048.size hh) hs).squeeze S1024x2048 squeezes_S1x1024x2048_S1024x2048 = xS (Ring.sl 3 k.val) := xS_congr (off12_eq k h) _ _
@[sl_canon] theorem xBI (h : k0_cond2 k = 1#1) (hh hs) : (xM.slice (Rect.unit (s := S4x4096x2048) (k0_off13 k) S1x1024x2048.size hh) hs).squeeze S1024x2048 squeezes_S1x1024x2048_S1024x2048 = xB (Ring.bk 16 (k.val + 3)) := xB_congr (off13_eq k h) _ _
end Trip

end Cert.Kernel7Ideal.Norm

end
-- ==== Proof.Norm.TripIdeal.lean ====
/- One step of the final norm's loop. -/
module
public import proofs.«01_k».proof.Proof.Norm.NamesIdeal
public import Idealize.ShloMosaic.Lib.Pipeline.Value

@[expose] public section

noncomputable section

namespace Cert.Kernel7Ideal.Norm

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the run: the pipeline's beside the counters of the kernel's own copies. -/
abbrev UU : Type := UR sig nD τ × Counters
abbrev MM (F : FTy → Type) : Type := MT nD τ sig Unit (Elt F) ℕ UU ℕ
abbrev EP : Emb (UR sig nD τ) (MM F) := embL
abbrev 𝒱₀ : Variants := Variants.none

omit [FloatOps F] in
theorem entails_of_eq {P Q : sProp (MM F)} (e : P = Q) : P ⊢ Q := e ▸ .rfl

section Pieces
variable (c : Dev nD)

abbrev xcP (s : Fin 3) : sProp (MM F) := semVal ((c : Thread nD τ), SemLoc.dma (xC s).sem) 0
abbrev ocP (s : Fin 2) : sProp (MM F) := semVal ((c : Thread nD τ), SemLoc.dma (oC s).sem) 0
abbrev xsP (s : Fin 3) (f : Buf (Elt F) ((xS s).view.loc (c : Thread nD τ))) : sProp (MM F) :=
  (xS s).view.loc (c : Thread nD τ) ↦[(xS s).view.set]{fullShare} f
abbrev osP (s : Fin 2) (f : Buf (Elt F) ((oS s).view.loc (c : Thread nD τ))) : sProp (MM F) :=
  (oS s).view.loc (c : Thread nD τ) ↦[(oS s).view.set]{fullShare} f
abbrev xbP (b : Fin 16) (X : Buf (Elt F) (xM.view.loc (c : Thread nD τ))) : sProp (MM F) :=
  (xB b).view.loc (c : Thread nD τ) ↦[(xB b).view.set]{fullShare} X
abbrev ybP (b : Fin 16) (Y : Buf (Elt F) (yM.view.loc (c : Thread nD τ))) : sProp (MM F) :=
  (yB b).view.loc (c : Thread nD τ) ↦[(yB b).view.set]{fullShare} Y

/-- Slot `s` of the input ring on its way to holding block `b`. -/
abbrev xFl (s : Fin 3) (b : Fin 16) (f : Buf (Elt F) ((xS s).view.loc (c : Thread nD τ))) (X : Buf (Elt F) (xM.view.loc (c : Thread nD τ))) : sProp (MM F) :=
  Transfers.Flight countersEmb (c : Thread nD τ) (SemLoc.dma (xC s).sem) () 262144 iprop(xsP c s f ∗ xbP c b X)
/-- Slot `s` of the output ring on its way to block `b` of the result. -/
abbrev oFl (s : Fin 2) (b : Fin 16) (Y : Buf (Elt F) (yM.view.loc (c : Thread nD τ))) (f : Buf (Elt F) ((oS s).view.loc (c : Thread nD τ))) : sProp (MM F) :=
  Transfers.Flight countersEmb (c : Thread nD τ) (SemLoc.dma (oC s).sem) () 262144 iprop(ybP c b Y ∗ osP c s f)

end Pieces

/-- The norm of a block of rows `x` under the gains `gv`, as the body computes it. -/
def nrm (x : FVec F S1024x2048 .f32) (gv : Vec F S1x2048 .f32) : FVec F S1024x2048 .f32 :=
  k0_pay1 (shapeCast S1x1024x2048 x shapeCasts_S1024x2048_S1x1024x2048) gv

/-- What a load of slot `s` through the whole ring reads. -/
theorem xS_load {s : Fin 3} {off : Fin 3 → Nat} (e : off = xsOff s) (hh) (f : xbM.view.ty.Contents (Elt F)) :
    xbM.view.readAt (Elt F) (Rect.unit (s := S3x1024x2048) off S1x1024x2048.size hh).toLoadRect f
      = shapeCast S1x1024x2048 ((xS s).view.read (Elt F) f) shapeCasts_S1024x2048_S1x1024x2048 := by
  subst e
  exact (shapeCast_shapeCast (xbM.view.readAt (Elt F) (Rect.unit (s := S3x1024x2048) (xsOff s) S1x1024x2048.size hh).toLoadRect f)
    shapeCasts_S1x1024x2048_S1024x2048 shapeCasts_S1024x2048_S1x1024x2048).symm

/-- What slot `s` of the output ring holds after a store through the whole ring. -/
theorem oS_store {s : Fin 2} {off : Fin 3 → Nat} (e : off = osOff s) (hh) (f : obM.view.ty.Contents (Elt F)) (w : FVec F S1024x2048 .f32) :
    (oS s).view.read (Elt F) (View.write (Elt F) (obM.access (Rect.unit (s := S2x1024x2048) off S1x1024x2048.size hh)) f (k0_pay2 w) Finset.univ) = w := by
  subst e
  have h := View.read_write_univ (Val := Elt F) (v := obM.access (Rect.unit (s := S2x1024x2048) (osOff s) S1x1024x2048.size hh)) f (k0_pay2 w)
  refine (congrArg (fun x : FVec F S1x1024x2048 .f32 => shapeCast S1024x2048 x shapeCasts_S1x1024x2048_S1024x2048) h).trans ?_
  exact shapeCast_shapeCast w shapeCasts_S1024x2048_S1x1024x2048 shapeCasts_S1x1024x2048_S1024x2048

section Trip
variable (c : Dev nD)
  (arg1 : Memref sig .tc .vmem S1x2048 .f32) (harg1 : arg1.IsWhole)
  (arg2 : Memref sig .tc .vmem S4x1x2048 .f32) (harg2 : arg2.IsWhole)
  (arg3 : Memref sig .tc .vmem S4x1x2048 .f32) (harg3 : arg3.IsWhole)
  (X : Buf (Elt F) (xM.view.loc (c : Thread nD τ)))
  (g : Buf (Elt F) (arg1.view.loc (c : Thread nD τ)))

abbrev tripG (k : Fin k0_t1_loop.trips) : Prog (TpuEff nD τ sig (Elt F) Λ₀ .tc) Unit :=
  k0_t1_body (F := F) xM (Memref.isWhole_whole _) arg1 harg1 arg2 harg2 arg3 harg3 yM (Memref.isWhole_whole _) xbM (Memref.isWhole_whole _) obM (Memref.isWhole_whole _) cc0_scratch2 cc0_scratch3 k ()

abbrev gP : sProp (MM F) := arg1.view.loc (c : Thread nD τ) ↦[arg1.view.set]{fullShare} g

/-- The gains as the body loads them. -/
abbrev gv : Vec F S1x2048 .f32 := arg1.view.readAt (Elt F) (Rect.unit (s := S1x2048) ![0, 0] S1x2048.size inb_S1x2048_S1x2048_0_0).toLoadRect g

/-- Slot `s` holds block `b` of the input. -/
def XOK (s : Fin 3) (b : Fin 16) (f : Buf (Elt F) ((xS s).view.loc (c : Thread nD τ))) : Prop :=
  (xS s).view.read (Elt F) f = (xB b).view.read (Elt F) X
/-- Block `b` of the result is the norm of block `b` of the input. -/
def YOK (b : Fin 16) (Y : Buf (Elt F) (yM.view.loc (c : Thread nD τ))) : Prop :=
  (yB b).view.read (Elt F) Y = nrm ((xB b).view.read (Elt F) X) (gv c arg1 g)

/-- The copy in of block `b` leaves it in the slot. -/
theorem xok_landed (s : Fin 3) (b : Fin 16) (f : Buf (Elt F) ((xS s).view.loc (c : Thread nD τ))) :
    XOK c X s b ((xS s).view.writes (Elt F) f [⟨Rect.whole S1024x2048, ReadAs.same.apply ((xB b).view.read (Elt F) X)⟩]) :=
  View.read_writes_whole _ _ _

/-- The copy out of block `b` leaves the norm in the result. -/
theorem yok_landed (s : Fin 3) (s' : Fin 2) (b : Fin 16) (off7 off8 : Fin 3 → Nat) (e7 : off7 = xsOff s) (e8 : off8 = osOff s') (h7 h8)
    (fx : Buf (Elt F) ((xS s).view.loc (c : Thread nD τ))) (hx : XOK c X s b fx)
    (fo : Buf (Elt F) ((oS s').view.loc (c : Thread nD τ))) (Y : Buf (Elt F) (yM.view.loc (c : Thread nD τ))) :
    YOK c arg1 X g b ((yB b).view.writes (Elt F) Y [⟨Rect.whole S1024x2048,
      ReadAs.same.apply ((oS s').view.read (Elt F) (View.write (Elt F) (obM.access (Rect.unit (s := S2x1024x2048) off8 S1x1024x2048.size h8)) fo
        (k0_pay2 (k0_pay1 (xbM.view.readAt (Elt F) (Rect.unit (s := S3x1024x2048) off7 S1x1024x2048.size h7).toLoadRect fx) (gv c arg1 g))) Finset.univ))⟩]) := by
  refine (View.read_writes_whole _ _ _).trans ?_
  refine (oS_store e8 h8 fo _).trans ?_
  rw [xS_load e7 h7 fx]
  unfold nrm; rw [hx]

/-- A step in the middle: one block arrives, one older result block has left, the next copies start. -/
theorem tripMid (k : Fin k0_t1_loop.trips) (h1 : k0_cond1 k = 1#1) (h2 : k0_cond2 k = 1#1)
    (fx : Buf (Elt F) ((xS (Ring.sl 3 k.val)).view.loc (c : Thread nD τ))) (hx : XOK c X (Ring.sl 3 k.val) (Ring.bk 16 k.val) fx)
    (fo : Buf (Elt F) ((oS (Ring.sl 2 k.val)).view.loc (c : Thread nD τ)))
    (Yp Y : Buf (Elt F) (yM.view.loc (c : Thread nD τ))) (W : Waits sig Unit) :
    iprop(gP c arg1 g ∗ owes (c : Thread nD τ) 0 W ∗ xFl c (Ring.sl 3 k.val) (Ring.bk 16 k.val) fx X
      ∗ xbP c (Ring.bk 16 (k.val + 3)) X
      ∗ oFl c (Ring.sl 2 k.val) (Ring.bk 16 (k.val - 2)) Yp fo ∗ ybP c (Ring.bk 16 k.val) Y)
    ⊢ wp frame (wpE (defs₀ (F := F)) 𝒱₀ (c : Thread nD τ) none) Set.univ (tripG arg1 harg1 arg2 harg2 arg3 harg3 k)
        (fun _ => iprop(gP c arg1 g ∗ (∃ W, owes (c : Thread nD τ) 0 W) ∗ xbP c (Ring.bk 16 k.val) X
      ∗ (∃ f, ⌜XOK c X (Ring.sl 3 k.val) (Ring.bk 16 (k.val + 3)) f⌝ ∗ xFl c (Ring.sl 3 k.val) (Ring.bk 16 (k.val + 3)) f X)
      ∗ ybP c (Ring.bk 16 (k.val - 2)) Yp
      ∗ (∃ Y' f, ⌜YOK c arg1 X g (Ring.bk 16 k.val) Y'⌝ ∗ oFl c (Ring.sl 2 k.val) (Ring.bk 16 k.val) Y' f))) := by
  iintro ⟨Hg, HW, HX, Hx, HO, Hy⟩
  dsimp only [tripG]
  sl_unfold [k0_t1_body]
  sl_exec
  sl_step
  isplitl [Hg]; · iexact Hg
  isplitl [HW]; · iexists _; iexact HW
  isplitl [HX_src]; · iexact HX_src
  isplitl [HX]
  · iexists _
    isplitr
    · ipureintro; exact xok_landed c X _ _ fx
    iexact HX
  isplitl [HO_dst]; · iexact HO_dst
  iexists _, _
  isplitr
  · ipureintro
    exact yok_landed c arg1 X g _ _ _ _ _ (off7_eq k) (off8_eq k) (k0_off7_inb k) (k0_off8_inb k) fx hx fo Y
  iexact HO

/-- One of the first two steps: no result block is under way yet in this slot. -/
theorem tripFirst (k : Fin k0_t1_loop.trips) (h1 : ¬ k0_cond1 k = 1#1) (h2 : k0_cond2 k = 1#1)
    (fx : Buf (Elt F) ((xS (Ring.sl 3 k.val)).view.loc (c : Thread nD τ))) (hx : XOK c X (Ring.sl 3 k.val) (Ring.bk 16 k.val) fx)
    (fo : Buf (Elt F) ((oS (Ring.sl 2 k.val)).view.loc (c : Thread nD τ)))
    (Y : Buf (Elt F) (yM.view.loc (c : Thread nD τ))) (W : Waits sig Unit) :
    iprop(gP c arg1 g ∗ owes (c : Thread nD τ) 0 W ∗ xFl c (Ring.sl 3 k.val) (Ring.bk 16 k.val) fx X
      ∗ xbP c (Ring.bk 16 (k.val + 3)) X
      ∗ osP c (Ring.sl 2 k.val) fo ∗ ocP c (Ring.sl 2 k.val) ∗ ybP c (Ring.bk 16 k.val) Y)
    ⊢ wp frame (wpE (defs₀ (F := F)) 𝒱₀ (c : Thread nD τ) none) Set.univ (tripG arg1 harg1 arg2 harg2 arg3 harg3 k)
        (fun _ => iprop(gP c arg1 g ∗ (∃ W, owes (c : Thread nD τ) 0 W) ∗ xbP c (Ring.bk 16 k.val) X
      ∗ (∃ f, ⌜XOK c X (Ring.sl 3 k.val) (Ring.bk 16 (k.val + 3)) f⌝ ∗ xFl c (Ring.sl 3 k.val) (Ring.bk 16 (k.val + 3)) f X)
      ∗ (∃ Y' f, ⌜YOK c arg1 X g (Ring.bk 16 k.val) Y'⌝ ∗ oFl c (Ring.sl 2 k.val) (Ring.bk 16 k.val) Y' f))) := by
  iintro ⟨Hg, HW, HX, Hx, HO, HC, Hy⟩
  dsimp only [tripG]
  sl_unfold [k0_t1_body]
  sl_exec
  sl_step
  isplitl [Hg]; · iexact Hg
  isplitl [HW]; · iexists _; iexact HW
  isplitl [HX_src]; · iexact HX_src
  isplitl [HX]
  · iexists _
    isplitr
    · ipureintro; exact xok_landed c X _ _ fx
    iexact HX
  iexists _, _
  isplitr
  · ipureintro
    exact yok_landed c arg1 X g _ _ _ _ _ (off7_eq k) (off8_eq k) (k0_off7_inb k) (k0_off8_inb k) fx hx fo Y
  iexact HC

/-- One of the last steps: no further input block is asked for. -/
theorem tripLast (k : Fin k0_t1_loop.trips) (h1 : k0_cond1 k = 1#1) (h2 : ¬ k0_cond2 k = 1#1)
    (fx : Buf (Elt F) ((xS (Ring.sl 3 k.val)).view.loc (c : Thread nD τ))) (hx : XOK c X (Ring.sl 3 k.val) (Ring.bk 16 k.val) fx)
    (fo : Buf (Elt F) ((oS (Ring.sl 2 k.val)).view.loc (c : Thread nD τ)))
    (Yp Y : Buf (Elt F) (yM.view.loc (c : Thread nD τ))) (W : Waits sig Unit) :
    iprop(gP c arg1 g ∗ owes (c : Thread nD τ) 0 W ∗ xFl c (Ring.sl 3 k.val) (Ring.bk 16 k.val) fx X
      ∗ oFl c (Ring.sl 2 k.val) (Ring.bk 16 (k.val - 2)) Yp fo ∗ ybP c (Ring.bk 16 k.val) Y)
    ⊢ wp frame (wpE (defs₀ (F := F)) 𝒱₀ (c : Thread nD τ) none) Set.univ (tripG arg1 harg1 arg2 harg2 arg3 harg3 k)
        (fun _ => iprop(gP c arg1 g ∗ (∃ W, owes (c : Thread nD τ) 0 W) ∗ xbP c (Ring.bk 16 k.val) X
      ∗ (∃ f, xsP c (Ring.sl 3 k.val) f) ∗ xcP c (Ring.sl 3 k.val)
      ∗ ybP c (Ring.bk 16 (k.val - 2)) Yp
      ∗ (∃ Y' f, ⌜YOK c arg1 X g (Ring.bk 16 k.val) Y'⌝ ∗ oFl c (Ring.sl 2 k.val) (Ring.bk 16 k.val) Y' f))) := by
  iintro ⟨Hg, HW, HX, HO, Hy⟩
  dsimp only [tripG]
  sl_unfold [k0_t1_body]
  sl_exec
  sl_step
  isplitl [Hg]; · iexact Hg
  isplitl [HW]; · iexists _; iexact HW
  isplitl [HX_src]; · iexact HX_src
  isplitl [HX_dst]; · iexists _; iexact HX_dst
  isplitl [HX]; · iexact HX
  isplitl [HO_dst]; · iexact HO_dst
  iexists _, _
  isplitr
  · ipureintro
    exact yok_landed c arg1 X g _ _ _ _ _ (off7_eq k) (off8_eq k) (k0_off7_inb k) (k0_off8_inb k) fx hx fo Y
  iexact HO

end Trip

end Cert.Kernel7Ideal.Norm

end
-- ==== Proof.Norm.LoopIdeal.lean ====
/- The final norm's loop invariant and its body's run. -/
module
public import proofs.«01_k».proof.Proof.Norm.TripIdeal

@[expose] public section

noncomputable section

namespace Cert.Kernel7Ideal.Norm

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Taking blocks out of a family of sixteen -/

omit [FloatOps F] in
theorem one_out {Φ Ψ : Fin 16 → sProp (MM F)} (a : Fin 16) (h : ∀ i, i ≠ a → Φ i = Ψ i) :
    bigSep Finset.univ Φ = iprop(Φ a ∗ bigSep (Finset.univ.erase a) Ψ) := by
  rw [BI.bigSep_erase (Finset.mem_univ a)]
  rw [bigSep_congr (s := Finset.univ.erase a) (Φ := Φ) (Ψ := Ψ) fun i hi => h i (Finset.ne_of_mem_erase hi)]
  rfl

omit [FloatOps F] in
theorem two_out {Φ Ψ : Fin 16 → sProp (MM F)} (a b : Fin 16) (hab : b ≠ a) (h : ∀ i, i ≠ a → i ≠ b → Φ i = Ψ i) :
    bigSep Finset.univ Φ = iprop(Φ a ∗ Φ b ∗ bigSep ((Finset.univ.erase a).erase b) Ψ) := by
  rw [BI.bigSep_erase (Finset.mem_univ a), BI.bigSep_erase (Finset.mem_erase.mpr ⟨hab, Finset.mem_univ b⟩)]
  rw [bigSep_congr (s := (Finset.univ.erase a).erase b) (Φ := Φ) (Ψ := Ψ) fun i hi =>
    h i (Finset.ne_of_mem_erase (Finset.mem_of_mem_erase hi)) (Finset.ne_of_mem_erase hi)]
  rfl

omit [FloatOps F] in
theorem three_out {Φ Ψ : Fin 16 → sProp (MM F)} (a b d : Fin 16) (hab : b ≠ a) (had : d ≠ a) (hbd : d ≠ b)
    (h : ∀ i, i ≠ a → i ≠ b → i ≠ d → Φ i = Ψ i) :
    bigSep Finset.univ Φ = iprop(Φ a ∗ Φ b ∗ Φ d ∗ bigSep (((Finset.univ.erase a).erase b).erase d) Ψ) := by
  rw [BI.bigSep_erase (Finset.mem_univ a), BI.bigSep_erase (Finset.mem_erase.mpr ⟨hab, Finset.mem_univ b⟩),
    BI.bigSep_erase (Finset.mem_erase.mpr ⟨hbd, Finset.mem_erase.mpr ⟨had, Finset.mem_univ d⟩⟩)]
  rw [bigSep_congr (s := ((Finset.univ.erase a).erase b).erase d) (Φ := Φ) (Ψ := Ψ) fun i hi =>
    h i (Finset.ne_of_mem_erase (Finset.mem_of_mem_erase (Finset.mem_of_mem_erase hi)))
      (Finset.ne_of_mem_erase (Finset.mem_of_mem_erase hi)) (Finset.ne_of_mem_erase hi)]
  rfl

section Loop
variable (c : Dev nD)
  (arg1 : Memref sig .tc .vmem S1x2048 .f32) (harg1 : arg1.IsWhole)
  (arg2 : Memref sig .tc .vmem S4x1x2048 .f32) (harg2 : arg2.IsWhole)
  (arg3 : Memref sig .tc .vmem S4x1x2048 .f32) (harg3 : arg3.IsWhole)
  (X : Buf (Elt F) (xM.view.loc (c : Thread nD τ)))
  (g : Buf (Elt F) (arg1.view.loc (c : Thread nD τ)))

/-- Block `b` on its way into slot `s`. -/
def inFl (s : Fin 3) (b : Fin 16) : sProp (MM F) := iprop(∃ f, ⌜XOK c X s b f⌝ ∗ xFl c s b f X)
/-- A free slot of the input ring with its cell. -/
def inFree (s : Fin 3) : sProp (MM F) := iprop((∃ f, xsP c s f) ∗ xcP c s)
/-- Block `b` of the result on its way out of slot `s`. -/
def outFl (s : Fin 2) (b : Fin 16) : sProp (MM F) := iprop(∃ Y f, ⌜YOK c arg1 X g b Y⌝ ∗ oFl c s b Y f)
/-- A free slot of the output ring with its cell. -/
def outFree (s : Fin 2) : sProp (MM F) := iprop((∃ f, osP c s f) ∗ ocP c s)
/-- Block `b` of the result, not yet written. -/
def outHome (b : Fin 16) : sProp (MM F) := iprop(∃ Y, ybP c b Y)
/-- Block `b` of the result, written. -/
def outDone (b : Fin 16) : sProp (MM F) := iprop(∃ Y, ⌜YOK c arg1 X g b Y⌝ ∗ ybP c b Y)

/-- Where block `b` of the input is before step `k`. -/
def inB (k : ℕ) (b : Fin 16) : sProp (MM F) :=
  if b.val < k then (if 13 ≤ b.val then iprop(xbP c b X ∗ inFree c (Ring.sl 3 b.val)) else xbP c b X)
  else if b.val < k + 3 then inFl c X (Ring.sl 3 b.val) b else xbP c b X
/-- Where block `b` of the result is before step `k`. -/
def outB (k : ℕ) (b : Fin 16) : sProp (MM F) :=
  if k ≤ b.val then (if b.val < 2 then iprop(outHome c b ∗ outFree c (Ring.sl 2 b.val)) else outHome c b)
  else if k ≤ b.val + 2 then outFl c arg1 X g (Ring.sl 2 b.val) b else outDone c arg1 X g b

/-- What the loop holds before step `k`. -/
def invT (k : ℕ) : sProp (MM F) :=
  iprop(gP c arg1 g ∗ (∃ W, owes (c : Thread nD τ) 0 W) ∗ bigSep Finset.univ (inB c X k) ∗ bigSep Finset.univ (outB c arg1 X g k))

theorem bk_ne {a b : ℕ} (ha : a < 16) (hb : b < 16) (h : b ≠ a) : Ring.bk 16 b ≠ Ring.bk 16 a := fun e =>
  h (by have := congrArg Fin.val e; rwa [Ring.bk_val ha, Ring.bk_val hb] at this)
theorem val_ne {a : ℕ} (ha : a < 16) {i : Fin 16} (h : i ≠ Ring.bk 16 a) : i.val ≠ a := fun e =>
  h (Fin.ext (by rw [Ring.bk_val ha]; exact e))

theorem inB_here {k : ℕ} (hk : k < 16) : inB c X k (Ring.bk 16 k) = inFl c X (Ring.sl 3 k) (Ring.bk 16 k) := by
  have e := Ring.bk_val hk
  unfold inB; rw [e, if_neg (by omega), if_pos (by omega)]
theorem inB_next {k : ℕ} (hk : k + 3 < 16) : inB c X k (Ring.bk 16 (k + 3)) = xbP c (Ring.bk 16 (k + 3)) X := by
  have e := Ring.bk_val hk
  unfold inB; rw [e, if_neg (by omega), if_neg (by omega)]
theorem inB_home {k : ℕ} (hk : k < 13) : inB c X (k + 1) (Ring.bk 16 k) = xbP c (Ring.bk 16 k) X := by
  have e := Ring.bk_val (NB := 16) (k := k) (by omega)
  unfold inB; rw [e, if_pos (by omega), if_neg (by omega)]
theorem inB_free {k : ℕ} (hk : k < 16) (h : 13 ≤ k) : inB c X (k + 1) (Ring.bk 16 k) = iprop(xbP c (Ring.bk 16 k) X ∗ inFree c (Ring.sl 3 k)) := by
  have e := Ring.bk_val hk
  unfold inB; rw [e, if_pos (by omega), if_pos (by omega)]
theorem inB_sent {k : ℕ} (hk : k + 3 < 16) : inB c X (k + 1) (Ring.bk 16 (k + 3)) = inFl c X (Ring.sl 3 k) (Ring.bk 16 (k + 3)) := by
  have e := Ring.bk_val hk
  unfold inB; rw [e, if_neg (by omega), if_pos (by omega), Ring.sl_add]
theorem inB_rest {k : ℕ} {i : Fin 16} (h : i.val ≠ k) (h' : i.val ≠ k + 3) : inB c X k i = inB c X (k + 1) i := by
  unfold inB
  by_cases h1 : i.val < k
  · rw [if_pos h1, if_pos (show i.val < k + 1 by omega)]
  · rw [if_neg h1, if_neg (show ¬ i.val < k + 1 by omega)]
    by_cases h2 : i.val < k + 3
    · rw [if_pos h2, if_pos (by omega)]
    · rw [if_neg h2, if_neg (by omega)]

theorem outB_first {k : ℕ} (hk : k < 2) : outB c arg1 X g k (Ring.bk 16 k) = iprop(outHome c (Ring.bk 16 k) ∗ outFree c (Ring.sl 2 k)) := by
  have e := Ring.bk_val (NB := 16) (k := k) (by omega)
  unfold outB; rw [e, if_pos (by omega), if_pos (by omega)]
theorem outB_home {k : ℕ} (hk : k < 16) (h : 2 ≤ k) : outB c arg1 X g k (Ring.bk 16 k) = outHome c (Ring.bk 16 k) := by
  have e := Ring.bk_val hk
  unfold outB; rw [e, if_pos (by omega), if_neg (by omega)]
theorem outB_sent {k : ℕ} (hk : k < 16) : outB c arg1 X g (k + 1) (Ring.bk 16 k) = outFl c arg1 X g (Ring.sl 2 k) (Ring.bk 16 k) := by
  have e := Ring.bk_val hk
  unfold outB; rw [e, if_neg (by omega), if_pos (by omega)]
theorem sl2_sub {k : ℕ} (h : 2 ≤ k) : Ring.sl 2 (k - 2) = Ring.sl 2 k := by
  have := Ring.sl_add 2 (k - 2); rw [show k - 2 + 2 = k by omega] at this; exact this.symm
theorem outB_due {k : ℕ} (hk : k < 16) (h : 2 ≤ k) : outB c arg1 X g k (Ring.bk 16 (k - 2)) = outFl c arg1 X g (Ring.sl 2 k) (Ring.bk 16 (k - 2)) := by
  have e := Ring.bk_val (NB := 16) (k := k - 2) (by omega)
  unfold outB; rw [e, if_neg (by omega), if_pos (by omega), sl2_sub h]
theorem outB_done {k : ℕ} (hk : k < 16) (h : 2 ≤ k) : outB c arg1 X g (k + 1) (Ring.bk 16 (k - 2)) = outDone c arg1 X g (Ring.bk 16 (k - 2)) := by
  have e := Ring.bk_val (NB := 16) (k := k - 2) (by omega)
  unfold outB; rw [e, if_neg (by omega), if_neg (by omega)]
theorem outB_rest {k : ℕ} {i : Fin 16} (h : i.val ≠ k) (h' : i.val + 2 ≠ k) : outB c arg1 X g k i = outB c arg1 X g (k + 1) i := by
  unfold outB
  by_cases h1 : k ≤ i.val
  · rw [if_pos h1, if_pos (show k + 1 ≤ i.val by omega)]
  · rw [if_neg h1, if_neg (show ¬ k + 1 ≤ i.val by omega)]
    by_cases h2 : k ≤ i.val + 2
    · rw [if_pos h2, if_pos (by omega)]
    · rw [if_neg h2, if_neg (by omega)]

/-- One step takes the invariant at `k` to the invariant at `k + 1`. -/
theorem stepT (k : Fin k0_t1_loop.trips) :
    invT c arg1 X g k.val ⊢ wp frame (wpE (defs₀ (F := F)) 𝒱₀ (c : Thread nD τ) none) Set.univ (tripG arg1 harg1 arg2 harg2 arg3 harg3 k)
      (fun _ => invT c arg1 X g (k.val + 1)) := by
  have hk : k.val < 16 := Nat.lt_of_lt_of_eq k.isLt trips_eq
  unfold invT
  by_cases h1 : k0_cond1 k = 1#1
  · have k2 : 2 ≤ k.val := (cond1_iff k).mp h1
    have eo : ∀ i : Fin 16, i ≠ Ring.bk 16 k.val → i ≠ Ring.bk 16 (k.val - 2) → outB c arg1 X g k.val i = outB c arg1 X g (k.val + 1) i := fun i ha hb => by
      have := val_ne hk ha; have := val_ne (a := k.val - 2) (by omega) hb; exact outB_rest c arg1 X g (by omega) (by omega)
    rw [two_out (Φ := outB c arg1 X g k.val) (Ring.bk 16 k.val) (Ring.bk 16 (k.val - 2)) (bk_ne hk (by omega) (by omega)) eo,
      two_out (Φ := outB c arg1 X g (k.val + 1)) (Ring.bk 16 k.val) (Ring.bk 16 (k.val - 2)) (bk_ne hk (by omega) (by omega)) (fun _ _ _ => rfl),
      outB_home c arg1 X g hk k2, outB_due c arg1 X g hk k2, outB_sent c arg1 X g hk, outB_done c arg1 X g hk k2]
    by_cases h2 : k0_cond2 k = 1#1
    · have k3 : k.val + 3 < 16 := (cond2_iff k).mp h2
      have ei : ∀ i : Fin 16, i ≠ Ring.bk 16 k.val → i ≠ Ring.bk 16 (k.val + 3) → inB c X k.val i = inB c X (k.val + 1) i := fun i ha hb =>
        inB_rest c X (val_ne hk ha) (val_ne k3 hb)
      rw [two_out (Φ := inB c X k.val) (Ring.bk 16 k.val) (Ring.bk 16 (k.val + 3)) (bk_ne hk k3 (by omega)) ei,
        two_out (Φ := inB c X (k.val + 1)) (Ring.bk 16 k.val) (Ring.bk 16 (k.val + 3)) (bk_ne hk k3 (by omega)) (fun _ _ _ => rfl),
        inB_here c X hk, inB_next c X k3, inB_home c X (by omega), inB_sent c X k3]
      unfold inFl outFl outHome outDone
      iintro ⟨Hg, ⟨%W, HW⟩, ⟨⟨%fx, %hx, HX⟩, Hx, Hi⟩, ⟨%Y, Hy⟩, ⟨%Yp, %fo, %hy, HO⟩, Ho⟩
      iapply (wp_wand_r Idealize.ShloMosaic.frame (wpE (defs₀ (F := F)) 𝒱₀ (c : Thread nD τ) none) Set.univ)
      isplitl [Hg HW HX Hx HO Hy]
      · iapply (tripMid c arg1 harg1 arg2 harg2 arg3 harg3 X g k h1 h2 fx hx fo Yp Y W)
        isplitl [Hg]; · iexact Hg
        isplitl [HW]; · iexact HW
        isplitl [HX]; · iexact HX
        isplitl [Hx]; · iexact Hx
        isplitl [HO]; · iexact HO
        iexact Hy
      · iintro %_ ⟨Hg, HW, Hb, HX, HD, HY⟩
        isplitl [Hg]; · iexact Hg
        isplitl [HW]; · iexact HW
        isplitl [Hb HX Hi]
        · isplitl [Hb]; · iexact Hb
          isplitl [HX]; · iexact HX
          iexact Hi
        isplitl [HY]; · iexact HY
        isplitl [HD]
        · iexists Yp; isplitr; · ipureintro; exact hy
          iexact HD
        iexact Ho
    · have k3 : ¬ k.val + 3 < 16 := fun h => h2 ((cond2_iff k).mpr h)
      have ei : ∀ i : Fin 16, i ≠ Ring.bk 16 k.val → inB c X k.val i = inB c X (k.val + 1) i := fun i ha =>
        inB_rest c X (val_ne hk ha) (by have := i.isLt; omega)
      rw [one_out (Φ := inB c X k.val) (Ring.bk 16 k.val) ei,
        one_out (Φ := inB c X (k.val + 1)) (Ring.bk 16 k.val) (fun _ _ => rfl),
        inB_here c X hk, inB_free c X hk (by omega)]
      unfold inFl outFl outHome outDone inFree
      iintro ⟨Hg, ⟨%W, HW⟩, ⟨⟨%fx, %hx, HX⟩, Hi⟩, ⟨%Y, Hy⟩, ⟨%Yp, %fo, %hy, HO⟩, Ho⟩
      iapply (wp_wand_r Idealize.ShloMosaic.frame (wpE (defs₀ (F := F)) 𝒱₀ (c : Thread nD τ) none) Set.univ)
      isplitl [Hg HW HX HO Hy]
      · iapply (tripLast c arg1 harg1 arg2 harg2 arg3 harg3 X g k h1 h2 fx hx fo Yp Y W)
        isplitl [Hg]; · iexact Hg
        isplitl [HW]; · iexact HW
        isplitl [HX]; · iexact HX
        isplitl [HO]; · iexact HO
        iexact Hy
      · iintro %_ ⟨Hg, HW, Hb, HS, HC, HD, HY⟩
        isplitl [Hg]; · iexact Hg
        isplitl [HW]; · iexact HW
        isplitl [Hb HS HC Hi]
        · isplitl [Hb HS HC]
          · isplitl [Hb]; · iexact Hb
            isplitl [HS]; · iexact HS
            iexact HC
          iexact Hi
        isplitl [HY]; · iexact HY
        isplitl [HD]
        · iexists Yp; isplitr; · ipureintro; exact hy
          iexact HD
        iexact Ho
  · have k2 : k.val < 2 := by by_contra h; exact h1 ((cond1_iff k).mpr (by omega))
    have k3 : k.val + 3 < 16 := by omega
    have h2 : k0_cond2 k = 1#1 := (cond2_iff k).mpr k3
    have eo : ∀ i : Fin 16, i ≠ Ring.bk 16 k.val → outB c arg1 X g k.val i = outB c arg1 X g (k.val + 1) i := fun i ha =>
      outB_rest c arg1 X g (val_ne hk ha) (by omega)
    have ei : ∀ i : Fin 16, i ≠ Ring.bk 16 k.val → i ≠ Ring.bk 16 (k.val + 3) → inB c X k.val i = inB c X (k.val + 1) i := fun i ha hb =>
      inB_rest c X (val_ne hk ha) (val_ne k3 hb)
    rw [one_out (Φ := outB c arg1 X g k.val) (Ring.bk 16 k.val) eo,
      one_out (Φ := outB c arg1 X g (k.val + 1)) (Ring.bk 16 k.val) (fun _ _ => rfl),
      outB_first c arg1 X g k2, outB_sent c arg1 X g hk,
      two_out (Φ := inB c X k.val) (Ring.bk 16 k.val) (Ring.bk 16 (k.val + 3)) (bk_ne hk k3 (by omega)) ei,
      two_out (Φ := inB c X (k.val + 1)) (Ring.bk 16 k.val) (Ring.bk 16 (k.val + 3)) (bk_ne hk k3 (by omega)) (fun _ _ _ => rfl),
      inB_here c X hk, inB_next c X k3, inB_home c X (by omega), inB_sent c X k3]
    unfold inFl outFl outHome outFree
    iintro ⟨Hg, ⟨%W, HW⟩, ⟨⟨%fx, %hx, HX⟩, Hx, Hi⟩, ⟨⟨%Y, Hy⟩, ⟨%fo, HO⟩, HC⟩, Ho⟩
    iapply (wp_wand_r Idealize.ShloMosaic.frame (wpE (defs₀ (F := F)) 𝒱₀ (c : Thread nD τ) none) Set.univ)
    isplitl [Hg HW HX Hx HO HC Hy]
    · iapply (tripFirst c arg1 harg1 arg2 harg2 arg3 harg3 X g k h1 h2 fx hx fo Y W)
      isplitl [Hg]; · iexact Hg
      isplitl [HW]; · iexact HW
      isplitl [HX]; · iexact HX
      isplitl [Hx]; · iexact Hx
      isplitl [HO]; · iexact HO
      isplitl [HC]; · iexact HC
      iexact Hy
    · iintro %_ ⟨Hg, HW, Hb, HX, HY⟩
      isplitl [Hg]; · iexact Hg
      isplitl [HW]; · iexact HW
      isplitl [Hb HX Hi]
      · isplitl [Hb]; · iexact Hb
        isplitl [HX]; · iexact HX
        iexact Hi
      isplitl [HY]; · iexact HY
      iexact Ho

set_option warn.classDefReducibility false in
/-- The loop's invariant, as the run takes it. -/
@[sl_loop] def loopInv :
    LoopInvTy_k0_t1 (F := F) Unit ℕ UU ℕ 𝒱₀ c none Set.univ xM (Memref.isWhole_whole _) arg1 harg1 arg2 harg2 arg3 harg3 yM (Memref.isWhole_whole _) xbM (Memref.isWhole_whole _) obM (Memref.isWhole_whole _) cc0_scratch2 cc0_scratch3 where
  inv k _ := invT c arg1 X g k
  step k _ := stepT c arg1 harg1 arg2 harg2 arg3 harg3 X g k

/-! ## The body -/

/-- What the body is handed. -/
abbrev PRE (Y0 : Buf (Elt F) (yM.view.loc (c : Thread nD τ))) (W : Waits sig Unit) : sProp (MM F) :=
  iprop(gP c arg1 g ∗ owes (c : Thread nD τ) 0 W ∗ bigSep Finset.univ (fun b => xbP c b X) ∗ bigSep Finset.univ (fun b => ybP c b Y0)
    ∗ inFree c 0 ∗ inFree c 1 ∗ inFree c 2 ∗ outFree c 0 ∗ outFree c 1)
/-- What it hands back. -/
abbrev POST : sProp (MM F) :=
  iprop(gP c arg1 g ∗ (∃ W, owes (c : Thread nD τ) 0 W) ∗ bigSep Finset.univ (fun b => xbP c b X) ∗ bigSep Finset.univ (outDone c arg1 X g)
    ∗ inFree c 0 ∗ inFree c 1 ∗ inFree c 2 ∗ outFree c 0 ∗ outFree c 1)

/-- Before the loop: the first three blocks are on their way in. -/
theorem inv_zero : iprop((inFl c X 0 0 ∗ inFl c X 1 1 ∗ inFl c X 2 2 ∗ bigSep (((Finset.univ.erase (0 : Fin 16)).erase 1).erase 2) (fun b => xbP c b X))
      ∗ bigSep Finset.univ (outHome c) ∗ outFree c 0 ∗ outFree c 1)
    ⊢ iprop(bigSep Finset.univ (inB c X 0) ∗ bigSep Finset.univ (outB c arg1 X g 0)) := by
  have e : ∀ i : Fin 16, i ≠ 0 → i ≠ 1 → i ≠ 2 → inB c X 0 i = xbP c i X := fun i h0 h1 h2 => by
    have := Fin.val_ne_of_ne h0; have := Fin.val_ne_of_ne h1; have := Fin.val_ne_of_ne h2
    have a0 : i.val ≠ 0 := ‹i.val ≠ (0 : Fin 16).val›
    have a1 : i.val ≠ 1 := ‹i.val ≠ (1 : Fin 16).val›
    have a2 : i.val ≠ 2 := ‹i.val ≠ (2 : Fin 16).val›
    unfold inB; rw [if_neg (by omega), if_neg (by omega)]
  have eo : ∀ i : Fin 16, i ≠ 0 → i ≠ 1 → outB c arg1 X g 0 i = outHome c i := fun i h0 h1 => by
    have a0 : i.val ≠ 0 := Fin.val_ne_of_ne h0
    have a1 : i.val ≠ 1 := Fin.val_ne_of_ne h1
    unfold outB; rw [if_pos (by omega), if_neg (by omega)]
  rw [three_out (Φ := inB c X 0) 0 1 2 (by decide) (by decide) (by decide) e,
    two_out (Φ := outB c arg1 X g 0) 0 1 (by decide) eo,
    two_out (Φ := outHome c) 0 1 (by decide) (fun _ _ _ => rfl),
    show inB c X 0 0 = inFl c X 0 0 from rfl, show inB c X 0 1 = inFl c X 1 1 from rfl, show inB c X 0 2 = inFl c X 2 2 from rfl,
    show outB c arg1 X g 0 0 = iprop(outHome c 0 ∗ outFree c 0) from rfl, show outB c arg1 X g 0 1 = iprop(outHome c 1 ∗ outFree c 1) from rfl]
  iintro ⟨⟨H0, H1, H2, Hi⟩, ⟨Ho0, Ho1, Ho⟩, Hf0, Hf1⟩
  isplitl [H0 H1 H2 Hi]
  · isplitl [H0]; · iexact H0
    isplitl [H1]; · iexact H1
    isplitl [H2]; · iexact H2
    iexact Hi
  isplitl [Ho0 Hf0]
  · isplitl [Ho0]; · iexact Ho0
    iexact Hf0
  isplitl [Ho1 Hf1]
  · isplitl [Ho1]; · iexact Ho1
    iexact Hf1
  iexact Ho

/-- After the loop: only the last two blocks are still on their way out. -/
theorem inv_last (n : ℕ) (hn : n = 16) : iprop(bigSep Finset.univ (inB c X n) ∗ bigSep Finset.univ (outB c arg1 X g n))
    ⊢ iprop(bigSep Finset.univ (fun b => xbP c b X) ∗ (inFree c 0 ∗ inFree c 1 ∗ inFree c 2)
      ∗ outFl c arg1 X g 0 14 ∗ outFl c arg1 X g 1 15 ∗ bigSep ((Finset.univ.erase (14 : Fin 16)).erase 15) (outDone c arg1 X g)) := by
  subst hn
  have e : ∀ i : Fin 16, i ≠ 13 → i ≠ 14 → i ≠ 15 → inB c X 16 i = xbP c i X := fun i h0 h1 h2 => by
    have a0 : i.val ≠ 13 := Fin.val_ne_of_ne h0
    have a1 : i.val ≠ 14 := Fin.val_ne_of_ne h1
    have a2 : i.val ≠ 15 := Fin.val_ne_of_ne h2
    have := i.isLt
    unfold inB; rw [if_pos (by omega), if_neg (by omega)]
  have eo : ∀ i : Fin 16, i ≠ 14 → i ≠ 15 → outB c arg1 X g 16 i = outDone c arg1 X g i := fun i h0 h1 => by
    have a0 : i.val ≠ 14 := Fin.val_ne_of_ne h0
    have a1 : i.val ≠ 15 := Fin.val_ne_of_ne h1
    have := i.isLt
    unfold outB; rw [if_neg (by omega), if_neg (by omega)]
  rw [three_out (Φ := inB c X 16) 13 14 15 (by decide) (by decide) (by decide) e,
    three_out (Φ := fun b => xbP c b X) 13 14 15 (by decide) (by decide) (by decide) (fun _ _ _ _ => rfl),
    two_out (Φ := outB c arg1 X g 16) 14 15 (by decide) eo,
    show inB c X 16 13 = iprop(xbP c 13 X ∗ inFree c 1) from rfl, show inB c X 16 14 = iprop(xbP c 14 X ∗ inFree c 2) from rfl,
    show inB c X 16 15 = iprop(xbP c 15 X ∗ inFree c 0) from rfl,
    show outB c arg1 X g 16 14 = outFl c arg1 X g 0 14 from rfl, show outB c arg1 X g 16 15 = outFl c arg1 X g 1 15 from rfl]
  iintro ⟨⟨⟨H13, F1⟩, ⟨H14, F2⟩, ⟨H15, F0⟩, Hi⟩, HO⟩
  isplitl [H13 H14 H15 Hi]
  · isplitl [H13]; · iexact H13
    isplitl [H14]; · iexact H14
    isplitl [H15]; · iexact H15
    iexact Hi
  isplitl [F0 F1 F2]
  · isplitl [F0]; · iexact F0
    isplitl [F1]; · iexact F1
    iexact F2
  iexact HO

theorem home_of (Y0 : Buf (Elt F) (yM.view.loc (c : Thread nD τ))) (b : Fin 16) : ybP c b Y0 ⊢ outHome c b := by
  unfold outHome; iintro H; iexists Y0; iexact H
theorem homes_of (Y0 : Buf (Elt F) (yM.view.loc (c : Thread nD τ))) :
    bigSep Finset.univ (fun b => ybP c b Y0) ⊢ bigSep Finset.univ (outHome c) :=
  bigSep_mono fun b _ => home_of c Y0 b

/-- The body's run. -/
theorem bodyRun (Y0 : Buf (Elt F) (yM.view.loc (c : Thread nD τ))) (W : Waits sig Unit) (Q : PUnit → sProp (MM F)) :
    iprop(PRE c arg1 X g Y0 W ∗ (POST c arg1 X g -∗ Q ⟨⟩))
      ⊢ wp frame (wpE (defs₀ (F := F)) 𝒱₀ (c : Thread nD τ) none) Set.univ
        (cc0_rmsnorm (F := F) xM (Memref.isWhole_whole _) arg1 harg1 arg2 harg2 arg3 harg3 yM (Memref.isWhole_whole _) xbM (Memref.isWhole_whole _) obM (Memref.isWhole_whole _) cc0_scratch2 cc0_scratch3) Q := by
  dsimp only [PRE]
  rw [three_out (Φ := fun b => xbP c b X) 0 1 2 (by decide) (by decide) (by decide) (fun _ _ _ _ => rfl)]
  unfold inFree outFree
  iintro ⟨⟨Hg, HW, ⟨Hx0, Hx1, Hx2, Hx⟩, Hy, ⟨⟨%f0, Hs0⟩, Hc0⟩, ⟨⟨%f1, Hs1⟩, Hc1⟩, ⟨⟨%f2, Hs2⟩, Hc2⟩, Hof0, Hof1⟩, Hk⟩
  sl_exec
  ihave HI := (inv_zero c arg1 X g) $$ [Hc0 Hc1 Hc2 Hx Hy Hof0 Hof1]
  · isplitl [Hc0 Hc1 Hc2 Hx]
    · isplitl [Hc0]
      · unfold inFl; iexists _; isplitr; · ipureintro; exact xok_landed c X 0 0 f0
        iexact Hc0
      isplitl [Hc1]
      · unfold inFl; iexists _; isplitr; · ipureintro; exact xok_landed c X 1 1 f1
        iexact Hc1
      isplitl [Hc2]
      · unfold inFl; iexists _; isplitr; · ipureintro; exact xok_landed c X 2 2 f2
        iexact Hc2
      iexact Hx
    isplitl [Hy]
    · iapply (homes_of c Y0); iexact Hy
    unfold outFree
    isplitl [Hof0]; · iexact Hof0
    iexact Hof1
  icases HI with ⟨HI, HO⟩
  sl_exec
  ihave HL := (inv_last c arg1 X g _ trips_eq) $$ [HI HO]
  · isplitl [HI]; · iexact HI
    iexact HO
  unfold outFl
  icases HL with ⟨Hx, ⟨F0, F1, F2⟩, ⟨%Ya, %fa, %hya, HA⟩, ⟨%Yb, %fb, %hyb, HB⟩, Ho⟩
  sl_exec
  sl_step
  iapply Hk
  dsimp only [POST]
  rw [two_out (Φ := outDone c arg1 X g) 14 15 (by decide) (fun _ _ _ => rfl)]
  isplitl [Hg]; · iexact Hg
  isplitl [HW]; · iexists _; iexact HW
  isplitl [Hx]; · iexact Hx
  isplitl [HA_dst HB_dst Ho]
  · isplitl [HA_dst]
    · unfold outDone; iexists Ya; isplitr; · ipureintro; exact hya
      iexact HA_dst
    isplitl [HB_dst]
    · unfold outDone; iexists Yb; isplitr; · ipureintro; exact hyb
      iexact HB_dst
    iexact Ho
  unfold inFree outFree
  isplitl [F0]; · iexact F0
  isplitl [F1]; · iexact F1
  isplitl [F2]; · iexact F2
  isplitl [HA_src HA]
  · isplitl [HA_src]; · iexists _; iexact HA_src
    iexact HA
  isplitl [HB_src]; · iexists _; iexact HB_src
  iexact HB

end Loop

end Cert.Kernel7Ideal.Norm

end
-- ==== Proof.Norm.LaunchIdeal.lean ====
/- The final norm's run from launch to end. -/
module
public import proofs.«01_k».proof.Proof.Norm.LoopIdeal
public import proofs.«01_k».proof.Proof.Gen.Kernel7Ideal.Launch
public import proofs.«01_k».proof.Proof.Gen.Kernel7Ideal.Points
public import Idealize.ShloMosaic.Lib.Pipeline.FrameValue
public import Idealize.ShloMosaic.Lib.Pipeline.ValueKit

@[expose] public section

set_option maxRecDepth 16384

noncomputable section

namespace Cert.Kernel7Ideal.Norm

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Blocks by index -/

/-- The block an index of the array lies in. -/
def blkOf (y : S4x4096x2048.Idx) : Fin 16 :=
  ⟨(y 0).val * 4 + (y 1).val / 1024, by
    have h0 : (y 0).val < 4 := (y 0).isLt
    have h1 : (y 1).val < 4096 := (y 1).isLt
    omega⟩
/-- Its place within the block. -/
def posIn (y : S4x4096x2048.Idx) : S1024x2048.Idx := fun a => match a with
  | ⟨0, _⟩ => ⟨(y 1).val % 1024, Nat.mod_lt _ (by decide)⟩
  | ⟨1, _⟩ => ⟨(y 2).val, (y 2).isLt⟩
  | ⟨n + 2, h⟩ => absurd h (by show ¬ n + 2 < 2; omega)

/-- The elements of block `b`. -/
abbrev GB (b : Fin 16) : Finset S4x4096x2048.Idx := (Rect.unit (s := S4x4096x2048) (blkOff b) S1x1024x2048.size (blkOff_inb b)).set
abbrev SX (s : Fin 3) : Finset S3x1024x2048.Idx := (Rect.unit (s := S3x1024x2048) (xsOff s) S1x1024x2048.size (xsOff_inb s)).set
abbrev SO (s : Fin 2) : Finset S2x1024x2048.Idx := (Rect.unit (s := S2x1024x2048) (osOff s) S1x1024x2048.size (osOff_inb s)).set

theorem xB_set (b : Fin 16) : (xB b).view.set = GB b := (View.set_reshape _ _).trans (View.set_slice_whole _ _)
theorem yB_set (b : Fin 16) : (yB b).view.set = GB b := (View.set_reshape _ _).trans (View.set_slice_whole _ _)
theorem xS_set (s : Fin 3) : (xS s).view.set = SX s := (View.set_reshape _ _).trans (View.set_slice_whole _ _)
theorem oS_set (s : Fin 2) : (oS s).view.set = SO s := (View.set_reshape _ _).trans (View.set_slice_whole _ _)

theorem mem_GB (b : Fin 16) (y : S4x4096x2048.Idx) : y ∈ GB b ↔ blkOf y = b := by
  rw [Rect.mem_set_unit, Fin.ext_iff]
  have h0 : (y 0).val < 4 := (y 0).isLt
  have h1 : (y 1).val < 4096 := (y 1).isLt
  have h2 : (y 2).val < 2048 := (y 2).isLt
  have hb := b.isLt
  show _ ↔ (y 0).val * 4 + (y 1).val / 1024 = b.val
  constructor
  · intro H
    have a0 : b.val / 4 ≤ (y 0).val ∧ (y 0).val < b.val / 4 + 1 := H 0
    have a1 : b.val % 4 * 1024 ≤ (y 1).val ∧ (y 1).val < b.val % 4 * 1024 + 1024 := H 1
    omega
  · intro H i; fin_cases i
    · show b.val / 4 ≤ (y 0).val ∧ (y 0).val < b.val / 4 + 1; omega
    · show b.val % 4 * 1024 ≤ (y 1).val ∧ (y 1).val < b.val % 4 * 1024 + 1024; omega
    · show 0 ≤ (y 2).val ∧ (y 2).val < 0 + 2048; omega
theorem mem_SX (s : Fin 3) (y : S3x1024x2048.Idx) : y ∈ SX s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem mem_SO (s : Fin 2) (y : S2x1024x2048.Idx) : y ∈ SO s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem GB_disjoint : ∀ b b' : Fin 16, b ≠ b' → Disjoint (GB b) (GB b') := by
  intro b b' hne; rw [Finset.disjoint_left]; intro y hy hy'; rw [mem_GB] at hy hy'; exact hne (hy.symm.trans hy')
theorem GB_cover : (Finset.univ : Finset (Fin 16)).biUnion GB = Finset.univ := by
  ext y; simp only [Finset.mem_biUnion, Finset.mem_univ, true_and, iff_true]; exact ⟨blkOf y, by rw [mem_GB]⟩
theorem SX_disjoint : ∀ s s' : Fin 3, s ≠ s' → Disjoint (SX s) (SX s') := by
  intro s s' hne; rw [Finset.disjoint_left]; intro y hy hy'; rw [mem_SX] at hy hy'; exact hne (Fin.ext (hy.symm.trans hy'))
theorem SX_cover : (Finset.univ : Finset (Fin 3)).biUnion SX = Finset.univ := by
  ext y; simp only [Finset.mem_biUnion, Finset.mem_univ, true_and, iff_true]; exact ⟨(y 0).cast (by decide), by rw [mem_SX]; rfl⟩
theorem SO_disjoint : ∀ s s' : Fin 2, s ≠ s' → Disjoint (SO s) (SO s') := by
  intro s s' hne; rw [Finset.disjoint_left]; intro y hy hy'; rw [mem_SO] at hy hy'; exact hne (Fin.ext (hy.symm.trans hy'))
theorem SO_cover : (Finset.univ : Finset (Fin 2)).biUnion SO = Finset.univ := by
  ext y; simp only [Finset.mem_biUnion, Finset.mem_univ, true_and, iff_true]; exact ⟨(y 0).cast (by decide), by rw [mem_SO]; rfl⟩

omit [FloatOps F] in
theorem bigSep_three (Φ : Fin 3 → sProp (MM F)) : bigSep Finset.univ Φ = iprop(Φ 0 ∗ Φ 1 ∗ Φ 2) :=
  bigSep_univ_eq_bigSepL [(0 : Fin 3), (1 : Fin 3), (2 : Fin 3)] (by decide) (by decide) Φ
omit [FloatOps F] in
theorem bigSep_two (Φ : Fin 2 → sProp (MM F)) : bigSep Finset.univ Φ = iprop(Φ 0 ∗ Φ 1) :=
  bigSep_univ_eq_bigSepL [(0 : Fin 2), (1 : Fin 2)] (by decide) (by decide) Φ

omit [FloatOps F] in
/-- The input whole is its sixteen blocks; -/
theorem x_eq (c : Dev nD) (f : Buf (Elt F) ((c : Thread nD τ).loc main_arg0)) :
    (((c : Thread nD τ).loc main_arg0) ↦{fullShare} f : sProp (MM F)) = bigSep Finset.univ (fun b => xbP c b f) := by
  rw [Ring.pointsTo_blocks (ℓ := (c : Thread nD τ).loc main_arg0) GB GB_disjoint GB_cover]
  exact bigSep_congr fun b _ => by rw [← xB_set]; rfl
omit [FloatOps F] in
/-- so is the result. -/
theorem y_eq (c : Dev nD) (f : Buf (Elt F) ((c : Thread nD τ).loc main_v2)) :
    (((c : Thread nD τ).loc main_v2) ↦{fullShare} f : sProp (MM F)) = bigSep Finset.univ (fun b => ybP c b f) := by
  rw [Ring.pointsTo_blocks (ℓ := (c : Thread nD τ).loc main_v2) GB GB_disjoint GB_cover]
  exact bigSep_congr fun b _ => by rw [← yB_set]; rfl

omit [FloatOps F] in
theorem xsP_eq (c : Dev nD) (s : Fin 3) (f) : xsP c s f = (((c : Thread nD τ).loc cc0_scratch0) ↦[SX s]{fullShare} f : sProp (MM F)) :=
  congrArg (fun S => (_ ↦[S]{fullShare} f : sProp (MM F))) (xS_set s)
omit [FloatOps F] in
theorem osP_eq (c : Dev nD) (s : Fin 2) (f) : osP c s f = (((c : Thread nD τ).loc cc0_scratch1) ↦[SO s]{fullShare} f : sProp (MM F)) :=
  congrArg (fun S => (_ ↦[S]{fullShare} f : sProp (MM F))) (oS_set s)

/-- The input ring whole is its three slots, and back. -/
theorem xb_split (c : Dev nD) :
    iprop(∃ f : Buf (Elt F) ((c : Thread nD τ).loc cc0_scratch0), ((c : Thread nD τ).loc cc0_scratch0) ↦{fullShare} f)
      ⊢ (iprop((∃ f, xsP c 0 f) ∗ (∃ f, xsP c 1 f) ∗ ∃ f, xsP c 2 f) : sProp (MM F)) := by
  iintro ⟨%f, H⟩
  ihave H2 := (entails_of_eq ((Ring.pointsTo_blocks (Ix := Unit) (Name := ℕ) (U := UU) (Lvl := ℕ) (q := fullShare) (ℓ := (c : Thread nD τ).loc cc0_scratch0) SX SX_disjoint SX_cover f).trans (bigSep_three _))) $$ H
  icases H2 with ⟨H0, H1, H2⟩
  isplitl [H0]
  · iexists f; iapply (entails_of_eq (xsP_eq c 0 f).symm); iexact H0
  isplitl [H1]
  · iexists f; iapply (entails_of_eq (xsP_eq c 1 f).symm); iexact H1
  · iexists f; iapply (entails_of_eq (xsP_eq c 2 f).symm); iexact H2
theorem xb_join (c : Dev nD) :
    iprop((∃ f, xsP c 0 f) ∗ (∃ f, xsP c 1 f) ∗ ∃ f, xsP c 2 f)
      ⊢ (iprop(∃ f : Buf (Elt F) ((c : Thread nD τ).loc cc0_scratch0), ((c : Thread nD τ).loc cc0_scratch0) ↦{fullShare} f) : sProp (MM F)) := by
  iintro ⟨⟨%f0, H0⟩, ⟨%f1, H1⟩, ⟨%f2, H2⟩⟩
  iapply (Ring.pointsTo_blocks_join_exists (ℓ := (c : Thread nD τ).loc cc0_scratch0) SX SX_disjoint SX_cover f0)
  irw [bigSep_three]
  isplitl [H0]
  · iexists f0; iapply (entails_of_eq (xsP_eq c 0 f0)); iexact H0
  isplitl [H1]
  · iexists f1; iapply (entails_of_eq (xsP_eq c 1 f1)); iexact H1
  · iexists f2; iapply (entails_of_eq (xsP_eq c 2 f2)); iexact H2
/-- The output ring whole is its two slots, and back. -/
theorem ob_split (c : Dev nD) :
    iprop(∃ f : Buf (Elt F) ((c : Thread nD τ).loc cc0_scratch1), ((c : Thread nD τ).loc cc0_scratch1) ↦{fullShare} f)
      ⊢ (iprop((∃ f, osP c 0 f) ∗ ∃ f, osP c 1 f) : sProp (MM F)) := by
  iintro ⟨%f, H⟩
  ihave H2 := (entails_of_eq ((Ring.pointsTo_blocks (Ix := Unit) (Name := ℕ) (U := UU) (Lvl := ℕ) (q := fullShare) (ℓ := (c : Thread nD τ).loc cc0_scratch1) SO SO_disjoint SO_cover f).trans (bigSep_two _))) $$ H
  icases H2 with ⟨H0, H1⟩
  isplitl [H0]
  · iexists f; iapply (entails_of_eq (osP_eq c 0 f).symm); iexact H0
  · iexists f; iapply (entails_of_eq (osP_eq c 1 f).symm); iexact H1
theorem ob_join (c : Dev nD) :
    iprop((∃ f, osP c 0 f) ∗ ∃ f, osP c 1 f)
      ⊢ (iprop(∃ f : Buf (Elt F) ((c : Thread nD τ).loc cc0_scratch1), ((c : Thread nD τ).loc cc0_scratch1) ↦{fullShare} f) : sProp (MM F)) := by
  iintro ⟨⟨%f0, H0⟩, ⟨%f1, H1⟩⟩
  iapply (Ring.pointsTo_blocks_join_exists (ℓ := (c : Thread nD τ).loc cc0_scratch1) SO SO_disjoint SO_cover f0)
  irw [bigSep_two]
  isplitl [H0]
  · iexists f0; iapply (entails_of_eq (osP_eq c 0 f0)); iexact H0
  · iexists f1; iapply (entails_of_eq (osP_eq c 1 f1)); iexact H1

omit [FloatOps F] in
/-- Block `b` read at an index's place in it. -/
theorem yB_read (c : Dev nD) (Y : Buf (Elt F) (yM.view.loc (c : Thread nD τ))) (y : S4x4096x2048.Idx) :
    (yB (blkOf y)).view.read (Elt F) Y (posIn y) = Y y := by
  have h0 : (y 0).val < 4 := (y 0).isLt
  have h1 : (y 1).val < 4096 := (y 1).isLt
  refine (shapeCast_dropUnit_apply (n := 2) ![1024, 2048]
    (yM.view.readAt (Elt F) (Rect.unit (s := S4x4096x2048) (blkOff (blkOf y)) S1x1024x2048.size (blkOff_inb (blkOf y))).toLoadRect Y) shapeCasts_S1x1024x2048_S1024x2048 (posIn y)).trans ?_
  refine congrArg Y (funext fun a => Fin.ext ?_)
  fin_cases a
  · show ((y 0).val * 4 + (y 1).val / 1024) / 4 + 1 * 0 = (y 0).val; omega
  · show ((y 0).val * 4 + (y 1).val / 1024) % 4 * 1024 + 1 * ((y 1).val % 1024) = (y 1).val; omega
  · show 0 + 1 * (y 2).val = (y 2).val; omega

/-! ## The proof data -/

variable (m : (ℓ : Loc nD τ sig) → Buf (Elt F) ℓ) (ρ : Dev nD → PrngReg)

/-- A buffer's contents when the kernel starts. -/
abbrev V (c : Dev nD) (b : Ref sig .tc) : Buf (Elt F) ((c : Thread nD τ).loc b) := StableHlo.after hostOps0 (fun b => m (c, b)) b

theorem hostOps0_fresh : (hostOps0 (F := F) : List (HloOp τ sig (Elt F))).Forall fun op => op.fresh = ∅ := by
  simp only [List.Forall]; repeat' constructor

theorem hmain : Pipeline.HMain (Ix := Unit) (Name := ℕ) (U := UU) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The gains. -/
def GV (c : Dev nD) : Vec F S1x2048 .f32 := fun i => iblk m c 0 t0_0 i

/-- What the result array ends with. -/
def YG (c : Dev nD) : Buf (Elt F) ((c : Thread nD τ).loc main_v2) := fun y =>
  nrm ((xB (blkOf y)).view.read (Elt F) (V m c main_arg0)) (GV m c) (posIn y)

/-- The buffers' contents when the kernel ends. -/
def G (c : Dev nD) (b : Ref sig .tc) : Buf (Elt F) ((c : Thread nD τ).loc b) :=
  if h : b = main_v2 then h ▸ YG m c else V m c b
theorem G_v2 (c : Dev nD) : G m c main_v2 = YG m c := by unfold G; rw [dif_pos rfl]

/-- The kernel's own semaphores. -/
abbrev osem : Fin 5 → SemLoc sig := fun s => match s with
  | 0 => .dma (xC 0).sem
  | 1 => .dma (xC 1).sem
  | 2 => .dma (xC 2).sem
  | 3 => .dma (oC 0).sem
  | 4 => .dma (oC 1).sem
theorem ownSemFacts : Pipeline.OwnSemFacts spec0 osem := by decide

omit [FloatOps F] in
theorem ownSems0_eq (c : Dev nD) : (Pipeline.ownSems0 (Ix := Unit) (Name := ℕ) (U := UU) (Lvl := ℕ) (Val := Elt F) (τ := τ) osem c : sProp (MM F))
    = iprop(xcP c 0 ∗ xcP c 1 ∗ xcP c 2 ∗ ocP c 0 ∗ ocP c 1) := by
  unfold Pipeline.ownSems0
  rw [bigSep_univ_eq_bigSepL [(0 : Fin 5), (1 : Fin 5), (2 : Fin 5), (3 : Fin 5), (4 : Fin 5)] (by decide) (by decide)]
  rfl

abbrev HH : Finset (Ref sig .tc) := {main_arg0}
abbrev RR : Finset (Ref sig .tc) := {main_v2}
theorem hHH : HH ⊆ Pipeline.restRefs sig spec0 := by decide
theorem hRR : RR ⊆ Pipeline.restRefs sig spec0 \ HH := by decide

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDRG osem spec0 HH RR (V m) (if t.val = 0 then V m else G m) c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem defs₀_row (t : Fin cfg0.N) :
    defs₀ (F := F) .tc cfg0.body (cfg0.bodyArgs t (cfg0.slots t)) = bodyAt0 t := by
  unfold defs₀; rw [Defs.onTc_tc]

omit [FloatOps F] in
/-- The gains as the body loads them are the buffer as read. -/
theorem gv_read (c : Dev nD) (arg1 : Memref sig .tc .vmem S1x2048 .f32) (g : Buf (Elt F) (arg1.view.loc (c : Thread nD τ))) :
    gv c arg1 g = arg1.view.read (Elt F) g := by
  refine funext fun i => congrArg (fun j => arg1.view.read (Elt F) g j) (funext fun a => Fin.ext ?_)
  fin_cases a
  · show 0 + 1 * (i 0).val = (i 0).val; omega
  · show 0 + 1 * (i 1).val = (i 1).val; omega

/-- A written block of the result is a block of `YG`. -/
theorem done_eq (c : Dev nD) (arg1 : Memref sig .tc .vmem S1x2048 .f32) (g : Buf (Elt F) (arg1.view.loc (c : Thread nD τ)))
    (hg : arg1.view.read (Elt F) g = GV m c) (b : Fin 16) :
    outDone c arg1 (V m c main_arg0) g b ⊢ ybP c b (YG m c) := by
  unfold outDone
  iintro ⟨%Y, %hY, H⟩
  have e : ybP c b Y = (ybP c b (YG m c) : sProp (MM F)) := pointsTo_congr fun y hy => by
    have hb : blkOf y = b := (mem_GB b y).mp ((yB_set b) ▸ hy)
    have hY' : (yB b).view.read (Elt F) Y = nrm ((xB b).view.read (Elt F) (V m c main_arg0)) (gv c arg1 g) := hY
    rw [gv_read, hg, ← hb] at hY'
    exact ((yB_read c Y y).symm.trans (congrFun hY' (posIn y)))
  iapply (entails_of_eq e); iexact H

theorem done_all (c : Dev nD) (arg1 : Memref sig .tc .vmem S1x2048 .f32) (g : Buf (Elt F) (arg1.view.loc (c : Thread nD τ)))
    (hg : arg1.view.read (Elt F) g = GV m c) :
    bigSep Finset.univ (outDone c arg1 (V m c main_arg0) g) ⊢ (((c : Thread nD τ).loc main_v2) ↦{fullShare} YG m c : sProp (MM F)) := by
  rw [y_eq]; exact bigSep_mono fun b _ => done_eq m c arg1 g hg b

set_option backward.isDefEq.respectTransparency.types false in
theorem body_obligation (c : Dev nD) : BodyObligation (dats (F := F) m 0 c) (defs₀ (F := F)) 𝒱₀ () Set.univ := fun t => by
  rw [bigSep_W0, bigSep_W0, defs₀_row]
  dsimp only
  simp only [before0_0, before0_1, before0_2, after0_0, after0_1, after0_2]
  obtain rfl : t = t0_0 := fin_N0 t
  rw [show (dats m 0 c).Φ (t0_0 : Fin cfg0.N).castSucc = Pipeline.ΦDRG osem spec0 HH RR (V m) (V m) c from rfl,
    show (dats m 0 c).Φ (t0_0 : Fin cfg0.N).succ = Pipeline.ΦDRG osem spec0 HH RR (V m) (G m) c from rfl,
    Pipeline.ΦDRG_eq, Pipeline.ΦDRG_eq, scopedRest0_eq]
  unfold Dat.owesAt Pipeline.owesWithin Pipeline.routed
  rw [show (dats m 0 c).owed (t0_0 : Fin cfg0.N).castSucc = 0 from rfl, show (dats m 0 c).owed (t0_0 : Fin cfg0.N).succ = 0 from rfl,
    ownSems0_eq, bigSep_singleton, bigSep_singleton, bigSep_singleton, x_eq, G_v2]
  unfold owns
  iintro ⟨⟨⟨Hb, Ho⟩, Hr, ⟨Hx0, Hx1, Hx2, Hc0, Hc1⟩, HX, HY⟩, ⟨%W, -, HW⟩, ⟨%d0, %g0, %hg0, H0⟩, H1, H2⟩
  ihave HY' := (entails_of_eq (y_eq c _)) $$ HY
  ihave Hb' := (xb_split c) $$ Hb
  ihave Ho' := (ob_split c) $$ Ho
  icases Hb' with ⟨Hb0, Hb1, Hb2⟩
  icases Ho' with ⟨Ho0, Ho1⟩
  iapply (bodyRun c (st0_0 t0_0) (hstage0_0 0) (st0_1 t0_0) (hstage0_1 0) (st0_2 t0_0) (hstage0_2 0) (V m c main_arg0) g0 (V m c main_v2) W)
  dsimp only [PRE, POST]
  unfold inFree outFree
  isplitl [H0 HW HX HY' Hx0 Hx1 Hx2 Hc0 Hc1 Hb0 Hb1 Hb2 Ho0 Ho1]
  · isplitl [H0]; · iexact H0
    isplitl [HW]; · iexact HW
    isplitl [HX]; · iexact HX
    isplitl [HY']; · iexact HY'
    isplitl [Hb0 Hx0]
    · isplitl [Hb0]; · iexact Hb0
      iexact Hx0
    isplitl [Hb1 Hx1]
    · isplitl [Hb1]; · iexact Hb1
      iexact Hx1
    isplitl [Hb2 Hx2]
    · isplitl [Hb2]; · iexact Hb2
      iexact Hx2
    isplitl [Ho0 Hc0]
    · isplitl [Ho0]; · iexact Ho0
      iexact Hc0
    isplitl [Ho1]; · iexact Ho1
    iexact Hc1
  · iintro ⟨H0, ⟨%W', HW⟩, HX, HY, ⟨Hb0, Hx0⟩, ⟨Hb1, Hx1⟩, ⟨Hb2, Hx2⟩, ⟨Ho0, Hc0⟩, ⟨Ho1, Hc1⟩⟩
    isplitl [HX HY Hr Hx0 Hx1 Hx2 Hc0 Hc1 Hb0 Hb1 Hb2 Ho0 Ho1]
    · isplitl [Hb0 Hb1 Hb2 Ho0 Ho1]
      · isplitl [Hb0 Hb1 Hb2]
        · iapply (xb_join c)
          isplitl [Hb0]; · iexact Hb0
          isplitl [Hb1]; · iexact Hb1
          iexact Hb2
        iapply (ob_join c)
        isplitl [Ho0]; · iexact Ho0
        iexact Ho1
      isplitl [Hr]; · iexact Hr
      isplitl [Hx0 Hx1 Hx2 Hc0 Hc1]
      · isplitl [Hx0]; · iexact Hx0
        isplitl [Hx1]; · iexact Hx1
        isplitl [Hx2]; · iexact Hx2
        isplitl [Hc0]; · iexact Hc0
        iexact Hc1
      isplitl [HX]; · iexact HX
      iapply (done_all m c (st0_0 t0_0) g0 hg0); iexact HY
    isplitl [HW]
    · iexists W'; isplitr; · ipureintro; exact fun _ _ => Or.inl trivial
      iexact HW
    isplitl [H0]
    · iexists g0; isplitr; · ipureintro; exact hg0
      iexact H0
    isplitl [H1]; · icases H1 with ⟨%d1, H1⟩; iexact H1
    icases H2 with ⟨%d2, H2⟩; iexact H2

set_option backward.isDefEq.respectTransparency.types false in
set_option maxHeartbeats 800000 in
/-- The run: the result array ends at `YG`, every other array of the call as it was, every counter at zero. -/
theorem run_main : θ_run defs (onTc (τ := τ) (main (F := F))) (s₀ m ρ)
    (fun r => Pipeline.FramePostRG cfgs (dats m) 0 RR (V m) (G m) r ∧ r.2.sem = fun _ => 0) :=
  Pipeline.θ_run_frame_dmaRG_shared (Q' := _) cfgs (dats m) (0 : Fin 1) launch₀0 osem defs₀ 𝒱₀ ownSemFacts HH RR hHH hRR m ρ main
    (hbody := fun c => (body_obligation m c).loose) (hq := fun _ _ _ => rfl) (howed := fun _ _ => rfl) (V := V m) (hmain := hmain m)
    (hA := A_eq m) (G := G m) (hin := fun _ => .rfl) (hout := fun _ => .rfl)

theorem unchanged (r : PUnit × MemSt nD τ sig (Elt F)) (h : Pipeline.FramePostRG cfgs (dats m) 0 RR (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h.1 c).2 main_arg0 (by decide)).trans (V_main_arg0 m c), ((h.1 c).2 main_arg1 (by decide)).trans (V_main_arg1 m c)⟩

/-- The run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => unchanged m r h.1 c, h.2⟩) (run_main m ρ)

/-- The run ends with the result array at `YG`, the arguments unchanged. -/
theorem run_value : θ_run defs (onTc (τ := τ) (main (F := F))) ⟨m, fun _ => 0, ρ⟩ (fun r => ∀ c : Dev nD,
      r.2.mem ((c.tc : Thread nD τ).loc main_v2) = YG m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.written c (Finset.mem_singleton_self _)).trans (G_v2 m c), unchanged m r h.1 c⟩) (run_main m ρ)

end Cert.Kernel7Ideal.Norm

end
-- ==== Proof.Norm.Value.lean ====
/- The final norm: what the result array ends with is the reference's value. -/
module
public import proofs.«01_k».proof.Proof.Norm.LaunchIdeal
public import proofs.«01_k».proof.Proof.Gen.Reference7Ideal.Read
public import Idealize.ShloMosaic.Lib.Pipeline.ValueKit
public import Idealize.ShloMosaic.Lib.IdealHost
@[expose] public section
set_option maxRecDepth 16384
noncomputable section
open Idealize.ShloMosaic Idealize.ShloMosaic.TcCoe Idealize.SL.Sem Idealize.ShloMosaic.Tactic
namespace Cert.Kernel7Ideal.Norm
open Cert.Kernel7Ideal Cert.Kernel7Ideal.Gen Cert.Reference7Ideal.Read
variable (m : (ℓ : Loc nD τ sig) → Buf (Elt Ideal) ℓ)

/-- The reference's result, over the call's two arrays. -/
abbrev REF (x : FVec Ideal S4x4096x2048 .f32) (g : FVec Ideal S2048 .f32) : FVec Ideal S4x4096x2048 .f32 :=
  val_main_v12 (F := Ideal) x g

/-- Block `b` of the input read at an index's place in it. -/
theorem xB_read (c : Dev nD) (X : Buf (Elt Ideal) (xM.view.loc (c : Thread nD τ))) (y : S4x4096x2048.Idx) :
    (xB (blkOf y)).view.read (Elt Ideal) X (posIn y) = X y := yB_read c X y

/-- The norm of a block at an index is the reference's value there. -/
theorem point (X : FVec Ideal S4x4096x2048 .f32) (g : FVec Ideal S2048 .f32) (x : FVec Ideal S1024x2048 .f32) (gs : FVec Ideal S1x2048 .f32)
    (y : S4x4096x2048.Idx)
    (hx : ∀ y' : S4x4096x2048.Idx, (y' 0).val = (y 0).val → (y' 1).val = (y 1).val → x (posIn y') = X y')
    (hg : ∀ (i : S1x2048.Idx) (j : S2048.Idx), (i 1).val = (j 0).val → gs i = g j) :
    nrm x gs (posIn y) = REF X g y := by
  unfold nrm
  pointwise [k0_pay1, REF, val_main_v12, val_main_v11, val_main_v10, val_main_v9, val_main_v8, val_main_v7, val_main_v6, val_main_v5, val_main_v4, val_main_v3,
    val_main_v2, val_main_v1, val_main_v0, val_main_cst, val_main_cst_0, val_main_cst_1]
  have hr : ∀ k : Fin 2048, x (ix2 (posIn y 0) k) = X (ix3 (y 0) (y 1) k) := fun k => by
    refine Eq.trans (congrArg x ?_) (hx (ix3 (y 0) (y 1) k) rfl rfl)
    funext a; fin_cases a <;> rfl
  have hc : gs (ix2 0 (posIn y 1)) = g (ix1 (y 2)) := hg _ _ rfl
  have hs := Finset.sum_congr (rfl : (Finset.univ : Finset (Fin 2048)) = Finset.univ) fun k _ => congrArg₂ (· * ·) (hr k) (hr k)
  exact congrArg₂ (· * ·) (congrArg₂ (· * ·) (hx y rfl rfl)
    (congrArg (fun s => Ideal.rsqrt (Ideal.div s (Ideal.ofBits FTy.f32 1157627904#32) + Ideal.ofBits FTy.f32 897988541#32)) hs)) hc

/-- The gain's window holds the gain as one row. -/
theorem V_main_v1 (c : Dev nD) :
    V m c main_v1 = shapeCast S1x2048 (m ((c : Thread nD τ).loc main_arg1) : FVec Ideal S2048 .f32) shapeCasts_S2048_S1x2048 := by
  show StableHlo.after hostOps0 (fun b => m (c, b)) (Proc.devRef .tc main_v1) = _
  dsimp only [hostOps0]
  after_results <;> rfl

/-- The gain's row at a column is the gain there. -/
theorem gain (c : Dev nD) (i : S1x2048.Idx) (j : S2048.Idx) (h : (i 1).val = (j 0).val) :
    GV m c i = (m ((c : Thread nD τ).loc main_arg1) : FVec Ideal S2048 .f32) j := by
  have e : GV m c i = (V m c main_v1 : FVec Ideal S1x2048 .f32) i := by
    unfold GV
    have e0 : win0_0.index t0_0 0 = 0 := rfl
    have e1 : win0_0.index t0_0 1 = 0 := rfl
    blk_point [iblk, V, e0, e1]
  rw [e, V_main_v1]
  pointwise []
  exact congrArg (m ((c : Thread nD τ).loc main_arg1) : FVec Ideal S2048 .f32) (by funext a; fin_cases a; exact Fin.ext h)

/-- The result array ends with the reference's value. -/
theorem final (c : Dev nD) :
    YG m c = REF (m ((c : Thread nD τ).loc main_arg0)) (m ((c : Thread nD τ).loc main_arg1)) := by
  funext y
  refine point (m ((c : Thread nD τ).loc main_arg0)) (m ((c : Thread nD τ).loc main_arg1)) _ _ y (fun y' h0 h1 => ?_) (gain m c)
  have hb : blkOf y = blkOf y' := Fin.ext (by show (y 0).val * 4 + (y 1).val / 1024 = (y' 0).val * 4 + (y' 1).val / 1024; rw [h0, h1])
  rw [hb, V_main_arg0]
  exact xB_read c _ y'

end Cert.Kernel7Ideal.Norm
end
-- ==== Proof.Norm.Claim.lean ====
/- The final norm: kernel and reference end with the same result. -/
module
public import proofs.«01_k».proof.Defs
public import proofs.«01_k».proof.Proof.Norm.Value
public import proofs.«01_k».proof.Proof.Gen.Reference7Ideal.Run
@[expose] public section
noncomputable section
open Idealize.ShloMosaic Idealize.ShloMosaic.TcCoe Idealize.SL.Sem
namespace Cert.Kernel7Ideal.Norm
open Cert.Kernel7Ideal

/-- Kernel and reference end with the same result. -/
theorem agree : haveI := Cert.Kernel7Ideal.Gen.facts; haveI := Cert.Reference7Ideal.Gen.facts
    Cert.algebraic_Kernel7Ideal_Reference7Ideal := by
  intro m g m' g' hpre hag
  refine ⟨fun c => REF (m ((c : Thread nD τ).loc main_arg0)) (m ((c : Thread nD τ).loc main_arg1)), ?_, ?_⟩
  · refine (θ_run _ _ _).mono (fun r h c => ?_) (run_value m g)
    obtain ⟨hv, ha⟩ := h c
    exact ⟨hv.trans (final m c), ha⟩
  · refine (θ_run _ _ _).mono (fun r h c => ?_) (Cert.Reference7Ideal.Value.run m' g')
    obtain ⟨hv, ha⟩ := h c
    refine ⟨hv.trans ?_, ha⟩
    obtain ⟨e0, e1⟩ := hag c
    rw [Cert.Reference7Ideal.Read.val_main_v12_eq, e0, e1]

/-- The reference ends with its arguments unchanged and every counter zero. -/
theorem ref_frame : haveI := Cert.Reference7Ideal.Gen.facts; Cert.quiescent_Reference7Ideal := fun m g _ =>
  haveI := Cert.Reference7Ideal.Gen.facts
  (θ_run Cert.Reference7Ideal.defs _ _).mono
    (fun r h => And.intro (fun c => (h c).2) (sem_eq_zero_of_no_sems (by decide) r.2)) (Cert.Reference7Ideal.Value.run m g)

end Cert.Kernel7Ideal.Norm
end
-- ==== Proof.UpKv.Value.lean ====
/- The keys and values of the latent attention from the compressed rows: what the result arrays hold. -/
module
public import proofs.«01_k».proof.Proof.Gen.Kernel8Ideal.Value
public import proofs.«01_k».proof.Proof.Gen.Reference8Ideal.Read
public import Idealize.ShloMosaic.Lib.Pipeline.ValueKit
public import Idealize.ShloMosaic.Lib.Claim
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel8Ideal.UpKv
open Cert.Kernel8Ideal Cert.Kernel8Ideal.Gen Cert.Kernel8Ideal.Value Cert.Reference8Ideal.Read
variable (m : (ℓ : Loc nD τ sig) → Buf (Elt Ideal) ℓ)

/-- The product of a tile at a row and a column. -/
abbrev dotB (x0 : Vec Ideal S1x1024x512 .bf16) (x1 : Vec Ideal S1x512x1536 .bf16) (r : Fin 1024) (j : Fin 1536) : EReal :=
  ∑ k : Fin 512, (x0 (ix3 0 r k) : EReal) * (x1 (ix3 0 k j) : EReal)

/-- A tile of values, at an index. -/
theorem blockV (x0 : Vec Ideal S1x1024x512 .bf16) (x1 : Vec Ideal S1x512x1536 .bf16) (x2 : Vec Ideal S1x1024x128 .bf16) (y : S1x6x1024x128.Idx) :
    out0_4 x0 x1 x2 y = dotB x0 x1 (y 2) ⟨(y 1).val * 256 + 128 + (y 3).val, by
      have h1 : (y 1).val < 6 := (y 1).isLt
      have h3 : (y 3).val < 128 := (y 3).isLt
      omega⟩ := by
  unfold out0_4 k0_pay22
  canon_tiles x hh
  all_goals pointwise [k0_pay1, k0_pay21, k0_pay18, k0_pay15, k0_pay12, k0_pay9, k0_pay6, k0_pay2]
  all_goals exact congrArg₂ (dotB x0 x1) (Fin.ext (by omega)) (Fin.ext (by dsimp only; omega))

/-- A tile of keys, at an index. -/
theorem blockK (x0 : Vec Ideal S1x1024x512 .bf16) (x1 : Vec Ideal S1x512x1536 .bf16) (x2 : Vec Ideal S1x1024x128 .bf16) (y : S1x6x1024x256.Idx) :
    out0_3 x0 x1 x2 y = if h : (y 3).val < 128 then dotB x0 x1 (y 2) ⟨(y 1).val * 256 + (y 3).val, by
      have h1 : (y 1).val < 6 := (y 1).isLt
      omega⟩ else x2 (ix3 0 (y 2) ⟨(y 3).val - 128, by
      have h3 : (y 3).val < 256 := (y 3).isLt
      omega⟩) := by
  unfold out0_3 k0_pay22 k0_pay23
  canon_tiles x hh
  all_goals pointwise [k0_pay20, k0_pay19, k0_pay17, k0_pay16, k0_pay14, k0_pay13, k0_pay11, k0_pay10, k0_pay8, k0_pay7, k0_pay5, k0_pay4, k0_pay3, k0_pay2]
  all_goals first
    | (rw [dif_pos (by omega)]; exact congrArg₂ (dotB x0 x1) (Fin.ext (by omega)) (Fin.ext (by dsimp only; omega)))
    | (rw [dif_neg (by omega)]; exact congrArg x2 (congrArg₂ (ix3 0) (Fin.ext (by omega)) (Fin.ext (by dsimp only; omega))))

/-- The reference's keys, over the call's three arrays. -/
abbrev REFK (A : FVec Ideal S4x4096x512 .bf16) (W : FVec Ideal S512x3072 .f32) (R : FVec Ideal S4x4096x128 .bf16) : FVec Ideal S4x12x4096x256 .bf16 :=
  val_main_v10 (F := Ideal) A W R

/-- The reference's values, over the call's two arrays. -/
abbrev REFV (A : FVec Ideal S4x4096x512 .bf16) (W : FVec Ideal S512x3072 .f32) : FVec Ideal S4x12x4096x128 .bf16 :=
  val_main_v12 (F := Ideal) A W

/-- The product at a row and a column. -/
abbrev dotAt (A : FVec Ideal S4x4096x512 .bf16) (W : FVec Ideal S512x3072 .f32) (b : Fin 4) (n : Fin 4096) (j : Fin 3072) : EReal :=
  ∑ k : Fin 512, (A (ix3 b n k) : EReal) * (W (ix2 k j) : EReal)

/-- The reference's values at an index. -/
theorem ref_values (A : FVec Ideal S4x4096x512 .bf16) (W : FVec Ideal S512x3072 .f32) (b : Fin 4) (g : Fin 12) (n : Fin 4096) (e : Fin 128) :
    REFV A W (ix4 b g n e) = dotAt A W b n ⟨g.val * 256 + 128 + e.val, by omega⟩ := by
  pointwise [REFV, val_main_v12, val_main_v11, val_main_v4, val_main_v2, val_main_v1, val_main_v0]
  exact congrArg (dotAt A W b n) (Fin.ext (by dsimp only; omega))

/-- The reference's keys at an index. -/
theorem ref_keys (A : FVec Ideal S4x4096x512 .bf16) (W : FVec Ideal S512x3072 .f32) (R : FVec Ideal S4x4096x128 .bf16) (b : Fin 4) (g : Fin 12) (n : Fin 4096) (e : Fin 256) :
    REFK A W R (ix4 b g n e) = if h : e.val < 128 then dotAt A W b n ⟨g.val * 256 + e.val, by omega⟩ else R (ix3 b n ⟨e.val - 128, by omega⟩) := by
  pointwise [REFK, val_main_v10, val_main_v9, val_main_v8, val_main_v7, val_main_v6, val_main_v5, val_main_v3, val_main_v2, val_main_v1, val_main_v0]

/-- The call's compressed rows, weights and rotated keys. -/
abbrev act (c : Dev nD) : FVec Ideal S4x4096x512 .bf16 := m ((c : Thread nD τ).loc main_arg0)
@[inherit_doc act] abbrev wt (c : Dev nD) : FVec Ideal S512x3072 .f32 := m ((c : Thread nD τ).loc main_arg1)
@[inherit_doc act] abbrev rot (c : Dev nD) : FVec Ideal S4x4096x128 .bf16 := m ((c : Thread nD τ).loc main_arg2)

/-- Where each window's block lies at a grid point. -/
theorem idx : ∀ t : Fin cfg0.N, win0_0.index t = ![t.val / 8, t.val / 2 % 4, 0] ∧ win0_1.index t = ![0, 0, t.val % 2]
    ∧ win0_2.index t = ![t.val / 8, t.val / 2 % 4, 0] ∧ win0_3.index t = ![t.val / 8, t.val % 2, t.val / 2 % 4, 0]
    ∧ win0_4.index t = ![t.val / 8, t.val % 2, t.val / 2 % 4, 0] ∧ t.val / 8 < 4 :=
  (by decide +kernel : ∀ t : Fin grid0.N, _)

/-- The prepared weights are the weights. -/
theorem weights (c : Dev nD) (i : S1x512x3072.Idx) : (V m c main_v1 : FVec Ideal S1x512x3072 .bf16) i = wt m c (ix2 (i 1) (i 2)) := by
  have e : (V m c main_v1 : FVec Ideal S1x512x3072 .bf16)
      = broadcastInDim S1x512x3072 ![1, 2] bcast_S512x3072_S1x512x3072_1_2 (truncf .bf16 (wt m c) bitsLt_bf16_f32 : FVec Ideal S512x3072 .bf16) := rfl
  rw [e]
  pointwise []

/-- A tile's product at a grid point. -/
theorem tile (c : Dev nD) (t : Fin cfg0.N) (hb : t.val / 8 < 4) (r : Fin 1024) (j : Fin 1536) :
    dotB (iblk m c 0 t) (iblk m c 1 t) r j
      = dotAt (act m c) (wt m c) ⟨t.val / 8, hb⟩ ⟨1024 * (t.val / 2 % 4) + r.val, by omega⟩ ⟨1536 * (t.val % 2) + j.val, by omega⟩ := by
  have ha : ∀ k : Fin 512, (iblk m c 0 t) (ix3 0 r k) = act m c (ix3 ⟨t.val / 8, hb⟩ ⟨1024 * (t.val / 2 % 4) + r.val, by omega⟩ k) := by
    intro k
    blk_point [iblk, V_main_arg0, idx t]
  have hw : ∀ k : Fin 512, (iblk m c 1 t) (ix3 0 k j) = wt m c (ix2 k ⟨1536 * (t.val % 2) + j.val, by omega⟩) := by
    intro k
    refine Eq.trans ?_ (weights m c (ix3 0 k ⟨1536 * (t.val % 2) + j.val, by omega⟩))
    blk_point [iblk, idx t]
  exact Finset.sum_congr rfl fun k _ => congrArg₂ (· * ·) (ha k) (hw k)

/-- What a point stores among the values is the reference's. -/
theorem pointV (c : Dev nD) (t : Fin cfg0.N) (y : S1x6x1024x128.Idx) :
    out0_4 (iblk m c 0 t) (iblk m c 1 t) (iblk m c 2 t) y = REFV (act m c) (wt m c) (((cfg0.win 4).blk t).view.emb y) := by
  have h1 : (y 1).val < 6 := (y 1).isLt
  have h2 : (y 2).val < 1024 := (y 2).isLt
  have h3 : (y 3).val < 128 := (y 3).isLt
  have hb : t.val / 8 < 4 := (idx t).2.2.2.2.2
  have e : ((cfg0.win 4).blk t).view.emb y = (ix4 ⟨t.val / 8, hb⟩ ⟨6 * (t.val % 2) + (y 1).val, by omega⟩ ⟨1024 * (t.val / 2 % 4) + (y 2).val, by omega⟩ ⟨(y 3).val, h3⟩ : S4x12x4096x128.Idx) := by
    blk_ext [idx t]
  rw [e, ref_values, blockV]
  refine (tile m c t hb (y 2) ⟨(y 1).val * 256 + 128 + (y 3).val, by omega⟩).trans ?_
  exact congrArg (dotAt (act m c) (wt m c) _ _) (Fin.ext (by dsimp only; omega))

/-- What a point stores among the keys is the reference's. -/
theorem pointK (c : Dev nD) (t : Fin cfg0.N) (y : S1x6x1024x256.Idx) :
    out0_3 (iblk m c 0 t) (iblk m c 1 t) (iblk m c 2 t) y = REFK (act m c) (wt m c) (rot m c) (((cfg0.win 3).blk t).view.emb y) := by
  have h1 : (y 1).val < 6 := (y 1).isLt
  have h2 : (y 2).val < 1024 := (y 2).isLt
  have h3 : (y 3).val < 256 := (y 3).isLt
  have hb : t.val / 8 < 4 := (idx t).2.2.2.2.2
  have e : ((cfg0.win 3).blk t).view.emb y = (ix4 ⟨t.val / 8, hb⟩ ⟨6 * (t.val % 2) + (y 1).val, by omega⟩ ⟨1024 * (t.val / 2 % 4) + (y 2).val, by omega⟩ ⟨(y 3).val, h3⟩ : S4x12x4096x256.Idx) := by
    blk_ext [idx t]
  rw [e, ref_keys, blockK]
  by_cases hk : (y 3).val < 128
  · rw [dif_pos hk, dif_pos hk]
    refine (tile m c t hb (y 2) ⟨(y 1).val * 256 + (y 3).val, by omega⟩).trans ?_
    exact congrArg (dotAt (act m c) (wt m c) _ _) (Fin.ext (by dsimp only; omega))
  · rw [dif_neg hk, dif_neg hk]
    show (iblk m c 2 t) (ix3 0 (y 2) ⟨(y 3).val - 128, _⟩) = rot m c _
    blk_point [iblk, V_main_arg2, idx t]

/-- The array of values after the run is the reference's. -/
theorem finalV (c : Dev nD) : (dats m 0 c).arrAt 4 cfg0.N = REFV (act m c) (wt m c) := by
  refine (dats m 0 c).arrAt_eq_of_covers 4 _ (by decide +kernel) fun t _ y => ?_
  blk_simp
  rw [after0_4]
  exact pointV m c t y

/-- The array of keys after the run is the reference's. -/
theorem finalK (c : Dev nD) : (dats m 0 c).arrAt 3 cfg0.N = REFK (act m c) (wt m c) (rot m c) := by
  refine (dats m 0 c).arrAt_eq_of_covers 3 _ (by decide +kernel) fun t _ y => ?_
  blk_simp
  rw [after0_3]
  exact pointK m c t y

end Cert.Kernel8Ideal.UpKv
end
-- ==== Proof.UpKv.Claim.lean ====
/- The latent attention's keys and values: kernel and reference end with the same result. -/
module
public import proofs.«01_k».proof.Defs
public import proofs.«01_k».proof.Proof.UpKv.Value
public import proofs.«01_k».proof.Proof.Gen.Reference8Ideal.Run
@[expose] public section
noncomputable section
open Idealize.ShloMosaic Idealize.ShloMosaic.TcCoe Idealize.SL.Sem
namespace Cert.Kernel8Ideal.UpKv
open Cert.Kernel8Ideal

/-- Kernel and reference end with the same result. -/
theorem agree : haveI := Cert.Kernel8Ideal.Gen.facts; haveI := Cert.Reference8Ideal.Gen.facts
    Cert.algebraic_Kernel8Ideal_Reference8Ideal := by
  intro m g m' g' hpre hag
  refine ⟨fun c => REFK (act m c) (wt m c) (rot m c), fun c => REFV (act m c) (wt m c), ?_, ?_⟩
  · refine (θ_run _ _ _).mono (fun r h c => ?_) (Cert.Kernel8Ideal.Value.run_blocks m g)
    obtain ⟨hk, hv, ha⟩ := h c
    exact ⟨hk.trans (finalK m c), hv.trans (finalV m c), ha⟩
  · refine (θ_run _ _ _).mono (fun r h c => ?_) (Cert.Reference8Ideal.Value.run m' g')
    obtain ⟨hk, hv, ha⟩ := h c
    obtain ⟨e0, e1, e2⟩ := hag c
    refine ⟨hk.trans ?_, hv.trans ?_, ha⟩
    · rw [Cert.Reference8Ideal.Read.val_main_v10_eq, e0, e1, e2]
    · rw [Cert.Reference8Ideal.Read.val_main_v12_eq, e0, e1]

/-- The reference ends with its arguments unchanged and every counter zero. -/
theorem ref_frame : haveI := Cert.Reference8Ideal.Gen.facts; Cert.quiescent_Reference8Ideal := fun m g _ =>
  haveI := Cert.Reference8Ideal.Gen.facts
  (θ_run Cert.Reference8Ideal.defs _ _).mono
    (fun r h => And.intro (fun c => (h c).2.2) (sem_eq_zero_of_no_sems (by decide) r.2)) (Cert.Reference8Ideal.Value.run m g)

end Cert.Kernel8Ideal.UpKv
end
-- ==== Proof.OddIn.Value.lean ====
/- The odd layer's input projection: what the result arrays hold. -/
module
public import proofs.«01_k».proof.Proof.Gen.Kernel9Ideal.Value
public import proofs.«01_k».proof.Proof.Gen.Reference9Ideal.Read
public import Idealize.ShloMosaic.Lib.Pipeline.ValueKit
public import Idealize.ShloMosaic.Lib.Claim
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel9Ideal.OddIn
open Cert.Kernel9Ideal Cert.Kernel9Ideal.Gen Cert.Kernel9Ideal.Value Cert.Reference9Ideal.Read
variable (m : (ℓ : Loc nD τ sig) → Buf (Elt Ideal) ℓ)

/-- The reference's four results, over the call's arrays. -/
abbrev REFU (A : FVec Ideal S4x4096x2048 .bf16) (W : FVec Ideal S2048x1856 .f32) : FVec Ideal S4x4096x512 .f32 := val_main_v2 (F := Ideal) A W
@[inherit_doc REFU] abbrev REFQ (A : FVec Ideal S4x4096x2048 .bf16) (W : FVec Ideal S2048x1856 .f32) (g : FVec Ideal S768 .f32) : FVec Ideal S4x4096x768 .bf16 := val_main_v58 (F := Ideal) A W g
@[inherit_doc REFU] abbrev REFKV (A : FVec Ideal S4x4096x2048 .bf16) (W : FVec Ideal S2048x1856 .f32) (g : FVec Ideal S512 .f32) : FVec Ideal S4x4096x512 .bf16 := val_main_v72 (F := Ideal) A W g
@[inherit_doc REFU] abbrev REFR (A : FVec Ideal S4x4096x2048 .bf16) (W : FVec Ideal S2048x1856 .f32) (cr sr cc sc : FVec Ideal S4096x16 .f32) : FVec Ideal S4x4096x128 .bf16 := val_main_v73 (F := Ideal) A W cr sr cc sc

/-- The product at a row and a column. -/
abbrev dotAt (A : FVec Ideal S4x4096x2048 .bf16) (W : FVec Ideal S2048x1856 .f32) (b : Fin 4) (n : Fin 4096) (j : Fin 1856) : EReal :=
  ∑ k : Fin 2048, (A (ix3 b n k) : EReal) * (W (ix2 k j) : EReal)

/-- A row's root mean square norm at a place, times the gain there. -/
abbrev rms {n : Nat} (w : BitVec 32) (v : Fin n → EReal) (g : EReal) (j : Fin n) : EReal :=
  v j * Ideal.rsqrt (Ideal.div (∑ k : Fin n, v k * v k) (Ideal.ofBits .f32 w) + Ideal.ofBits .f32 0x358637BD#32) * g

/-- The reference's pooling columns at an index. -/
theorem ref_u (A : FVec Ideal S4x4096x2048 .bf16) (W : FVec Ideal S2048x1856 .f32) (b : Fin 4) (n : Fin 4096) (e : Fin 512) :
    REFU A W (ix3 b n e) = dotAt A W b n ⟨e.val, by omega⟩ := by
  pointwise [REFU, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]

/-- The reference's normed query rows at an index. -/
theorem ref_q (A : FVec Ideal S4x4096x2048 .bf16) (W : FVec Ideal S2048x1856 .f32) (g : FVec Ideal S768 .f32) (b : Fin 4) (n : Fin 4096) (e : Fin 768) :
    REFQ A W g (ix3 b n e) = rms 0x44400000#32 (fun j : Fin 768 => dotAt A W b n ⟨512 + j.val, by omega⟩) (g (ix1 e)) e := by
  pointwise [REFQ, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]

/-- The reference's normed compressed rows at an index. -/
theorem ref_kv (A : FVec Ideal S4x4096x2048 .bf16) (W : FVec Ideal S2048x1856 .f32) (g : FVec Ideal S512 .f32) (b : Fin 4) (n : Fin 4096) (e : Fin 512) :
    REFKV A W g (ix3 b n e) = rms 0x44000000#32 (fun j : Fin 512 => dotAt A W b n ⟨1280 + j.val, by omega⟩) (g (ix1 e)) e := by
  pointwise [REFKV, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]

/-- A row's rotated key at a place: each half's two quarters turned by the row's or the column's angle; then zeros. -/
def ROT (A : FVec Ideal S4x4096x2048 .bf16) (W : FVec Ideal S2048x1856 .f32) (cr sr cc sc : FVec Ideal S4096x16 .f32) (b : Fin 4) (n : Fin 4096) (e : Fin 128) : EReal :=
  if h : e.val < 64 then
    if h1 : e.val < 32 then
      if h2 : e.val < 16 then dotAt A W b n ⟨1792 + e.val, by omega⟩ * cr (ix2 n ⟨e.val, by omega⟩) - dotAt A W b n ⟨1792 + (16 + e.val), by omega⟩ * sr (ix2 n ⟨e.val, by omega⟩)
      else dotAt A W b n ⟨1792 + (e.val - 16), by omega⟩ * sr (ix2 n ⟨e.val - 16, by omega⟩) + dotAt A W b n ⟨1792 + (16 + (e.val - 16)), by omega⟩ * cr (ix2 n ⟨e.val - 16, by omega⟩)
    else
      if h2 : e.val - 32 < 16 then dotAt A W b n ⟨1792 + (32 + (e.val - 32)), by omega⟩ * cc (ix2 n ⟨e.val - 32, by omega⟩) - dotAt A W b n ⟨1792 + (32 + (16 + (e.val - 32))), by omega⟩ * sc (ix2 n ⟨e.val - 32, by omega⟩)
      else dotAt A W b n ⟨1792 + (32 + (e.val - 32 - 16)), by omega⟩ * sc (ix2 n ⟨e.val - 32 - 16, by omega⟩) + dotAt A W b n ⟨1792 + (32 + (16 + (e.val - 32 - 16))), by omega⟩ * cc (ix2 n ⟨e.val - 32 - 16, by omega⟩)
  else 0

/-- The lane test of the rotated keys. -/
theorem lane : ∀ e : Fin 128, IntOp.cmpi CmpIPredicate.slt (BitVec.ofNat 32 e.val) 64#32 = if e.val < 64 then 1#1 else 0#1 := by decide

/-- The reference's rotated keys at an index. -/
theorem ref_r (A : FVec Ideal S4x4096x2048 .bf16) (W : FVec Ideal S2048x1856 .f32) (cr sr cc sc : FVec Ideal S4096x16 .f32) (b : Fin 4) (n : Fin 4096) (e : Fin 128) :
    REFR A W cr sr cc sc (ix3 b n e) = ROT A W cr sr cc sc b n e := by
  pointwise [REFR, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]
  rfl

/-- The product of a tile at a row and a column. -/
abbrev dotB (x0 : Vec Ideal S1x1024x2048 .bf16) (x1 : Vec Ideal S1x2048x1920 .bf16) (r : Fin 1024) (j : Fin 1920) : EReal :=
  ∑ k : Fin 2048, (x0 (ix3 0 r k) : EReal) * (x1 (ix3 0 k j) : EReal)

section Blocks
variable (x0 : Vec Ideal S1x1024x2048 .bf16) (x1 : Vec Ideal S1x2048x1920 .bf16) (x2 : Vec Ideal S1x768 .f32) (x3 : Vec Ideal S1x512 .f32) (x4 : Vec Ideal S1024x128 .f32)

/-- A tile of the pooling columns at an index. -/
theorem block_u (y : S1x1024x512.Idx) (h : (y 2).val < 512) : out0_5 x0 x1 x2 x3 x4 y = dotB x0 x1 (y 1) ⟨(y 2).val, by omega⟩ := by
  unfold out0_5
  canon_tiles x hh
  pointwise [k0_pay4, k0_pay3]
  exact congrArg₂ (dotB x0 x1) (Fin.ext hh1.symm) (Fin.ext hh2.symm)

/-- A tile of the normed query rows at an index. -/
theorem block_q (y : S1x1024x768.Idx) : out0_6 x0 x1 x2 x3 x4 y = rms 0x44400000#32 (fun j : Fin 768 => dotB x0 x1 (y 1) ⟨512 + j.val, by omega⟩) (x2 (ix2 0 (y 2))) (y 2) := by
  unfold out0_6
  canon_tiles x hh
  pointwise [k0_pay5, k0_pay3]
  rw [show y 1 = x 1 from Fin.ext hh1, show y 2 = x 2 from Fin.ext hh2]

/-- A tile of the normed compressed rows at an index. -/
theorem block_kv (y : S1x1024x512.Idx) : out0_7 x0 x1 x2 x3 x4 y = rms 0x44000000#32 (fun j : Fin 512 => dotB x0 x1 (y 1) ⟨1280 + j.val, by omega⟩) (x3 (ix2 0 (y 2))) (y 2) := by
  unfold out0_7
  canon_tiles x hh
  pointwise [k0_pay1, k0_pay6, k0_pay7, k0_pay3]
  rw [show y 1 = x 1 from Fin.ext hh1, show y 2 = x 2 from Fin.ext hh2]

/-- A tile of the rotated keys at an index. -/
theorem block_r (y : S1x1024x128.Idx) (h2 : (y 2).val < 128) : out0_8 x0 x1 x2 x3 x4 y
    = if h : (y 2).val < 64 then dotB x0 x1 (y 1) ⟨1792 + (y 2).val, by omega⟩ * x4 (ix2 (y 1) ⟨(y 2).val, by omega⟩)
        + dotB x0 x1 (y 1) ⟨1856 + (y 2).val, by omega⟩ * x4 (ix2 (y 1) ⟨64 + (y 2).val, by omega⟩) else 0 := by
  unfold out0_8
  canon_tiles x hh
  pointwise [k0_pay2, k0_pay3]
  have hl : IntOp.cmpi CmpIPredicate.slt (BitVec.ofNat 32 (x 2).val) 64#32 = if (x 2).val < 64 then 1#1 else 0#1 := lane ⟨(x 2).val, x2_lt⟩
  have e1 : x 1 = y 1 := Fin.ext hh1.symm
  by_cases h : (y 2).val < 64
  · refine (congrArg (fun v => Scalar.select v _ _) (hl.trans (if_pos (by omega)))).trans ?_
    rw [dif_pos h]
    show _ + _ = _
    exact congrArg₂ (· + ·)
      (congrArg₂ (· * ·) (congrArg₂ (dotB x0 x1) e1 (Fin.ext (by dsimp only; omega))) (congrArg₂ (fun a b => x4 (ix2 a b)) e1 (Fin.ext (by dsimp only; omega))))
      (congrArg₂ (· * ·) (congrArg₂ (dotB x0 x1) e1 (Fin.ext (by dsimp only; omega))) (congrArg₂ (fun a b => x4 (ix2 a b)) e1 (Fin.ext (by dsimp only; omega))))
  · refine (congrArg (fun v => Scalar.select v _ _) (hl.trans (if_neg (by omega)))).trans ?_
    rw [dif_neg h]
    rfl
end Blocks

/-- The call's arrays. -/
abbrev act (c : Dev nD) : FVec Ideal S4x4096x2048 .bf16 := m ((c : Thread nD τ).loc main_arg0)
@[inherit_doc act] abbrev wt (c : Dev nD) : FVec Ideal S2048x1856 .f32 := m ((c : Thread nD τ).loc main_arg1)
@[inherit_doc act] abbrev gq (c : Dev nD) : FVec Ideal S768 .f32 := m ((c : Thread nD τ).loc main_arg2)
@[inherit_doc act] abbrev gkv (c : Dev nD) : FVec Ideal S512 .f32 := m ((c : Thread nD τ).loc main_arg3)
@[inherit_doc act] abbrev cr (c : Dev nD) : FVec Ideal S4096x16 .f32 := m ((c : Thread nD τ).loc main_arg4)
@[inherit_doc act] abbrev sr (c : Dev nD) : FVec Ideal S4096x16 .f32 := m ((c : Thread nD τ).loc main_arg5)
@[inherit_doc act] abbrev cc (c : Dev nD) : FVec Ideal S4096x16 .f32 := m ((c : Thread nD τ).loc main_arg6)
@[inherit_doc act] abbrev sc (c : Dev nD) : FVec Ideal S4096x16 .f32 := m ((c : Thread nD τ).loc main_arg7)

/-- The prepared weights as one expression. -/
theorem prepW (c : Dev nD) : (V m c main_v11 : FVec Ideal S1x2048x1920 .bf16)
    = broadcastInDim S1x2048x1920 ![1, 2] bcast_S2048x1920_S1x2048x1920_1_2
        (concatenate S2048x1920 1 [⟨S2048x1856, (truncf .bf16 (wt m c) bitsLt_bf16_f32 : FVec Ideal S2048x1856 .bf16)⟩,
          ⟨S2048x64, shapeCast S2048x64 (Host.reverse [2] (shapeCast S2048x2x2x16 (extractStridedSlice S2048x64 ![0, 1792] (truncf .bf16 (wt m c) bitsLt_bf16_f32 : FVec Ideal S2048x1856 .bf16) slices_S2048x1856_S2048x64_0_1792) shapeCasts_S2048x64_S2048x2x2x16)) shapeCasts_S2048x2x2x16_S2048x64⟩]
          concatenates_S2048x1856_S2048x64_S2048x1920_d1) := rfl

/-- The prepared weights: first the weights, then the rotary columns with the quarters of each half swapped. -/
theorem weights (c : Dev nD) (k : Fin 2048) (j : Fin 1920) : (V m c main_v11 : FVec Ideal S1x2048x1920 .bf16) (ix3 0 k j)
    = if h : j.val < 1856 then wt m c (ix2 k ⟨j.val, h⟩)
      else wt m c (ix2 k ⟨1792 + ((j.val - 1856) / 32 * 32 + (1 - (j.val - 1856) / 16 % 2) * 16 + (j.val - 1856) % 16), by omega⟩) := by
  rw [prepW]
  pointwise []
  split_ifs <;> first | rfl | exact congrArg (fun v => wt m c (ix2 k v)) (Fin.ext (by simp [Fin.rev]; omega)) | simp_all

/-- The gains' rows. -/
theorem prepQ (c : Dev nD) (j : Fin 768) : (V m c main_v9 : FVec Ideal S1x768 .f32) (ix2 0 j) = gq m c (ix1 j) := by
  have e : (V m c main_v9 : FVec Ideal S1x768 .f32) = shapeCast S1x768 (gq m c) shapeCasts_S768_S1x768 := rfl
  rw [e]
  pointwise []
@[inherit_doc prepQ] theorem prepKV (c : Dev nD) (j : Fin 512) : (V m c main_v10 : FVec Ideal S1x512 .f32) (ix2 0 j) = gkv m c (ix1 j) := by
  have e : (V m c main_v10 : FVec Ideal S1x512 .f32) = shapeCast S1x512 (gkv m c) shapeCasts_S512_S1x512 := rfl
  rw [e]
  pointwise []

/-- The table as one expression. -/
theorem prepT (c : Dev nD) : (V m c main_v8 : FVec Ideal S4096x128 .f32)
    = concatenate S4096x128 1 [⟨S4096x16, cr m c⟩, ⟨S4096x16, cr m c⟩, ⟨S4096x16, cc m c⟩, ⟨S4096x16, cc m c⟩, ⟨S4096x16, Host.negf (sr m c)⟩, ⟨S4096x16, sr m c⟩, ⟨S4096x16, Host.negf (sc m c)⟩, ⟨S4096x16, sc m c⟩]
      concatenates_S4096x16_S4096x16_S4096x16_S4096x16_S4096x16_S4096x16_S4096x16_S4096x16_S4096x128_d1 := rfl

/-- The table by blocks of sixteen columns. -/
theorem table0 (c : Dev nD) (n : Fin 4096) (e : Fin 128) (r : Fin 16) (h : e.val = 0 + r.val) : (V m c main_v8 : FVec Ideal S4096x128 .f32) (ix2 n e) = (cr m c (ix2 n r) : EReal) := by
  rw [prepT]
  pointwise []
  split_ifs <;> first | omega | exact congrArg (fun v => (cr m c (ix2 n v) : EReal)) (Fin.ext (by dsimp only; omega))
@[inherit_doc table0] theorem table1 (c : Dev nD) (n : Fin 4096) (e : Fin 128) (r : Fin 16) (h : e.val = 16 + r.val) : (V m c main_v8 : FVec Ideal S4096x128 .f32) (ix2 n e) = (cr m c (ix2 n r) : EReal) := by
  rw [prepT]
  pointwise []
  split_ifs <;> first | omega | exact congrArg (fun v => (cr m c (ix2 n v) : EReal)) (Fin.ext (by dsimp only; omega))
@[inherit_doc table0] theorem table2 (c : Dev nD) (n : Fin 4096) (e : Fin 128) (r : Fin 16) (h : e.val = 32 + r.val) : (V m c main_v8 : FVec Ideal S4096x128 .f32) (ix2 n e) = (cc m c (ix2 n r) : EReal) := by
  rw [prepT]
  pointwise []
  split_ifs <;> first | omega | exact congrArg (fun v => (cc m c (ix2 n v) : EReal)) (Fin.ext (by dsimp only; omega))
@[inherit_doc table0] theorem table3 (c : Dev nD) (n : Fin 4096) (e : Fin 128) (r : Fin 16) (h : e.val = 48 + r.val) : (V m c main_v8 : FVec Ideal S4096x128 .f32) (ix2 n e) = (cc m c (ix2 n r) : EReal) := by
  rw [prepT]
  pointwise []
  split_ifs <;> first | omega | exact congrArg (fun v => (cc m c (ix2 n v) : EReal)) (Fin.ext (by dsimp only; omega))
@[inherit_doc table0] theorem table4 (c : Dev nD) (n : Fin 4096) (e : Fin 128) (r : Fin 16) (h : e.val = 64 + r.val) : (V m c main_v8 : FVec Ideal S4096x128 .f32) (ix2 n e) = -(sr m c (ix2 n r) : EReal) := by
  rw [prepT]
  pointwise []
  split_ifs <;> first | omega | exact congrArg (fun v => -(sr m c (ix2 n v) : EReal)) (Fin.ext (by dsimp only; omega))
@[inherit_doc table0] theorem table5 (c : Dev nD) (n : Fin 4096) (e : Fin 128) (r : Fin 16) (h : e.val = 80 + r.val) : (V m c main_v8 : FVec Ideal S4096x128 .f32) (ix2 n e) = (sr m c (ix2 n r) : EReal) := by
  rw [prepT]
  pointwise []
  split_ifs <;> first | omega | exact congrArg (fun v => (sr m c (ix2 n v) : EReal)) (Fin.ext (by dsimp only; omega))
@[inherit_doc table0] theorem table6 (c : Dev nD) (n : Fin 4096) (e : Fin 128) (r : Fin 16) (h : e.val = 96 + r.val) : (V m c main_v8 : FVec Ideal S4096x128 .f32) (ix2 n e) = -(sc m c (ix2 n r) : EReal) := by
  rw [prepT]
  pointwise []
  split_ifs <;> first | omega | exact congrArg (fun v => -(sc m c (ix2 n v) : EReal)) (Fin.ext (by dsimp only; omega))
@[inherit_doc table0] theorem table7 (c : Dev nD) (n : Fin 4096) (e : Fin 128) (r : Fin 16) (h : e.val = 112 + r.val) : (V m c main_v8 : FVec Ideal S4096x128 .f32) (ix2 n e) = (sc m c (ix2 n r) : EReal) := by
  rw [prepT]
  pointwise []
  split_ifs <;> first | omega | exact congrArg (fun v => (sc m c (ix2 n v) : EReal)) (Fin.ext (by dsimp only; omega))

/-- The blocks a grid point reads and writes. -/
theorem idx : ∀ t : Fin cfg0.N, win0_0.index t = ![t.val / 4, t.val % 4, 0] ∧ win0_1.index t = ![0, 0, 0]
    ∧ win0_2.index t = ![0, 0] ∧ win0_3.index t = ![0, 0] ∧ win0_4.index t = ![t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] ∧ t.val / 4 < 4 :=
  (by decide +kernel : ∀ t : Fin grid0.N, _)

/-- The activations a grid point reads. -/
theorem actB (c : Dev nD) (t : Fin cfg0.N) (hb : t.val / 4 < 4) (r : Fin 1024) (k : Fin 2048) :
    (iblk m c 0 t) (ix3 0 r k) = act m c (ix3 ⟨t.val / 4, hb⟩ ⟨1024 * (t.val % 4) + r.val, by omega⟩ k) := by
  blk_point [iblk, V_main_arg0, idx t]

/-- The weights a grid point reads. -/
theorem wtB (c : Dev nD) (t : Fin cfg0.N) (k : Fin 2048) (j : Fin 1920) :
    (iblk m c 1 t) (ix3 0 k j) = (V m c main_v11 : FVec Ideal S1x2048x1920 .bf16) (ix3 0 k j) := by
  blk_point [iblk, idx t]

/-- The table a grid point reads. -/
theorem tabB (c : Dev nD) (t : Fin cfg0.N) (r : Fin 1024) (e : Fin 128) :
    (iblk m c 4 t) (ix2 r e) = (V m c main_v8 : FVec Ideal S4096x128 .f32) (ix2 ⟨1024 * (t.val % 4) + r.val, by omega⟩ e) := by
  blk_point [iblk, idx t]

/-- The gains a grid point reads. -/
theorem gqB (c : Dev nD) (t : Fin cfg0.N) (j : Fin 768) : (iblk m c 2 t) (ix2 0 j) = gq m c (ix1 j) := by
  refine Eq.trans ?_ (prepQ m c j)
  blk_point [iblk, idx t]
@[inherit_doc gqB] theorem gkvB (c : Dev nD) (t : Fin cfg0.N) (j : Fin 512) : (iblk m c 3 t) (ix2 0 j) = gkv m c (ix1 j) := by
  refine Eq.trans ?_ (prepKV m c j)
  blk_point [iblk, idx t]

/-- A tile's product at a grid point, among the weights' own columns. -/
theorem tile (c : Dev nD) (t : Fin cfg0.N) (hb : t.val / 4 < 4) (r : Fin 1024) (j : Fin 1920) (j' : Fin 1856) (h : j.val = j'.val) :
    dotB (iblk m c 0 t) (iblk m c 1 t) r j = dotAt (act m c) (wt m c) ⟨t.val / 4, hb⟩ ⟨1024 * (t.val % 4) + r.val, by omega⟩ j' := by
  refine Finset.sum_congr rfl fun k _ => congrArg₂ (· * ·) (actB m c t hb r k) ((wtB m c t k j).trans ((weights m c k j).trans ?_))
  rw [dif_pos (by omega)]
  exact congrArg (fun v => wt m c (ix2 k v)) (Fin.ext h)

/-- A tile's product at a grid point, among the swapped rotary columns. -/
theorem tileS (c : Dev nD) (t : Fin cfg0.N) (hb : t.val / 4 < 4) (r : Fin 1024) (j : Fin 1920) (j' : Fin 1856) (h0 : 1856 ≤ j.val)
    (h : 1792 + ((j.val - 1856) / 32 * 32 + (1 - (j.val - 1856) / 16 % 2) * 16 + (j.val - 1856) % 16) = j'.val) :
    dotB (iblk m c 0 t) (iblk m c 1 t) r j = dotAt (act m c) (wt m c) ⟨t.val / 4, hb⟩ ⟨1024 * (t.val % 4) + r.val, by omega⟩ j' := by
  refine Finset.sum_congr rfl fun k _ => congrArg₂ (· * ·) (actB m c t hb r k) ((wtB m c t k j).trans ((weights m c k j).trans ?_))
  rw [dif_neg (by omega)]
  exact congrArg (fun v => wt m c (ix2 k v)) (Fin.ext h)

/-- What a point stores among the pooling columns is the reference's. -/
theorem pointU (c : Dev nD) (t : Fin cfg0.N) (y : S1x1024x512.Idx) :
    out0_5 (iblk m c 0 t) (iblk m c 1 t) (iblk m c 2 t) (iblk m c 3 t) (iblk m c 4 t) y = REFU (act m c) (wt m c) (((cfg0.win 5).blk t).view.emb y) := by
  have h1 : (y 1).val < 1024 := (y 1).isLt
  have h2 : (y 2).val < 512 := (y 2).isLt
  have hb : t.val / 4 < 4 := (idx t).2.2.2.2.2.2.2.2.2
  have e : ((cfg0.win 5).blk t).view.emb y = (ix3 ⟨t.val / 4, hb⟩ ⟨1024 * (t.val % 4) + (y 1).val, by omega⟩ ⟨(y 2).val, h2⟩ : S4x4096x512.Idx) := by
    blk_ext [idx t]
  rw [e, ref_u, block_u _ _ _ _ _ y h2]
  exact tile m c t hb (y 1) _ _ rfl

/-- The array of pooling columns after the run is the reference's. -/
theorem finalU (c : Dev nD) : (dats m 0 c).arrAt 5 cfg0.N = REFU (act m c) (wt m c) := by
  refine (dats m 0 c).arrAt_eq_of_covers 5 _ (by decide +kernel) fun t _ y => ?_
  blk_simp
  rw [after0_5]
  exact pointU m c t y

/-- What a point stores among the normed query rows is the reference's. -/
theorem pointQ (c : Dev nD) (t : Fin cfg0.N) (y : S1x1024x768.Idx) :
    out0_6 (iblk m c 0 t) (iblk m c 1 t) (iblk m c 2 t) (iblk m c 3 t) (iblk m c 4 t) y = REFQ (act m c) (wt m c) (gq m c) (((cfg0.win 6).blk t).view.emb y) := by
  have h1 : (y 1).val < 1024 := (y 1).isLt
  have h2 : (y 2).val < 768 := (y 2).isLt
  have hb : t.val / 4 < 4 := (idx t).2.2.2.2.2.2.2.2.2
  have e : ((cfg0.win 6).blk t).view.emb y = (ix3 ⟨t.val / 4, hb⟩ ⟨1024 * (t.val % 4) + (y 1).val, by omega⟩ ⟨(y 2).val, h2⟩ : S4x4096x768.Idx) := by
    blk_ext [idx t]
  rw [e, ref_q, block_q]
  have hv : (fun j : Fin 768 => dotB (iblk m c 0 t) (iblk m c 1 t) (y 1) ⟨512 + j.val, by omega⟩)
      = fun j : Fin 768 => dotAt (act m c) (wt m c) ⟨t.val / 4, hb⟩ ⟨1024 * (t.val % 4) + (y 1).val, by omega⟩ ⟨512 + j.val, by omega⟩ :=
    funext fun j => tile m c t hb (y 1) _ _ rfl
  exact congrArg₂ (fun v g => rms 0x44400000#32 v g ⟨(y 2).val, h2⟩) hv (gqB m c t ⟨(y 2).val, h2⟩)

/-- The array of normed query rows after the run is the reference's. -/
theorem finalQ (c : Dev nD) : (dats m 0 c).arrAt 6 cfg0.N = REFQ (act m c) (wt m c) (gq m c) := by
  refine (dats m 0 c).arrAt_eq_of_covers 6 _ (by decide +kernel) fun t _ y => ?_
  blk_simp
  rw [after0_6]
  exact pointQ m c t y

/-- What a point stores among the normed compressed rows is the reference's. -/
theorem pointKV (c : Dev nD) (t : Fin cfg0.N) (y : S1x1024x512.Idx) :
    out0_7 (iblk m c 0 t) (iblk m c 1 t) (iblk m c 2 t) (iblk m c 3 t) (iblk m c 4 t) y = REFKV (act m c) (wt m c) (gkv m c) (((cfg0.win 7).blk t).view.emb y) := by
  have h1 : (y 1).val < 1024 := (y 1).isLt
  have h2 : (y 2).val < 512 := (y 2).isLt
  have hb : t.val / 4 < 4 := (idx t).2.2.2.2.2.2.2.2.2
  have e : ((cfg0.win 7).blk t).view.emb y = (ix3 ⟨t.val / 4, hb⟩ ⟨1024 * (t.val % 4) + (y 1).val, by omega⟩ ⟨(y 2).val, h2⟩ : S4x4096x512.Idx) := by
    blk_ext [idx t]
  rw [e, ref_kv, block_kv]
  have hv : (fun j : Fin 512 => dotB (iblk m c 0 t) (iblk m c 1 t) (y 1) ⟨1280 + j.val, by omega⟩)
      = fun j : Fin 512 => dotAt (act m c) (wt m c) ⟨t.val / 4, hb⟩ ⟨1024 * (t.val % 4) + (y 1).val, by omega⟩ ⟨1280 + j.val, by omega⟩ :=
    funext fun j => tile m c t hb (y 1) _ _ rfl
  exact congrArg₂ (fun v g => rms 0x44000000#32 v g ⟨(y 2).val, h2⟩) hv (gkvB m c t ⟨(y 2).val, h2⟩)

/-- The array of normed compressed rows after the run is the reference's. -/
theorem finalKV (c : Dev nD) : (dats m 0 c).arrAt 7 cfg0.N = REFKV (act m c) (wt m c) (gkv m c) := by
  refine (dats m 0 c).arrAt_eq_of_covers 7 _ (by decide +kernel) fun t _ y => ?_
  blk_simp
  rw [after0_7]
  exact pointKV m c t y

/-- What a point stores among the rotated keys is the reference's. -/
theorem pointR (c : Dev nD) (t : Fin cfg0.N) (y : S1x1024x128.Idx) :
    out0_8 (iblk m c 0 t) (iblk m c 1 t) (iblk m c 2 t) (iblk m c 3 t) (iblk m c 4 t) y = REFR (act m c) (wt m c) (cr m c) (sr m c) (cc m c) (sc m c) (((cfg0.win 8).blk t).view.emb y) := by
  have h1 : (y 1).val < 1024 := (y 1).isLt
  have h2 : (y 2).val < 128 := (y 2).isLt
  have hb : t.val / 4 < 4 := (idx t).2.2.2.2.2.2.2.2.2
  have e : ((cfg0.win 8).blk t).view.emb y = (ix3 ⟨t.val / 4, hb⟩ ⟨1024 * (t.val % 4) + (y 1).val, by omega⟩ ⟨(y 2).val, h2⟩ : S4x4096x128.Idx) := by
    blk_ext [idx t]
  rw [e, ref_r, block_r _ _ _ _ _ y h2]
  unfold ROT
  dsimp only
  by_cases h : (y 2).val < 64
  · rw [dif_pos h, dif_pos h]
    by_cases p : (y 2).val < 32
    · rw [dif_pos p]
      by_cases q : (y 2).val < 16
      · rw [dif_pos q]
        refine (congrArg₂ (· + ·) (congrArg₂ (· * ·) (tile m c t hb (y 1) _ ⟨1792 + (y 2).val, by omega⟩ rfl) ((tabB m c t (y 1) _).trans (table0 m c _ _ ⟨(y 2).val, by omega⟩ (by dsimp only; omega))))
            (congrArg₂ (· * ·) (tileS m c t hb (y 1) _ ⟨1792 + (y 2).val + 16, by omega⟩ (by dsimp only; omega) (by dsimp only; omega)) ((tabB m c t (y 1) _).trans (table4 m c _ _ ⟨(y 2).val, by omega⟩ rfl)))).trans ?_
        rw [mul_neg, ← sub_eq_add_neg]
        exact congrArg₂ (· - ·) (congrArg₂ (· * ·) (congrArg (dotAt (act m c) (wt m c) _ _) (Fin.ext (by first | rfl | (dsimp only; omega)))) rfl) (congrArg₂ (· * ·) (congrArg (dotAt (act m c) (wt m c) _ _) (Fin.ext (by first | rfl | (dsimp only; omega)))) rfl)
      · rw [dif_neg q]
        refine (congrArg₂ (· + ·) (congrArg₂ (· * ·) (tile m c t hb (y 1) _ ⟨1792 + (y 2).val, by omega⟩ rfl) ((tabB m c t (y 1) _).trans (table1 m c _ _ ⟨(y 2).val - 16, by omega⟩ (by dsimp only; omega))))
            (congrArg₂ (· * ·) (tileS m c t hb (y 1) _ ⟨1792 + (y 2).val - 16, by omega⟩ (by dsimp only; omega) (by dsimp only; omega)) ((tabB m c t (y 1) _).trans (table5 m c _ _ ⟨(y 2).val - 16, by omega⟩ (by dsimp only; omega))))).trans ?_
        rw [add_comm]
        exact congrArg₂ (· + ·) (congrArg₂ (· * ·) (congrArg (dotAt (act m c) (wt m c) _ _) (Fin.ext (by first | rfl | (dsimp only; omega)))) rfl) (congrArg₂ (· * ·) (congrArg (dotAt (act m c) (wt m c) _ _) (Fin.ext (by first | rfl | (dsimp only; omega)))) rfl)
    · rw [dif_neg p]
      by_cases q : (y 2).val - 32 < 16
      · rw [dif_pos q]
        refine (congrArg₂ (· + ·) (congrArg₂ (· * ·) (tile m c t hb (y 1) _ ⟨1792 + (y 2).val, by omega⟩ rfl) ((tabB m c t (y 1) _).trans (table2 m c _ _ ⟨(y 2).val - 32, by omega⟩ (by dsimp only; omega))))
            (congrArg₂ (· * ·) (tileS m c t hb (y 1) _ ⟨1792 + (y 2).val + 16, by omega⟩ (by dsimp only; omega) (by dsimp only; omega)) ((tabB m c t (y 1) _).trans (table6 m c _ _ ⟨(y 2).val - 32, by omega⟩ (by dsimp only; omega))))).trans ?_
        rw [mul_neg, ← sub_eq_add_neg]
        exact congrArg₂ (· - ·) (congrArg₂ (· * ·) (congrArg (dotAt (act m c) (wt m c) _ _) (Fin.ext (by first | rfl | (dsimp only; omega)))) rfl) (congrArg₂ (· * ·) (congrArg (dotAt (act m c) (wt m c) _ _) (Fin.ext (by first | rfl | (dsimp only; omega)))) rfl)
      · rw [dif_neg q]
        refine (congrArg₂ (· + ·) (congrArg₂ (· * ·) (tile m c t hb (y 1) _ ⟨1792 + (y 2).val, by omega⟩ rfl) ((tabB m c t (y 1) _).trans (table3 m c _ _ ⟨(y 2).val - 32 - 16, by omega⟩ (by dsimp only; omega))))
            (congrArg₂ (· * ·) (tileS m c t hb (y 1) _ ⟨1792 + (y 2).val - 16, by omega⟩ (by dsimp only; omega) (by dsimp only; omega)) ((tabB m c t (y 1) _).trans (table7 m c _ _ ⟨(y 2).val - 32 - 16, by omega⟩ (by dsimp only; omega))))).trans ?_
        rw [add_comm]
        exact congrArg₂ (· + ·) (congrArg₂ (· * ·) (congrArg (dotAt (act m c) (wt m c) _ _) (Fin.ext (by first | rfl | (dsimp only; omega)))) rfl) (congrArg₂ (· * ·) (congrArg (dotAt (act m c) (wt m c) _ _) (Fin.ext (by first | rfl | (dsimp only; omega)))) rfl)
  · rw [dif_neg h, dif_neg h]

/-- The array of rotated keys after the run is the reference's. -/
theorem finalR (c : Dev nD) : (dats m 0 c).arrAt 8 cfg0.N = REFR (act m c) (wt m c) (cr m c) (sr m c) (cc m c) (sc m c) := by
  refine (dats m 0 c).arrAt_eq_of_covers 8 _ (by decide +kernel) fun t _ y => ?_
  blk_simp
  rw [after0_8]
  exact pointR m c t y

end Cert.Kernel9Ideal.OddIn
end
-- ==== Proof.OddIn.Claim.lean ====
/- The odd layer's input projection: kernel and reference end with the same result. -/
module
public import proofs.«01_k».proof.Defs
public import proofs.«01_k».proof.Proof.OddIn.Value
public import proofs.«01_k».proof.Proof.Gen.Reference9Ideal.Run
@[expose] public section
noncomputable section
open Idealize.ShloMosaic Idealize.ShloMosaic.TcCoe Idealize.SL.Sem
namespace Cert.Kernel9Ideal.OddIn
open Cert.Kernel9Ideal

/-- Kernel and reference end with the same results. -/
theorem agree : haveI := Cert.Kernel9Ideal.Gen.facts; haveI := Cert.Reference9Ideal.Gen.facts
    Cert.algebraic_Kernel9Ideal_Reference9Ideal := by
  intro m g m' g' hpre hag
  refine ⟨fun c => REFU (act m c) (wt m c), fun c => REFQ (act m c) (wt m c) (gq m c), fun c => REFKV (act m c) (wt m c) (gkv m c), fun c => REFR (act m c) (wt m c) (cr m c) (sr m c) (cc m c) (sc m c), ?_, ?_⟩
  · refine (θ_run _ _ _).mono (fun r h c => ?_) (Cert.Kernel9Ideal.Value.run_blocks m g)
    obtain ⟨hu, hq, hk, hr, ha⟩ := h c
    exact ⟨hu.trans (finalU m c), hq.trans (finalQ m c), hk.trans (finalKV m c), hr.trans (finalR m c), ha⟩
  · refine (θ_run _ _ _).mono (fun r h c => ?_) (Cert.Reference9Ideal.Value.run m' g')
    obtain ⟨hu, hq, hk, hr, ha⟩ := h c
    obtain ⟨e0, e1, e2, e3, e4, e5, e6, e7⟩ := hag c
    refine ⟨hu.trans ?_, hq.trans ?_, hk.trans ?_, hr.trans ?_, ha⟩
    · rw [Cert.Reference9Ideal.Read.val_main_v2_eq, e0, e1]
    · rw [Cert.Reference9Ideal.Read.val_main_v58_eq, e0, e1, e2]
    · rw [Cert.Reference9Ideal.Read.val_main_v72_eq, e0, e1, e3]
    · rw [Cert.Reference9Ideal.Read.val_main_v73_eq, e0, e1, e4, e5, e6, e7]

/-- The reference ends with its arguments unchanged and every counter zero. -/
theorem ref_frame : haveI := Cert.Reference9Ideal.Gen.facts; Cert.quiescent_Reference9Ideal := fun m g _ =>
  haveI := Cert.Reference9Ideal.Gen.facts
  (θ_run Cert.Reference9Ideal.defs _ _).mono
    (fun r h => And.intro (fun c => (h c).2.2.2.2) (sem_eq_zero_of_no_sems (by decide) r.2)) (Cert.Reference9Ideal.Value.run m g)

end Cert.Kernel9Ideal.OddIn
end
-- ==== Proof.UpQ.Value.lean ====
/- The latent attention's queries: what the result array holds. -/
module
public import proofs.«01_k».proof.Proof.Gen.Kernel10Ideal.Value
public import proofs.«01_k».proof.Proof.Gen.Reference10Ideal.Read
public import Idealize.ShloMosaic.Lib.Pipeline.ValueKit
public import Idealize.ShloMosaic.Lib.Claim
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel10Ideal.UpQ
open Cert.Kernel10Ideal Cert.Kernel10Ideal.Gen Cert.Kernel10Ideal.Value Cert.Reference10Ideal.Read
variable (m : (ℓ : Loc nD τ sig) → Buf (Elt Ideal) ℓ)

/-- The reference's result, over the call's arrays. -/
abbrev REF (A : FVec Ideal S4x4096x768 .bf16) (W : FVec Ideal S768x2304 .f32) (cr sr cc sc : FVec Ideal S4096x16 .f32) : FVec Ideal S4x12x4096x256 .bf16 := val_main_v46 (F := Ideal) A W cr sr cc sc

/-- The product at a row and a column. -/
abbrev dotAt (A : FVec Ideal S4x4096x768 .bf16) (W : FVec Ideal S768x2304 .f32) (b : Fin 4) (n : Fin 4096) (j : Fin 2304) : EReal :=
  ∑ k : Fin 768, (A (ix3 b n k) : EReal) * (W (ix2 k j) : EReal)

/-- A row's rotated query at a place below 64: each half's two quarters turned by the row's or the column's angle. -/
def ROT (A : FVec Ideal S4x4096x768 .bf16) (W : FVec Ideal S768x2304 .f32) (cr sr cc sc : FVec Ideal S4096x16 .f32) (b : Fin 4) (g : Fin 12) (n : Fin 4096) (e : Fin 64) : EReal :=
  if h1 : e.val < 32 then
    if h2 : e.val < 16 then dotAt A W b n ⟨g.val * 192 + (128 + e.val), by omega⟩ * cr (ix2 n ⟨e.val, by omega⟩) - dotAt A W b n ⟨g.val * 192 + (128 + (16 + e.val)), by omega⟩ * sr (ix2 n ⟨e.val, by omega⟩)
    else dotAt A W b n ⟨g.val * 192 + (128 + (e.val - 16)), by omega⟩ * sr (ix2 n ⟨e.val - 16, by omega⟩) + dotAt A W b n ⟨g.val * 192 + (128 + (16 + (e.val - 16))), by omega⟩ * cr (ix2 n ⟨e.val - 16, by omega⟩)
  else
    if h2 : e.val - 32 < 16 then dotAt A W b n ⟨g.val * 192 + (128 + (32 + (e.val - 32))), by omega⟩ * cc (ix2 n ⟨e.val - 32, by omega⟩) - dotAt A W b n ⟨g.val * 192 + (128 + (32 + (16 + (e.val - 32)))), by omega⟩ * sc (ix2 n ⟨e.val - 32, by omega⟩)
    else dotAt A W b n ⟨g.val * 192 + (128 + (32 + (e.val - 32 - 16))), by omega⟩ * sc (ix2 n ⟨e.val - 32 - 16, by omega⟩) + dotAt A W b n ⟨g.val * 192 + (128 + (32 + (16 + (e.val - 32 - 16)))), by omega⟩ * cc (ix2 n ⟨e.val - 32 - 16, by omega⟩)

/-- The constant that scales the queries. -/
abbrev S : EReal := Ideal.ofBits .f32 0x3DD53B95#32

/-- It is a nonnegative real. -/
theorem scale_real : ∃ r : ℝ, 0 ≤ r ∧ S = (r : EReal) := by
  refine ⟨13974421 / 2 ^ 27, by positivity, ?_⟩
  simp [S, Ideal.ofBits, Ideal.ieee]
  rw [show (13974421 / 2 ^ 27 : ℝ) = (13974421 : ℝ) * (1 / 134217728 : ℝ) by norm_num, EReal.coe_mul]
  norm_num

/-- So it goes under an addition. -/
theorem add_scale (a b : EReal) : (a + b) * S = a * S + b * S := by
  obtain ⟨r, hr, er⟩ := scale_real
  rw [er]
  exact EReal.right_distrib_of_nonneg_of_ne_top (EReal.coe_nonneg.mpr hr) (EReal.coe_ne_top r) _ _

/-- And under a sum. -/
theorem sum_scale {ι : Type} (s : Finset ι) (f : ι → EReal) : (∑ k ∈ s, f k) * S = ∑ k ∈ s, f k * S := by
  classical
  induction s using Finset.induction_on with
  | empty => simp
  | insert a s ha ih => rw [Finset.sum_insert ha, Finset.sum_insert ha, ← ih, add_scale]

/-- A turned pair, scaled before the turn and after it. -/
theorem turn_sub (x y c s : EReal) : x * S * c + y * S * (-s) = (x * c - y * s) * S := by
  rw [sub_eq_add_neg, add_scale, mul_right_comm x, mul_neg, mul_right_comm y, neg_mul]
@[inherit_doc turn_sub] theorem turn_add (x y c s : EReal) : x * S * c + y * S * s = (y * s + x * c) * S := by
  rw [add_scale, mul_right_comm x, mul_right_comm y, add_comm]

/-- The reference's result at an index. -/
theorem ref_apply (A : FVec Ideal S4x4096x768 .bf16) (W : FVec Ideal S768x2304 .f32) (cr sr cc sc : FVec Ideal S4096x16 .f32) (b : Fin 4) (g : Fin 12) (n : Fin 4096) (e : Fin 256) :
    REF A W cr sr cc sc (ix4 b g n e) = (if h : e.val < 128 then dotAt A W b n ⟨g.val * 192 + e.val, by omega⟩
      else if h : e.val - 128 < 64 then ROT A W cr sr cc sc b g n ⟨e.val - 128, h⟩ else ROT A W cr sr cc sc b g n ⟨e.val - 128 - 64, by omega⟩) * S := by
  pointwise [REF, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl

/-- The product of a tile at a row and a column. -/
abbrev dotB (x0 : Vec Ideal S1x1024x768 .bf16) (x1 : Vec Ideal S1x768x1536 .bf16) (r : Fin 1024) (j : Fin 1536) : EReal :=
  ∑ k : Fin 768, (x0 (ix3 0 r k) : EReal) * (x1 (ix3 0 k j) : EReal)

/-- A tile at an index. -/
theorem block (x0 : Vec Ideal S1x1024x768 .bf16) (x1 : Vec Ideal S1x768x1536 .bf16) (x2 : Vec Ideal S1024x128 .f32) (y : S1x6x1024x256.Idx) (h1 : (y 1).val < 6) (h3 : (y 3).val < 256) : out0_3 x0 x1 x2 y
    = if h : (y 3).val < 128 then dotB x0 x1 (y 2) ⟨(y 1).val * 256 + (y 3).val, by omega⟩
      else dotB x0 x1 (y 2) ⟨(y 1).val * 256 + (y 3).val, by omega⟩ * x2 (ix2 (y 2) ⟨(y 3).val - 128, by omega⟩)
        + dotB x0 x1 (y 2) ⟨(y 1).val * 256 + 128 + ((y 3).val - 128 + 64) % 128, by omega⟩ * x2 (ix2 (y 2) ⟨((y 3).val - 128 + 64) % 128, by omega⟩) := by
  unfold out0_3 k0_pay17 k0_pay18
  canon_tiles x hh
  all_goals pointwise [k0_pay1, k0_pay2, k0_pay3, k0_pay4, k0_pay7, k0_pay8, k0_pay9, k0_pay10, k0_pay11, k0_pay12, k0_pay13, k0_pay14, k0_pay15, k0_pay16, k0_pay5, k0_pay6]
  all_goals first
    | (rw [dif_pos (by omega)]; exact congrArg₂ (dotB x0 x1) (Fin.ext (by omega)) (Fin.ext (by dsimp only; omega)))
    | (rw [dif_neg (by omega)]
       exact congrArg₂ (· + ·)
         (congrArg₂ (· * ·) (congrArg₂ (dotB x0 x1) (Fin.ext (by omega)) (Fin.ext (by dsimp only; omega))) (congrArg₂ (fun a b => x2 (ix2 a b)) (Fin.ext (by omega)) (Fin.ext (by first | (dsimp only; omega) | omega))))
         (congrArg₂ (· * ·) (congrArg₂ (dotB x0 x1) (Fin.ext (by omega)) (Fin.ext (by dsimp only; omega))) (congrArg₂ (fun a b => x2 (ix2 a b)) (Fin.ext (by omega)) (Fin.ext (by first | (dsimp only; omega) | omega)))))

/-- The call's arrays. -/
abbrev act (c : Dev nD) : FVec Ideal S4x4096x768 .bf16 := m ((c : Thread nD τ).loc main_arg0)
@[inherit_doc act] abbrev wt (c : Dev nD) : FVec Ideal S768x2304 .f32 := m ((c : Thread nD τ).loc main_arg1)
@[inherit_doc act] abbrev cr (c : Dev nD) : FVec Ideal S4096x16 .f32 := m ((c : Thread nD τ).loc main_arg2)
@[inherit_doc act] abbrev sr (c : Dev nD) : FVec Ideal S4096x16 .f32 := m ((c : Thread nD τ).loc main_arg3)
@[inherit_doc act] abbrev cc (c : Dev nD) : FVec Ideal S4096x16 .f32 := m ((c : Thread nD τ).loc main_arg4)
@[inherit_doc act] abbrev sc (c : Dev nD) : FVec Ideal S4096x16 .f32 := m ((c : Thread nD τ).loc main_arg5)

/-- The scaled weights, head by head. -/
abbrev wq (c : Dev nD) : FVec Ideal S768x12x192 .bf16 :=
  shapeCast S768x12x192 (truncf .bf16 (mulf (wt m c) (broadcastInDim S768x2304 ![] bcast_S_S768x2304 (constant S_ .f32 0x3DD53B95#32) : FVec Ideal S768x2304 .f32)) bitsLt_bf16_f32 : FVec Ideal S768x2304 .bf16) shapeCasts_S768x2304_S768x12x192

/-- The rotary columns of the scaled weights. -/
abbrev wr (c : Dev nD) : FVec Ideal S768x12x64 .bf16 := extractStridedSlice S768x12x64 ![0, 0, 128] (wq m c) slices_S768x12x192_S768x12x64_0_0_128

/-- The prepared weights as one expression. -/
theorem prepW (c : Dev nD) : (V m c main_v14 : FVec Ideal S1x768x3072 .bf16)
    = broadcastInDim S1x768x3072 ![1, 2] bcast_S768x3072_S1x768x3072_1_2
        (shapeCast S768x3072 (concatenate S768x12x256 2 [⟨S768x12x128, (extractStridedSlice S768x12x128 ![0, 0, 0] (wq m c) slices_S768x12x192_S768x12x128_0_0_0 : FVec Ideal S768x12x128 .bf16)⟩,
          ⟨S768x12x64, wr m c⟩,
          ⟨S768x12x64, shapeCast S768x12x64 (Host.reverse [3] (shapeCast S768x12x2x2x16 (wr m c) shapeCasts_S768x12x64_S768x12x2x2x16)) shapeCasts_S768x12x2x2x16_S768x12x64⟩]
          concatenates_S768x12x128_S768x12x64_S768x12x64_S768x12x256_d2) shapeCasts_S768x12x256_S768x3072) := rfl

/-- The prepared weights: of each head the scaled weights, then the rotary columns with the quarters of each half swapped. -/
theorem weights (c : Dev nD) (k : Fin 768) (j : Fin 3072) : (V m c main_v14 : FVec Ideal S1x768x3072 .bf16) (ix3 0 k j)
    = ((if h : j.val % 256 < 192 then wt m c (ix2 k ⟨j.val / 256 * 192 + j.val % 256, by omega⟩)
      else wt m c (ix2 k ⟨j.val / 256 * 192 + (128 + ((j.val % 256 - 192) / 32 * 32 + (1 - (j.val % 256 - 192) / 16 % 2) * 16 + (j.val % 256 - 192) % 16)), by omega⟩) : EReal) * S : EReal) := by
  rw [prepW]
  pointwise [wq, wr]
  by_cases p : j.val % 256 < 128
  · have q : j.val % 256 < 192 := by omega
    rw [dif_pos p, dif_pos q]
  · by_cases q : j.val % 256 < 192
    · have q' : j.val % 256 - 128 < 64 := by omega
      rw [dif_neg p, dif_pos q', dif_pos q]
      have e : j.val / 256 * 192 + (128 + (j.val % 256 - 128)) = j.val / 256 * 192 + j.val % 256 := by omega
      exact congrArg (fun v => (wt m c (ix2 k v) : EReal) * S) (Fin.ext e)
    · have q' : ¬ j.val % 256 - 128 < 64 := by omega
      rw [dif_neg p, dif_neg q']
      refine Eq.trans ?_ (congrArg (fun v : EReal => v * S) (dif_neg q).symm)
      refine congrArg (fun v => (wt m c (ix2 k v) : EReal) * S) (Fin.ext ?_)
      simp [Fin.rev]
      omega

/-- The table as one expression. -/
theorem prepT (c : Dev nD) : (V m c main_v13 : FVec Ideal S4096x128 .f32)
    = concatenate S4096x128 1 [⟨S4096x16, cr m c⟩, ⟨S4096x16, cr m c⟩, ⟨S4096x16, cc m c⟩, ⟨S4096x16, cc m c⟩, ⟨S4096x16, Host.negf (sr m c)⟩, ⟨S4096x16, sr m c⟩, ⟨S4096x16, Host.negf (sc m c)⟩, ⟨S4096x16, sc m c⟩]
      concatenates_S4096x16_S4096x16_S4096x16_S4096x16_S4096x16_S4096x16_S4096x16_S4096x16_S4096x128_d1 := rfl

/-- The table by blocks of sixteen columns. -/
theorem table0 (c : Dev nD) (n : Fin 4096) (e : Fin 128) (r : Fin 16) (h : e.val = 0 + r.val) : (V m c main_v13 : FVec Ideal S4096x128 .f32) (ix2 n e) = (cr m c (ix2 n r) : EReal) := by
  rw [prepT]
  pointwise []
  split_ifs <;> first | omega | exact congrArg (fun v => (cr m c (ix2 n v) : EReal)) (Fin.ext (by dsimp only; omega))
@[inherit_doc table0] theorem table1 (c : Dev nD) (n : Fin 4096) (e : Fin 128) (r : Fin 16) (h : e.val = 16 + r.val) : (V m c main_v13 : FVec Ideal S4096x128 .f32) (ix2 n e) = (cr m c (ix2 n r) : EReal) := by
  rw [prepT]
  pointwise []
  split_ifs <;> first | omega | exact congrArg (fun v => (cr m c (ix2 n v) : EReal)) (Fin.ext (by dsimp only; omega))
@[inherit_doc table0] theorem table2 (c : Dev nD) (n : Fin 4096) (e : Fin 128) (r : Fin 16) (h : e.val = 32 + r.val) : (V m c main_v13 : FVec Ideal S4096x128 .f32) (ix2 n e) = (cc m c (ix2 n r) : EReal) := by
  rw [prepT]
  pointwise []
  split_ifs <;> first | omega | exact congrArg (fun v => (cc m c (ix2 n v) : EReal)) (Fin.ext (by dsimp only; omega))
@[inherit_doc table0] theorem table3 (c : Dev nD) (n : Fin 4096) (e : Fin 128) (r : Fin 16) (h : e.val = 48 + r.val) : (V m c main_v13 : FVec Ideal S4096x128 .f32) (ix2 n e) = (cc m c (ix2 n r) : EReal) := by
  rw [prepT]
  pointwise []
  split_ifs <;> first | omega | exact congrArg (fun v => (cc m c (ix2 n v) : EReal)) (Fin.ext (by dsimp only; omega))
@[inherit_doc table0] theorem table4 (c : Dev nD) (n : Fin 4096) (e : Fin 128) (r : Fin 16) (h : e.val = 64 + r.val) : (V m c main_v13 : FVec Ideal S4096x128 .f32) (ix2 n e) = -(sr m c (ix2 n r) : EReal) := by
  rw [prepT]
  pointwise []
  split_ifs <;> first | omega | exact congrArg (fun v => -(sr m c (ix2 n v) : EReal)) (Fin.ext (by dsimp only; omega))
@[inherit_doc table0] theorem table5 (c : Dev nD) (n : Fin 4096) (e : Fin 128) (r : Fin 16) (h : e.val = 80 + r.val) : (V m c main_v13 : FVec Ideal S4096x128 .f32) (ix2 n e) = (sr m c (ix2 n r) : EReal) := by
  rw [prepT]
  pointwise []
  split_ifs <;> first | omega | exact congrArg (fun v => (sr m c (ix2 n v) : EReal)) (Fin.ext (by dsimp only; omega))
@[inherit_doc table0] theorem table6 (c : Dev nD) (n : Fin 4096) (e : Fin 128) (r : Fin 16) (h : e.val = 96 + r.val) : (V m c main_v13 : FVec Ideal S4096x128 .f32) (ix2 n e) = -(sc m c (ix2 n r) : EReal) := by
  rw [prepT]
  pointwise []
  split_ifs <;> first | omega | exact congrArg (fun v => -(sc m c (ix2 n v) : EReal)) (Fin.ext (by dsimp only; omega))
@[inherit_doc table0] theorem table7 (c : Dev nD) (n : Fin 4096) (e : Fin 128) (r : Fin 16) (h : e.val = 112 + r.val) : (V m c main_v13 : FVec Ideal S4096x128 .f32) (ix2 n e) = (sc m c (ix2 n r) : EReal) := by
  rw [prepT]
  pointwise []
  split_ifs <;> first | omega | exact congrArg (fun v => (sc m c (ix2 n v) : EReal)) (Fin.ext (by dsimp only; omega))

/-- The blocks a grid point reads and writes. -/
theorem idx : ∀ t : Fin cfg0.N, win0_0.index t = ![t.val / 8, t.val / 2 % 4, 0] ∧ win0_1.index t = ![0, 0, t.val % 2]
    ∧ win0_2.index t = ![t.val / 2 % 4, 0] ∧ win0_3.index t = ![t.val / 8, t.val % 2, t.val / 2 % 4, 0] ∧ t.val / 8 < 4 :=
  (by decide +kernel : ∀ t : Fin grid0.N, _)

/-- The activations a grid point reads. -/
theorem actB (c : Dev nD) (t : Fin cfg0.N) (hb : t.val / 8 < 4) (r : Fin 1024) (k : Fin 768) :
    (iblk m c 0 t) (ix3 0 r k) = act m c (ix3 ⟨t.val / 8, hb⟩ ⟨1024 * (t.val / 2 % 4) + r.val, by omega⟩ k) := by
  blk_point [iblk, V_main_arg0, idx t]

/-- The weights a grid point reads. -/
theorem wtB (c : Dev nD) (t : Fin cfg0.N) (k : Fin 768) (j : Fin 1536) :
    (iblk m c 1 t) (ix3 0 k j) = (V m c main_v14 : FVec Ideal S1x768x3072 .bf16) (ix3 0 k ⟨1536 * (t.val % 2) + j.val, by omega⟩) := by
  blk_point [iblk, idx t]

/-- The table a grid point reads. -/
theorem tabB (c : Dev nD) (t : Fin cfg0.N) (r : Fin 1024) (e : Fin 128) :
    (iblk m c 2 t) (ix2 r e) = (V m c main_v13 : FVec Ideal S4096x128 .f32) (ix2 ⟨1024 * (t.val / 2 % 4) + r.val, by omega⟩ e) := by
  blk_point [iblk, idx t]

/-- A tile's product at a grid point, among the weights' own columns. -/
theorem tile (c : Dev nD) (t : Fin cfg0.N) (hb : t.val / 8 < 4) (r : Fin 1024) (j : Fin 1536) (j' : Fin 2304) (h0 : j.val % 256 < 192)
    (h : (6 * (t.val % 2) + j.val / 256) * 192 + j.val % 256 = j'.val) :
    dotB (iblk m c 0 t) (iblk m c 1 t) r j = dotAt (act m c) (wt m c) ⟨t.val / 8, hb⟩ ⟨1024 * (t.val / 2 % 4) + r.val, by omega⟩ j' * S := by
  refine Eq.trans ?_ (sum_scale _ _).symm
  refine Finset.sum_congr rfl fun k _ => Eq.trans (congrArg₂ (· * ·) (actB m c t hb r k) ((wtB m c t k j).trans ((weights m c k _).trans ?_))) (mul_assoc _ _ S).symm
  rw [dif_pos (by dsimp only; omega)]
  exact congrArg (fun v => (wt m c (ix2 k v) : EReal) * S) (Fin.ext (by dsimp only; omega))

/-- A tile's product at a grid point, among the swapped rotary columns. -/
theorem tileS (c : Dev nD) (t : Fin cfg0.N) (hb : t.val / 8 < 4) (r : Fin 1024) (j : Fin 1536) (j' : Fin 2304) (h0 : 192 ≤ j.val % 256)
    (h : (6 * (t.val % 2) + j.val / 256) * 192 + (128 + ((j.val % 256 - 192) / 32 * 32 + (1 - (j.val % 256 - 192) / 16 % 2) * 16 + (j.val % 256 - 192) % 16)) = j'.val) :
    dotB (iblk m c 0 t) (iblk m c 1 t) r j = dotAt (act m c) (wt m c) ⟨t.val / 8, hb⟩ ⟨1024 * (t.val / 2 % 4) + r.val, by omega⟩ j' * S := by
  refine Eq.trans ?_ (sum_scale _ _).symm
  refine Finset.sum_congr rfl fun k _ => Eq.trans (congrArg₂ (· * ·) (actB m c t hb r k) ((wtB m c t k j).trans ((weights m c k _).trans ?_))) (mul_assoc _ _ S).symm
  rw [dif_neg (by dsimp only; omega)]
  exact congrArg (fun v => (wt m c (ix2 k v) : EReal) * S) (Fin.ext (by dsimp only; omega))

/-- A rotary column times its table entry plus the swapped column times its own is the rotated query. -/
theorem pair (c : Dev nD) (t : Fin cfg0.N) (hb : t.val / 8 < 4) (r : Fin 1024) (g : Fin 6) (f : Fin 64) (ja jb : Fin 1536) (ea eb : Fin 128)
    (hja : ja.val = g.val * 256 + 128 + f.val) (hjb : jb.val = g.val * 256 + 192 + f.val) (hea : ea.val = f.val) (heb : eb.val = 64 + f.val) :
    dotB (iblk m c 0 t) (iblk m c 1 t) r ja * (iblk m c 2 t) (ix2 r ea) + dotB (iblk m c 0 t) (iblk m c 1 t) r jb * (iblk m c 2 t) (ix2 r eb)
      = ROT (act m c) (wt m c) (cr m c) (sr m c) (cc m c) (sc m c) ⟨t.val / 8, hb⟩ ⟨6 * (t.val % 2) + g.val, by omega⟩ ⟨1024 * (t.val / 2 % 4) + r.val, by omega⟩ f * S := by
  unfold ROT
  by_cases p : f.val < 32
  · rw [dif_pos p]
    by_cases q : f.val < 16
    · rw [dif_pos q]
      refine (congrArg₂ (· + ·) (congrArg₂ (· * ·) (tile m c t hb r _ ⟨(6 * (t.val % 2) + g.val) * 192 + (128 + f.val), by omega⟩ (by omega) (by dsimp only; omega)) ((tabB m c t r _).trans (table0 m c _ _ ⟨f.val, by omega⟩ (by dsimp only; omega))))
        (congrArg₂ (· * ·) (tileS m c t hb r _ ⟨(6 * (t.val % 2) + g.val) * 192 + (128 + (16 + (f.val))), by omega⟩ (by omega) (by dsimp only; omega)) ((tabB m c t r _).trans (table4 m c _ _ ⟨f.val, by omega⟩ (by dsimp only; omega))))).trans ?_
      exact turn_sub _ _ _ _
    · rw [dif_neg q]
      refine (congrArg₂ (· + ·) (congrArg₂ (· * ·) (tile m c t hb r _ ⟨(6 * (t.val % 2) + g.val) * 192 + (128 + (16 + (f.val - 16))), by omega⟩ (by omega) (by dsimp only; omega)) ((tabB m c t r _).trans (table1 m c _ _ ⟨f.val - 16, by omega⟩ (by dsimp only; omega))))
        (congrArg₂ (· * ·) (tileS m c t hb r _ ⟨(6 * (t.val % 2) + g.val) * 192 + (128 + (f.val - 16)), by omega⟩ (by omega) (by dsimp only; omega)) ((tabB m c t r _).trans (table5 m c _ _ ⟨f.val - 16, by omega⟩ (by dsimp only; omega))))).trans ?_
      exact turn_add _ _ _ _
  · rw [dif_neg p]
    by_cases q : f.val - 32 < 16
    · rw [dif_pos q]
      refine (congrArg₂ (· + ·) (congrArg₂ (· * ·) (tile m c t hb r _ ⟨(6 * (t.val % 2) + g.val) * 192 + (128 + (32 + (f.val - 32))), by omega⟩ (by omega) (by dsimp only; omega)) ((tabB m c t r _).trans (table2 m c _ _ ⟨f.val - 32, by omega⟩ (by dsimp only; omega))))
        (congrArg₂ (· * ·) (tileS m c t hb r _ ⟨(6 * (t.val % 2) + g.val) * 192 + (128 + (32 + (16 + (f.val - 32)))), by omega⟩ (by omega) (by dsimp only; omega)) ((tabB m c t r _).trans (table6 m c _ _ ⟨f.val - 32, by omega⟩ (by dsimp only; omega))))).trans ?_
      exact turn_sub _ _ _ _
    · rw [dif_neg q]
      refine (congrArg₂ (· + ·) (congrArg₂ (· * ·) (tile m c t hb r _ ⟨(6 * (t.val % 2) + g.val) * 192 + (128 + (32 + (16 + (f.val - 32 - 16)))), by omega⟩ (by omega) (by dsimp only; omega)) ((tabB m c t r _).trans (table3 m c _ _ ⟨f.val - 32 - 16, by omega⟩ (by dsimp only; omega))))
        (congrArg₂ (· * ·) (tileS m c t hb r _ ⟨(6 * (t.val % 2) + g.val) * 192 + (128 + (32 + (f.val - 32 - 16))), by omega⟩ (by omega) (by dsimp only; omega)) ((tabB m c t r _).trans (table7 m c _ _ ⟨f.val - 32 - 16, by omega⟩ (by dsimp only; omega))))).trans ?_
      exact turn_add _ _ _ _

/-- What a grid point stores is the reference's. -/
theorem point (c : Dev nD) (t : Fin cfg0.N) (y : S1x6x1024x256.Idx) :
    out0_3 (iblk m c 0 t) (iblk m c 1 t) (iblk m c 2 t) y = REF (act m c) (wt m c) (cr m c) (sr m c) (cc m c) (sc m c) (((cfg0.win 3).blk t).view.emb y) := by
  have h1 : (y 1).val < 6 := (y 1).isLt
  have h2 : (y 2).val < 1024 := (y 2).isLt
  have h3 : (y 3).val < 256 := (y 3).isLt
  have hb : t.val / 8 < 4 := (idx t).2.2.2.2
  have e : ((cfg0.win 3).blk t).view.emb y = (ix4 ⟨t.val / 8, hb⟩ ⟨6 * (t.val % 2) + (y 1).val, by omega⟩ ⟨1024 * (t.val / 2 % 4) + (y 2).val, by omega⟩ ⟨(y 3).val, h3⟩ : S4x12x4096x256.Idx) := by
    blk_ext [idx t]
  rw [e, ref_apply, block _ _ _ y h1 h3]
  by_cases p : (y 3).val < 128
  · rw [dif_pos p, dif_pos p]
    exact tile m c t hb (y 2) _ _ (by dsimp only; omega) (by dsimp only; omega)
  · rw [dif_neg p, dif_neg p]
    by_cases q : (y 3).val - 128 < 64
    · rw [dif_pos q]
      exact pair m c t hb (y 2) ⟨(y 1).val, h1⟩ ⟨(y 3).val - 128, q⟩ _ _ _ _ (by dsimp only; omega) (by dsimp only; omega) rfl (by dsimp only; omega)
    · rw [dif_neg q]
      refine (add_comm _ _).trans ?_
      exact pair m c t hb (y 2) ⟨(y 1).val, h1⟩ ⟨(y 3).val - 128 - 64, by omega⟩ _ _ _ _ (by dsimp only; omega) (by dsimp only; omega) (by dsimp only; omega) (by dsimp only; omega)

/-- The result array after the run is the reference's. -/
theorem final (c : Dev nD) : (dats m 0 c).arrAt 3 cfg0.N = REF (act m c) (wt m c) (cr m c) (sr m c) (cc m c) (sc m c) := by
  refine (dats m 0 c).arrAt_eq_of_covers 3 _ (by decide +kernel) fun t _ y => ?_
  blk_simp
  rw [after0_3]
  exact point m c t y

end Cert.Kernel10Ideal.UpQ
end
-- ==== Proof.UpQ.Claim.lean ====
/- The latent attention's queries: kernel and reference end with the same result. -/
module
public import proofs.«01_k».proof.Defs
public import proofs.«01_k».proof.Proof.UpQ.Value
public import proofs.«01_k».proof.Proof.Gen.Reference10Ideal.Run
@[expose] public section
noncomputable section
open Idealize.ShloMosaic Idealize.ShloMosaic.TcCoe Idealize.SL.Sem
namespace Cert.Kernel10Ideal.UpQ
open Cert.Kernel10Ideal

/-- Kernel and reference end with the same result. -/
theorem agree : haveI := Cert.Kernel10Ideal.Gen.facts; haveI := Cert.Reference10Ideal.Gen.facts
    Cert.algebraic_Kernel10Ideal_Reference10Ideal := by
  intro m g m' g' hpre hag
  refine ⟨fun c => REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine (θ_run _ _ _).mono (fun r h c => ?_) (Cert.Kernel10Ideal.Value.run_blocks m g)
    obtain ⟨hv, ha⟩ := h c
    exact ⟨hv.trans (final m c), ha⟩
  · refine (θ_run _ _ _).mono (fun r h c => ?_) (Cert.Reference10Ideal.Value.run m' g')
    obtain ⟨hv, ha⟩ := h c
    refine ⟨hv.trans ?_, ha⟩
    obtain ⟨e0, e1, e2, e3, e4, e5⟩ := hag c
    rw [Cert.Reference10Ideal.Read.val_main_v46_eq, e0, e1, e2, e3, e4, e5]

/-- The reference ends with its arguments unchanged and every counter zero. -/
theorem ref_frame : haveI := Cert.Reference10Ideal.Gen.facts; Cert.quiescent_Reference10Ideal := fun m g _ =>
  haveI := Cert.Reference10Ideal.Gen.facts
  (θ_run Cert.Reference10Ideal.defs _ _).mono
    (fun r h => And.intro (fun c => (h c).2) (sem_eq_zero_of_no_sems (by decide) r.2)) (Cert.Reference10Ideal.Value.run m g)

end Cert.Kernel10Ideal.UpQ
end
-- ==== Proof.UpCtx.Value.lean ====
/- The first feed-forward products for the context tokens: what the result array holds. -/
module
public import proofs.«01_k».proof.Proof.Gen.Kernel11Ideal.Value
public import proofs.«01_k».proof.Proof.Gen.Reference11Ideal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem Idealize.ShloMosaic.Tactic
open Idealize.ShloMosaic.Pipeline (Dat)
namespace Cert.Kernel11Ideal.UpCtx
open Cert.Kernel11Ideal Cert.Kernel11Ideal.Gen Cert.Reference11Ideal.Read
variable (m : (ℓ : Loc nD τ sig) → Buf (Elt Ideal) ℓ)

/-- The reference's result, over the call's three arrays. -/
abbrev REF (A : FVec Ideal S1x1024x2048 .bf16) (G U : FVec Ideal S2x2048x5632 .f32) : FVec Ideal S1x1024x5632 .bf16 :=
  val_main_v9 (F := Ideal) A G U

/-- Where each window's block lies at a grid point. -/
theorem idx : ∀ t : Fin cfg0.N, win0_0.index t = ![0, 0, 0] ∧ win0_1.index t = ![0, 0, t.val]
    ∧ win0_2.index t = ![0, 0, t.val] ∧ win0_3.index t = ![0, 0, t.val] ∧ t.val < 11 :=
  (by decide +kernel : ∀ t : Fin grid0.N, _)

/-- What a point stores: every point is the first of its run, and so fills both scratches itself. -/
theorem out (c : Dev nD) (t : Fin cfg0.N) :
    outsAt0 m c t = k0_pay3 (iblk m c 0 t) (k0_pay1 (iblk m c 1 t)) (k0_pay2 (iblk m c 2 t)) := by
  unfold outsAt0
  frame_out

/-- What a point stores at an index of its block is the reference's value there. -/
theorem point (c : Dev nD) (t : Fin cfg0.N) (y : S1x1024x512.Idx) :
    k0_pay3 (iblk m c 0 t) (k0_pay1 (iblk m c 1 t)) (k0_pay2 (iblk m c 2 t)) y
      = REF (m ((c : Thread nD τ).loc main_arg0)) (m ((c : Thread nD τ).loc main_arg1)) (m ((c : Thread nD τ).loc main_arg2))
          (((cfg0.win 3).blk t).view.emb y) := by
  pointwise [k0_pay3, k0_pay1, k0_pay2, REF, val_main_v9, val_main_v8, val_main_v7, val_main_v6, val_main_v5, val_main_v4, val_main_v3,
    val_main_v2, val_main_v1, val_main_v0, val_main_call0_v5, val_main_call0_v4, val_main_call0_v3, val_main_call0_v2,
    val_main_call0_v1, val_main_call0_v0, val_main_call0_cst, val_main_call0_cst_0]
  simp only [zero_sub]
  blk_point [iblk, V, idx t]

/-- The result array after the run is the reference's. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out]
  exact point m c t y

end Cert.Kernel11Ideal.UpCtx
end
-- ==== Proof.UpCtx.Claim.lean ====
/- The first feed-forward products for the context tokens: kernel and reference end with the same result. -/
module
public import proofs.«01_k».proof.Defs
public import proofs.«01_k».proof.Proof.UpCtx.Value
public import proofs.«01_k».proof.Proof.Gen.Reference11Ideal.Run
@[expose] public section
noncomputable section
open Idealize.ShloMosaic Idealize.ShloMosaic.TcCoe Idealize.SL.Sem
namespace Cert.Kernel11Ideal.UpCtx
open Cert.Kernel11Ideal

/-- Kernel and reference end with the same result. -/
theorem agree : haveI := Cert.Kernel11Ideal.Gen.facts; haveI := Cert.Reference11Ideal.Gen.facts
    Cert.algebraic_Kernel11Ideal_Reference11Ideal := by
  intro m g m' g' hpre hag
  refine ⟨fun c => REF (m ((c : Thread nD τ).loc main_arg0)) (m ((c : Thread nD τ).loc main_arg1)) (m ((c : Thread nD τ).loc main_arg2)), ?_, ?_⟩
  · refine (θ_run _ _ _).mono (fun r h c => ?_) (Cert.Kernel11Ideal.Value.run_blocks m g)
    obtain ⟨hv, ha⟩ := h c
    exact ⟨hv.trans (final m c), ha⟩
  · refine (θ_run _ _ _).mono (fun r h c => ?_) (Cert.Reference11Ideal.Value.run m' g')
    obtain ⟨hv, ha⟩ := h c
    refine ⟨hv.trans ?_, ha⟩
    obtain ⟨e0, e1, e2⟩ := hag c
    rw [Cert.Reference11Ideal.Read.val_main_v9_eq, e0, e1, e2]

/-- The reference ends with its arguments unchanged and every counter zero. -/
theorem ref_frame : haveI := Cert.Reference11Ideal.Gen.facts; Cert.quiescent_Reference11Ideal := fun m g _ =>
  haveI := Cert.Reference11Ideal.Gen.facts
  (θ_run Cert.Reference11Ideal.defs _ _).mono
    (fun r h => And.intro (fun c => (h c).2) (sem_eq_zero_of_no_sems (by decide) r.2)) (Cert.Reference11Ideal.Value.run m g)

end Cert.Kernel11Ideal.UpCtx
end
-- ==== Proof.DownCtx.Value.lean ====
/- The second feed-forward product for the context tokens: what a block holds, and what the result array holds. -/
module
public import proofs.«01_k».proof.Proof.Gen.Kernel12Ideal.Value
public import proofs.«01_k».proof.Proof.Gen.Reference12Ideal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel12Ideal.DownCtx
open Cert.Kernel12Ideal Cert.Kernel12Ideal.Gen Cert.Reference12Ideal.Read
variable (m : (ℓ : Loc nD τ sig) → Buf (Elt Ideal) ℓ)

/-- The reference's result, over the call's four arrays. -/
abbrev REF (A : FVec Ideal S1x1024x5632 .bf16) (W : FVec Ideal S2x5632x2048 .f32) (X : FVec Ideal S1x1024x2048 .f32)
    (G : FVec Ideal S1x1x2048 .f32) : FVec Ideal S1x1024x2048 .f32 := val_main_v6 (F := Ideal) A W X G

/-- Where each window's block lies at a grid point. -/
theorem idx : ∀ t : Fin cfg0.N, win0_0.index t = ![0, 0, 0] ∧ win0_1.index t = ![0, 0, t.val]
    ∧ win0_2.index t = ![0, 0, t.val] ∧ win0_3.index t = ![0, 0, t.val]
    ∧ win0_4.index t = ![0, 0, t.val] ∧ t.val < 4 :=
  (by decide +kernel : ∀ t : Fin grid0.N, _)

/-- What the body stores at an index of a point's block is the reference's value there. -/
theorem point (c : Dev nD) (t : Fin cfg0.N) (y : S1x1024x512.Idx) :
    k0_pay1 (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, REF, val_main_v6, val_main_v5, val_main_v4, val_main_v3, val_main_v2, val_main_v1, val_main_v0]
  blk_point [iblk, V, idx t]

/-- The result array after the run is the reference's. -/
theorem final (c : Dev nD) : (dats m 0 c).arrAt 4 cfg0.N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  exact point m c t y

end Cert.Kernel12Ideal.DownCtx
end
-- ==== Proof.DownCtx.Claim.lean ====
/- The second feed-forward product for the context tokens: kernel and reference end with the same result. -/
module
public import proofs.«01_k».proof.Defs
public import proofs.«01_k».proof.Proof.DownCtx.Value
public import proofs.«01_k».proof.Proof.Gen.Reference12Ideal.Run
@[expose] public section
noncomputable section
open Idealize.ShloMosaic Idealize.ShloMosaic.TcCoe Idealize.SL.Sem
namespace Cert.Kernel12Ideal.DownCtx
open Cert.Kernel12Ideal

/-- Kernel and reference end with the same result. -/
theorem agree : haveI := Cert.Kernel12Ideal.Gen.facts; haveI := Cert.Reference12Ideal.Gen.facts
    Cert.algebraic_Kernel12Ideal_Reference12Ideal := by
  intro m g m' g' hpre hag
  refine ⟨fun c => REF (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.Kernel12Ideal.Value.run_blocks m g)
    obtain ⟨hv, ha⟩ := h c
    exact ⟨hv.trans (final m c), ha⟩
  · refine (θ_run _ _ _).mono (fun r h c => ?_) (Cert.Reference12Ideal.Value.run m' g')
    obtain ⟨hv, ha⟩ := h c
    refine ⟨hv.trans ?_, ha⟩
    obtain ⟨e0, e1, e2, e3⟩ := hag c
    rw [Cert.Reference12Ideal.Read.val_main_v6_eq, e0, e1, e2, e3]

/-- The reference ends with its arguments unchanged and every counter zero. -/
theorem ref_frame : haveI := Cert.Reference12Ideal.Gen.facts; Cert.quiescent_Reference12Ideal := fun m g _ =>
  haveI := Cert.Reference12Ideal.Gen.facts
  (θ_run Cert.Reference12Ideal.defs _ _).mono
    (fun r h => And.intro (fun c => (h c).2) (sem_eq_zero_of_no_sems (by decide) r.2)) (Cert.Reference12Ideal.Value.run m g)

end Cert.Kernel12Ideal.DownCtx
end
-- ==== Proof.OutProjCtx.Value.lean ====
/- The output projection for the context tokens: a product over 2048 columns taken as four products over 512, and what the result array holds. -/
module
public import proofs.«01_k».proof.Proof.Gen.Kernel13Ideal.Value
public import proofs.«01_k».proof.Proof.Gen.Reference13Ideal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel13Ideal.OutProjCtx
open Cert.Kernel13Ideal Cert.Kernel13Ideal.Gen Cert.Reference13Ideal.Read
variable (m : (ℓ : Loc nD τ sig) → Buf (Elt Ideal) ℓ)

/-- A sum over 1536 terms is the sum of its three thirds. -/
theorem sum_thirds (f : Fin 1536 → EReal) : ∑ k, f k
    = ∑ k : Fin 512, f ⟨k.val, by omega⟩ + ∑ k : Fin 512, f ⟨512 + k.val, by omega⟩ + ∑ k : Fin 512, f ⟨1024 + k.val, by omega⟩ := by
  refine (Fin.sum_univ_add (a := 1024) (b := 512) f).trans (congrArg₂ (· + ·) ?_ rfl)
  exact Fin.sum_univ_add (a := 512) (b := 512) _

/-- The four products in the kernel's grouping are the two of the reference. -/
theorem regroup (x g a : EReal) (f : Fin 1536 → EReal) :
    x + g * (a + ∑ k : Fin 512, f ⟨k.val, by omega⟩ + ∑ k : Fin 512, f ⟨512 + k.val, by omega⟩ + ∑ k : Fin 512, f ⟨1024 + k.val, by omega⟩)
      = x + g * (a + ∑ k, f k) := by
  rw [sum_thirds, add_assoc, add_assoc, ← add_assoc (∑ k : Fin 512, f ⟨k.val, _⟩)]

/-- The reference's result, over the call's five arrays. -/
abbrev REF (A : FVec Ideal S1x1024x512 .bf16) (B : FVec Ideal S1x1024x1536 .bf16) (W : FVec Ideal S1x2048x2048 .f32)
    (X : FVec Ideal S1x1024x2048 .f32) (G : FVec Ideal S1x1x2048 .f32) : FVec Ideal S1x1024x2048 .f32 :=
  val_main_v7 (F := Ideal) A B W X G

/-- Where each window's block lies at a grid point. -/
theorem idx : ∀ t : Fin cfg0.N, win0_0.index t = ![0, 0, 0] ∧ win0_1.index t = ![0, 0, 0]
    ∧ win0_2.index t = ![0, 0, 1] ∧ win0_3.index t = ![0, 0, 2]
    ∧ win0_4.index t = ![0, 0, t.val] ∧ win0_5.index t = ![0, 1, t.val] ∧ win0_6.index t = ![0, 2, t.val] ∧ win0_7.index t = ![0, 3, t.val]
    ∧ win0_8.index t = ![0, 0, t.val] ∧ win0_9.index t = ![0, 0, t.val]
    ∧ win0_10.index t = ![0, 0, t.val] ∧ t.val < 4 :=
  (by decide +kernel : ∀ t : Fin grid0.N, _)

/-- What a point stores at an index of its block is the reference's value there. -/
theorem point (c : Dev nD) (t : Fin cfg0.N) (y : S1x1024x512.Idx) :
    out0_10 (iblk m c 0 t) (iblk m c 1 t) (iblk m c 2 t) (iblk m c 3 t) (iblk m c 4 t) (iblk m c 5 t) (iblk m c 6 t) (iblk m c 7 t)
      (iblk m c 8 t) (iblk m c 9 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 10).blk t).view.emb y) := by
  frame_out
  pointwise [k0_pay1, k0_pay2, k0_pay3, REF, val_main_v7, val_main_v6, val_main_v5, val_main_v4, val_main_v3, val_main_v2, val_main_v1, val_main_v0]
  refine Eq.trans ?_ (regroup _ _ _ _)
  beta_reduce
  blk_point [iblk, V, idx t]

/-- The result array after the run is the reference's. -/
theorem final (c : Dev nD) : (dats m 0 c).arrAt 10 cfg0.N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 10 _ (by decide +kernel) fun t _ y => ?_
  blk_simp
  rw [after0_10]
  exact point m c t y

end Cert.Kernel13Ideal.OutProjCtx
end
-- ==== Proof.OutProjCtx.Claim.lean ====
/- The output projection for the context tokens: kernel and reference end with the same result. -/
module
public import proofs.«01_k».proof.Defs
public import proofs.«01_k».proof.Proof.OutProjCtx.Value
public import proofs.«01_k».proof.Proof.Gen.Reference13Ideal.Run
@[expose] public section
noncomputable section
open Idealize.ShloMosaic Idealize.ShloMosaic.TcCoe Idealize.SL.Sem
namespace Cert.Kernel13Ideal.OutProjCtx
open Cert.Kernel13Ideal

/-- Kernel and reference end with the same result. -/
theorem agree : haveI := Cert.Kernel13Ideal.Gen.facts; haveI := Cert.Reference13Ideal.Gen.facts
    Cert.algebraic_Kernel13Ideal_Reference13Ideal := by
  intro m g m' g' hpre hag
  refine ⟨fun c => REF (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run _ _ _).mono (fun r h c => ?_) (Cert.Kernel13Ideal.Value.run_blocks m g)
    obtain ⟨hv, ha⟩ := h c
    exact ⟨hv.trans (final m c), ha⟩
  · refine (θ_run _ _ _).mono (fun r h c => ?_) (Cert.Reference13Ideal.Value.run m' g')
    obtain ⟨hv, ha⟩ := h c
    refine ⟨hv.trans ?_, ha⟩
    obtain ⟨e0, e1, e2, e3, e4⟩ := hag c
    rw [Cert.Reference13Ideal.Read.val_main_v7_eq, e0, e1, e2, e3, e4]

/-- The reference ends with its arguments unchanged and every counter zero. -/
theorem ref_frame : haveI := Cert.Reference13Ideal.Gen.facts; Cert.quiescent_Reference13Ideal := fun m g _ =>
  haveI := Cert.Reference13Ideal.Gen.facts
  (θ_run Cert.Reference13Ideal.defs _ _).mono
    (fun r h => And.intro (fun c => (h c).2) (sem_eq_zero_of_no_sems (by decide) r.2)) (Cert.Reference13Ideal.Value.run m g)

end Cert.Kernel13Ideal.OutProjCtx
end
-- ==== Proof.QkvCtx.Value.lean ====
/- The query, key and value columns of the even layers' input projection for the context tokens: what the result array holds. -/
module
public import proofs.«01_k».proof.Proof.Gen.Kernel14Ideal.Value
public import proofs.«01_k».proof.Proof.Gen.Reference14Ideal.Read
public import Idealize.ShloMosaic.Lib.Pipeline.ValueKit
public import Idealize.ShloMosaic.Lib.Claim
public import Idealize.ShloMosaic.Lib.IdealHost
@[expose] public section
set_option maxRecDepth 16384
noncomputable section
open Idealize.ShloMosaic Idealize.ShloMosaic.TcCoe Idealize.SL.Sem
open Idealize.ShloMosaic.Pipeline (Dat)
namespace Cert.Kernel14Ideal.QkvCtx
open Cert.Kernel14Ideal Cert.Kernel14Ideal.Gen Cert.Kernel14Ideal.Value Cert.Reference14Ideal.Read
variable (m : (ℓ : Loc nD τ sig) → Buf (Elt Ideal) ℓ)

/-- The column scale is one outside the query columns. -/
theorem lit_one : ∀ i : Fin 5120, (i.val < 512 ∨ 2048 ≤ i.val) → lit0 i = 0x3F800000#32 :=
  (by decide +kernel)

/-- In the query columns the column scale is one constant. -/
theorem lit_scale : ∀ i : Fin 5120, (512 ≤ i.val ∧ i.val < 2048) → lit0 i = 0x3E0293EE#32 :=
  (by decide +kernel)

/-- The constant of the query columns is a nonnegative real. -/
theorem scale_real : ∃ r : ℝ, 0 ≤ r ∧ Ideal.ofBits .f32 0x3E0293EE#32 = (r : EReal) := by
  refine ⟨8557550 / 2 ^ 26, by positivity, ?_⟩
  simp [Ideal.ofBits, Ideal.ieee]
  rw [show (8557550 / 2 ^ 26 : ℝ) = (8557550 : ℝ) * (1 / 67108864 : ℝ) by norm_num, EReal.coe_mul]
  norm_num

/-- A nonnegative real factor goes under a sum. -/
theorem sum_scale {ι : Type} (s : Finset ι) (f : ι → EReal) (r : ℝ) (h : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr h) (EReal.coe_ne_top r) _ _

/-- The call's array of weights, before scaling. -/
abbrev wt (c : Dev nD) : FVec Ideal S1x2048x5120 .f32 := m ((c : Thread nD τ).loc main_arg1)

/-- The call's array of activations. -/
abbrev act (c : Dev nD) : FVec Ideal S1x1024x2048 .bf16 := m ((c : Thread nD τ).loc main_arg0)

/-- The prepared weights, scaled. -/
abbrev pw (c : Dev nD) : FVec Ideal S1x2048x5120 .bf16 := V m c main_v3

/-- The prepared weights: each weight times its column's scale. -/
theorem weights (c : Dev nD) (i : S1x2048x5120.Idx) : pw m c i
    = (wt m c i * (FloatOps.ofBits (F := Ideal) .f32 (lit0 (i 2)) : EReal) : EReal) := by
  have e : pw m c i = FloatOps.mulf (F := Ideal) (wt m c i)
      (FloatOps.ofBits (F := Ideal) .f32 (lit0 (S5120.rowMajor (ix1 (i 2))))) := rfl
  rw [e]
  have r : S5120.rowMajor (ix1 (i 2)) = i 2 := Fin.ext (Shape.rowMajor_val_one _)
  rw [r]
  rfl

/-- Outside the query columns the prepared weight is the weight. -/
theorem weights_one (c : Dev nD) (i : S1x2048x5120.Idx) (h : (i 2).val < 512 ∨ 2048 ≤ (i 2).val) :
    pw m c i = wt m c i := by
  rw [weights, lit_one (i 2) h]
  show wt m c i * Ideal.ofBits .f32 0x3F800000#32 = _
  rw [Ideal.ofBits_one_f32, mul_one]

/-- In the query columns the prepared weight is the weight times the constant. -/
theorem weights_scale (c : Dev nD) (i : S1x2048x5120.Idx) (h : 512 ≤ (i 2).val ∧ (i 2).val < 2048) :
    pw m c i = wt m c i * Ideal.ofBits .f32 0x3E0293EE#32 := by
  rw [weights, lit_scale (i 2) h]
  rfl

/-- The reference's result, over the call's two arrays. -/
abbrev REF (A : FVec Ideal S1x1024x2048 .bf16) (W : FVec Ideal S1x2048x5120 .f32) : FVec Ideal S1x36x1024x128 .bf16 :=
  val_main_v16 (F := Ideal) A W

/-- The projection's product at a row and a column. -/
abbrev dotAt (A : FVec Ideal S1x1024x2048 .bf16) (W : FVec Ideal S1x2048x5120 .f32) (b : Fin 1) (n : Fin 1024) (j : Fin 5120) : EReal :=
  ∑ k : Fin 2048, (A (ix3 b n k) : EReal) * (W (ix3 0 k j) : EReal)

/-- The reference's result at a key or value head. -/
theorem ref_plain (A : FVec Ideal S1x1024x2048 .bf16) (W : FVec Ideal S1x2048x5120 .f32) (b : Fin 1) (g : Fin 36) (n : Fin 1024) (e : Fin 128)
    (h : 12 ≤ g.val) : REF A W (ix4 b g n e) = dotAt A W b n ⟨512 + g.val * 128 + e.val, by omega⟩ := by
  obtain rfl : b = 0 := Subsingleton.elim _ _
  pointwise [REF, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rw [dif_neg (by omega)]
  split
  · exact Finset.sum_congr rfl fun k _ => congrArg₂ (· * ·) rfl (congrArg W (congrArg (ix3 0 k) (Fin.ext (by show 512 + (1536 + ((g.val - 12) * 128 + e.val)) = 512 + g.val * 128 + e.val; omega))))
  · exact Finset.sum_congr rfl fun k _ => congrArg₂ (· * ·) rfl (congrArg W (congrArg (ix3 0 k) (Fin.ext (by show 512 + (3072 + ((g.val - 12 - 12) * 128 + e.val)) = 512 + g.val * 128 + e.val; omega))))

/-- The reference's result at a query head. -/
theorem ref_scaled (A : FVec Ideal S1x1024x2048 .bf16) (W : FVec Ideal S1x2048x5120 .f32) (b : Fin 1) (g : Fin 36) (n : Fin 1024) (e : Fin 128)
    (h : g.val < 12) : REF A W (ix4 b g n e) = dotAt A W b n ⟨512 + g.val * 128 + e.val, by omega⟩ * Ideal.ofBits .f32 0x3E0293EE#32 := by
  obtain rfl : b = 0 := Subsingleton.elim _ _
  pointwise [REF, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rw [dif_pos h]
  refine congrArg (· * _) (Finset.sum_congr rfl fun k _ => congrArg₂ (· * ·) rfl (congrArg W (congrArg (ix3 0 k) (Fin.ext ?_))))
  show 512 + (g.val * 128 + e.val) = 512 + g.val * 128 + e.val
  omega

/-- Where each window's block lies at a grid point. -/
theorem idx : ∀ t : Fin cfg0.N, win0_0.index t = ![0, 0, 0] ∧ win0_1.index t = ![0, 0, 1 + t.val]
    ∧ win0_2.index t = ![0, t.val, 0, 0] ∧ t.val < 9 :=
  (by decide +kernel : ∀ t : Fin grid0.N, _)

/-- What a point stores at an index of its block is the reference's value there. -/
theorem point (c : Dev nD) (t : Fin cfg0.N) (y : S1x4x1024x128.Idx) :
    out0_2 (iblk m c 0 t) (iblk m c 1 t) y
      = REF (m ((c : Thread nD τ).loc main_arg0)) (m ((c : Thread nD τ).loc main_arg1)) (((cfg0.win 2).blk t).view.emb y) := by
  have h1 : (y 1).val < 4 := (y 1).isLt
  have h2 : (y 2).val < 1024 := (y 2).isLt
  have h3 : (y 3).val < 128 := (y 3).isLt
  have hb : t.val < 9 := (idx t).2.2.2
  have key : ∀ x : Fin 2048, (win0_1.blk t).view.emb (ix3 0 x ⟨(y 1).val * 128 + (y 3).val, by omega⟩)
      = (ix3 0 x ⟨512 + (4 * t.val + (y 1).val) * 128 + (y 3).val, by omega⟩ : S1x2048x5120.Idx) := by
    intro x
    blk_ext [idx t]
  have e : ((cfg0.win 2).blk t).view.emb y = (ix4 0 ⟨4 * t.val + (y 1).val, by omega⟩ ⟨(y 2).val, h2⟩ ⟨(y 3).val, by omega⟩ : S1x36x1024x128.Idx) := by
    blk_ext [idx t]
  have main : out0_2 (iblk m c 0 t) (iblk m c 1 t) y
      = ∑ k : Fin 2048, (act m c (ix3 0 ⟨(y 2).val, h2⟩ k) : EReal)
        * (pw m c (ix3 0 k ⟨512 + (4 * t.val + (y 1).val) * 128 + (y 3).val, by omega⟩) : EReal) := by
    refine (canon2_eq _ _ y).trans ?_
    pointwise [k0_pay1]
    simp only [← key]
    blk_point [iblk, idx t]
  rw [main, e]
  by_cases hq : 4 * t.val + (y 1).val < 12
  · refine Eq.trans ?_ (ref_scaled _ _ _ _ _ _ hq).symm
    obtain ⟨r, hr, er⟩ := scale_real
    rw [er, sum_scale _ _ r hr]
    refine Finset.sum_congr rfl fun k _ => ?_
    rw [weights_scale m c (ix3 0 k ⟨512 + (4 * t.val + (y 1).val) * 128 + (y 3).val, by omega⟩) ⟨by show 512 ≤ 512 + (4 * t.val + (y 1).val) * 128 + (y 3).val; omega, by show 512 + (4 * t.val + (y 1).val) * 128 + (y 3).val < 2048; omega⟩, er, mul_assoc]
  · refine Eq.trans ?_ (ref_plain _ _ _ _ _ _ (by show 12 ≤ 4 * t.val + (y 1).val; omega)).symm
    refine Finset.sum_congr rfl fun k _ => ?_
    rw [weights_one m c (ix3 0 k ⟨512 + (4 * t.val + (y 1).val) * 128 + (y 3).val, by omega⟩) (Or.inr (by show 2048 ≤ 512 + (4 * t.val + (y 1).val) * 128 + (y 3).val; omega))]

/-- The result array after the run is the reference's. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel14Ideal.QkvCtx
end
-- ==== Proof.QkvCtx.Claim.lean ====
/- The query, key and value columns of the even layers' input projection for the context tokens: kernel and reference end with the same result. -/
module
public import proofs.«01_k».proof.Defs
public import proofs.«01_k».proof.Proof.QkvCtx.Value
public import proofs.«01_k».proof.Proof.Gen.Reference14Ideal.Run
@[expose] public section
noncomputable section
open Idealize.ShloMosaic Idealize.ShloMosaic.TcCoe Idealize.SL.Sem
namespace Cert.Kernel14Ideal.QkvCtx
open Cert.Kernel14Ideal

/-- Kernel and reference end with the same result. -/
theorem agree : haveI := Cert.Kernel14Ideal.Gen.facts; haveI := Cert.Reference14Ideal.Gen.facts
    Cert.algebraic_Kernel14Ideal_Reference14Ideal := by
  intro m g m' g' hpre hag
  refine ⟨fun c => REF (m ((c : Thread nD τ).loc main_arg0)) (m ((c : Thread nD τ).loc main_arg1)), ?_, ?_⟩
  · refine (θ_run _ _ _).mono (fun r h c => ?_) (Cert.Kernel14Ideal.Value.run_blocks m g)
    obtain ⟨hv, ha⟩ := h c
    exact ⟨hv.trans (final m c), ha⟩
  · refine (θ_run _ _ _).mono (fun r h c => ?_) (Cert.Reference14Ideal.Value.run m' g')
    obtain ⟨hv, ha⟩ := h c
    refine ⟨hv.trans ?_, ha⟩
    obtain ⟨e0, e1⟩ := hag c
    rw [Cert.Reference14Ideal.Read.val_main_v16_eq, e0, e1]

/-- The reference ends with its arguments unchanged and every counter zero. -/
theorem ref_frame : haveI := Cert.Reference14Ideal.Gen.facts; Cert.quiescent_Reference14Ideal := fun m g _ =>
  haveI := Cert.Reference14Ideal.Gen.facts
  (θ_run Cert.Reference14Ideal.defs _ _).mono
    (fun r h => And.intro (fun c => (h c).2) (sem_eq_zero_of_no_sems (by decide) r.2)) (Cert.Reference14Ideal.Value.run m g)

end Cert.Kernel14Ideal.QkvCtx
end
-- ==== Proof.lean ====
/- The claims of the attention, of the feed-forward products and of the projections, put together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Att.Claim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Up.Claim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Down.Claim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.OutProj.Claim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Fourier.Claim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.Qkv.Claim
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Norm.Launch
public import proofs.«01_k».proof.Proof.Norm.LaunchIdeal
public import proofs.«01_k».proof.Proof.Norm.Claim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import proofs.«01_k».proof.Proof.UpKv.Claim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9Ideal.Value
public import proofs.«01_k».proof.Proof.OddIn.Claim
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10Ideal.Value
public import proofs.«01_k».proof.Proof.UpQ.Claim
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel11Ideal.Value
public import proofs.«01_k».proof.Proof.UpCtx.Claim
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel12Ideal.Value
public import proofs.«01_k».proof.Proof.DownCtx.Claim
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel13Ideal.Value
public import proofs.«01_k».proof.Proof.OutProjCtx.Claim
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel14Ideal.Value
public import proofs.«01_k».proof.Proof.QkvCtx.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Att.preFacts,
  fun m g _ => Cert.Kernel.Gen.frame m g,
  fun m g _ => Cert.KernelIdeal.Gen.frame m g,
  fun m g _ => Cert.KernelIdeal.Gen.frame m g,
  Cert.KernelIdeal.Att.ref_frame,
  fun m g _ => Cert.KernelIdeal.Att.ref_frame m g trivial,
  fun m g _ => Cert.Kernel2.Gen.frame m g,
  fun m g _ => Cert.Kernel2Ideal.Gen.frame m g,
  Cert.Kernel2Ideal.Up.ref_frame,
  fun m g _ => Cert.Kernel3.Gen.frame m g,
  fun m g _ => Cert.Kernel3Ideal.Gen.frame m g,
  Cert.Kernel3Ideal.Down.ref_frame,
  fun m g _ => Cert.Kernel4.Gen.frame m g,
  fun m g _ => Cert.Kernel4Ideal.Gen.frame m g,
  Cert.Kernel4Ideal.OutProj.ref_frame,
  fun m g _ => Cert.Kernel5.Gen.frame m g,
  fun m g _ => Cert.Kernel5Ideal.Gen.frame m g,
  Cert.Kernel5Ideal.Fourier.ref_frame,
  fun m g _ => Cert.Kernel6.Gen.frame m g,
  fun m g _ => Cert.Kernel6Ideal.Gen.frame m g,
  Cert.Kernel6Ideal.Qkv.ref_frame,
  fun m g _ => Cert.Kernel7.Norm.frame m g,
  fun m g _ => Cert.Kernel7Ideal.Norm.frame m g,
  Cert.Kernel7Ideal.Norm.ref_frame,
  fun m g _ => Cert.Kernel8.Gen.frame m g,
  fun m g _ => Cert.Kernel8Ideal.Gen.frame m g,
  Cert.Kernel8Ideal.UpKv.ref_frame,
  fun m g _ => Cert.Kernel9.Gen.frame m g,
  fun m g _ => Cert.Kernel9Ideal.Gen.frame m g,
  Cert.Kernel9Ideal.OddIn.ref_frame,
  fun m g _ => Cert.Kernel10.Gen.frame m g,
  fun m g _ => Cert.Kernel10Ideal.Gen.frame m g,
  Cert.Kernel10Ideal.UpQ.ref_frame,
  fun m g _ => Cert.Kernel11.Gen.frame m g,
  fun m g _ => Cert.Kernel11Ideal.Gen.frame m g,
  Cert.Kernel11Ideal.UpCtx.ref_frame,
  fun m g _ => Cert.Kernel12.Gen.frame m g,
  fun m g _ => Cert.Kernel12Ideal.Gen.frame m g,
  Cert.Kernel12Ideal.DownCtx.ref_frame,
  fun m g _ => Cert.Kernel13.Gen.frame m g,
  fun m g _ => Cert.Kernel13Ideal.Gen.frame m g,
  Cert.Kernel13Ideal.OutProjCtx.ref_frame,
  fun m g _ => Cert.Kernel14.Gen.frame m g,
  fun m g _ => Cert.Kernel14Ideal.Gen.frame m g,
  Cert.Kernel14Ideal.QkvCtx.ref_frame,
  trivial,
  Cert.KernelIdeal.Att.agree,
  trivial,
  Cert.Kernel2Ideal.Up.agree,
  trivial,
  Cert.Kernel3Ideal.Down.agree,
  trivial,
  Cert.Kernel4Ideal.OutProj.agree,
  trivial,
  Cert.Kernel5Ideal.Fourier.agree,
  trivial,
  Cert.Kernel6Ideal.Qkv.agree,
  trivial,
  Cert.Kernel7Ideal.Norm.agree,
  trivial,
  Cert.Kernel8Ideal.UpKv.agree,
  trivial,
  Cert.Kernel9Ideal.OddIn.agree,
  trivial,
  Cert.Kernel10Ideal.UpQ.agree,
  trivial,
  Cert.Kernel11Ideal.UpCtx.agree,
  trivial,
  Cert.Kernel12Ideal.DownCtx.agree,
  trivial,
  Cert.Kernel13Ideal.OutProjCtx.agree,
  trivial,
  Cert.Kernel14Ideal.QkvCtx.agree⟩

end Cert.Proof

end
